-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_attn_finite [hPre_attn_finite : Cert.Pre_attn_finite.Facts] (m : (ℓ : Loc Cert.AttnIdeal.nD Cert.AttnIdeal.τ Cert.AttnIdeal.sig) → Buf (Elt Ideal) ℓ) : Prop :=
  ∀ c : Dev Cert.AttnIdeal.nD,
    (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7)) (m ((c.tc : Thread Cert.AttnIdeal.nD Cert.AttnIdeal.τ).loc Cert.AttnIdeal.main_arg8))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_attn_finite [hPre_attn_finite : Cert.Pre_attn_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6)) (m ((c.tc : Thread Cert.AttnRefIdeal.nD Cert.AttnRefIdeal.τ).loc Cert.AttnRefIdeal.main_arg7)) (m ((c.tc : Thread Cert.AttnRefIdeal.nD Cert.AttnRefIdeal.τ).loc Cert.AttnRefIdeal.main_arg8))) = (fun _ => 1#1)

def Pre_MemKv (m : (ℓ : Loc Cert.MemKv.nD Cert.MemKv.τ Cert.MemKv.sig) → Buf (Elt Bits) ℓ) : Prop :=
  True

def Pre_MemKvIdeal (m : (ℓ : Loc Cert.MemKvIdeal.nD Cert.MemKvIdeal.τ Cert.MemKvIdeal.sig) → Buf (Elt Ideal) ℓ) : Prop :=
  True

def Pre_MemKvRefIdeal (m : (ℓ : Loc Cert.MemKvRefIdeal.nD Cert.MemKvRefIdeal.τ Cert.MemKvRefIdeal.sig) → Buf (Elt Ideal) ℓ) : Prop :=
  True

def Pre_OutCross (m : (ℓ : Loc Cert.OutCross.nD Cert.OutCross.τ Cert.OutCross.sig) → Buf (Elt Bits) ℓ) : Prop :=
  True

def Pre_OutCrossIdeal (m : (ℓ : Loc Cert.OutCrossIdeal.nD Cert.OutCrossIdeal.τ Cert.OutCrossIdeal.sig) → Buf (Elt Ideal) ℓ) : Prop :=
  True

def Pre_OutCrossRefIdeal (m : (ℓ : Loc Cert.OutCrossRefIdeal.nD Cert.OutCrossRefIdeal.τ Cert.OutCrossRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_Gla (m : (ℓ : Loc Cert.Gla.nD Cert.Gla.τ Cert.Gla.sig) → Buf (Elt Bits) ℓ) : Prop :=
  True

def Pre_GlaIdeal (m : (ℓ : Loc Cert.GlaIdeal.nD Cert.GlaIdeal.τ Cert.GlaIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4)
      ∧ r.2.mem ((c.tc : Thread Cert.Attn.nD Cert.Attn.τ).loc Cert.Attn.main_arg5) = m ((c.tc : Thread Cert.Attn.nD Cert.Attn.τ).loc Cert.Attn.main_arg5)
      ∧ r.2.mem ((c.tc : Thread Cert.Attn.nD Cert.Attn.τ).loc Cert.Attn.main_arg6) = m ((c.tc : Thread Cert.Attn.nD Cert.Attn.τ).loc Cert.Attn.main_arg6)
      ∧ r.2.mem ((c.tc : Thread Cert.Attn.nD Cert.Attn.τ).loc Cert.Attn.main_arg7) = m ((c.tc : Thread Cert.Attn.nD Cert.Attn.τ).loc Cert.Attn.main_arg7)
      ∧ r.2.mem ((c.tc : Thread Cert.Attn.nD Cert.Attn.τ).loc Cert.Attn.main_arg8) = m ((c.tc : Thread Cert.Attn.nD Cert.Attn.τ).loc Cert.Attn.main_arg8))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
      ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7)
      ∧ r.2.mem ((c.tc : Thread Cert.AttnIdeal.nD Cert.AttnIdeal.τ).loc Cert.AttnIdeal.main_arg8) = m ((c.tc : Thread Cert.AttnIdeal.nD Cert.AttnIdeal.τ).loc Cert.AttnIdeal.main_arg8))
      ∧ r.2.sem = fun _ => 0)

def quiescent_AttnIdeal_pre_attn_finite [hAttnIdeal : Cert.AttnIdeal.Facts] [hPre_attn_finite : Cert.Pre_attn_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_attn_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
      ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7)
      ∧ r.2.mem ((c.tc : Thread Cert.AttnIdeal.nD Cert.AttnIdeal.τ).loc Cert.AttnIdeal.main_arg8) = m ((c.tc : Thread Cert.AttnIdeal.nD Cert.AttnIdeal.τ).loc Cert.AttnIdeal.main_arg8))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5)
      ∧ r.2.mem ((c.tc : Thread Cert.AttnRefIdeal.nD Cert.AttnRefIdeal.τ).loc Cert.AttnRefIdeal.main_arg6) = m ((c.tc : Thread Cert.AttnRefIdeal.nD Cert.AttnRefIdeal.τ).loc Cert.AttnRefIdeal.main_arg6)
      ∧ r.2.mem ((c.tc : Thread Cert.AttnRefIdeal.nD Cert.AttnRefIdeal.τ).loc Cert.AttnRefIdeal.main_arg7) = m ((c.tc : Thread Cert.AttnRefIdeal.nD Cert.AttnRefIdeal.τ).loc Cert.AttnRefIdeal.main_arg7)
      ∧ r.2.mem ((c.tc : Thread Cert.AttnRefIdeal.nD Cert.AttnRefIdeal.τ).loc Cert.AttnRefIdeal.main_arg8) = m ((c.tc : Thread Cert.AttnRefIdeal.nD Cert.AttnRefIdeal.τ).loc Cert.AttnRefIdeal.main_arg8))
      ∧ r.2.sem = fun _ => 0)

def quiescent_AttnRefIdeal_pre_attn_finite [hAttnRefIdeal : Cert.AttnRefIdeal.Facts] [hPre_attn_finite : Cert.Pre_attn_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_attn_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5)
      ∧ r.2.mem ((c.tc : Thread Cert.AttnRefIdeal.nD Cert.AttnRefIdeal.τ).loc Cert.AttnRefIdeal.main_arg6) = m ((c.tc : Thread Cert.AttnRefIdeal.nD Cert.AttnRefIdeal.τ).loc Cert.AttnRefIdeal.main_arg6)
      ∧ r.2.mem ((c.tc : Thread Cert.AttnRefIdeal.nD Cert.AttnRefIdeal.τ).loc Cert.AttnRefIdeal.main_arg7) = m ((c.tc : Thread Cert.AttnRefIdeal.nD Cert.AttnRefIdeal.τ).loc Cert.AttnRefIdeal.main_arg7)
      ∧ r.2.mem ((c.tc : Thread Cert.AttnRefIdeal.nD Cert.AttnRefIdeal.τ).loc Cert.AttnRefIdeal.main_arg8) = m ((c.tc : Thread Cert.AttnRefIdeal.nD Cert.AttnRefIdeal.τ).loc Cert.AttnRefIdeal.main_arg8))
      ∧ r.2.sem = fun _ => 0)

def quiescent_MemKv [hMemKv : Cert.MemKv.Facts] : Prop :=
  ∀ (m : (ℓ : Loc Cert.MemKv.nD Cert.MemKv.τ Cert.MemKv.sig) → Buf (Elt Bits) ℓ) (g : Dev Cert.MemKv.nD → PrngReg), Pre_MemKv m →
    θ_run (Cert.MemKv.defs (F := Bits)) (onTc (τ := Cert.MemKv.τ) (Cert.MemKv.main (F := Bits))) ⟨m, fun _ => 0, g⟩ (fun r => (∀ c : Dev Cert.MemKv.nD,
      r.2.mem ((c.tc : Thread Cert.MemKv.nD Cert.MemKv.τ).loc Cert.MemKv.main_arg0) = m ((c.tc : Thread Cert.MemKv.nD Cert.MemKv.τ).loc Cert.MemKv.main_arg0)
      ∧ r.2.mem ((c.tc : Thread Cert.MemKv.nD Cert.MemKv.τ).loc Cert.MemKv.main_arg1) = m ((c.tc : Thread Cert.MemKv.nD Cert.MemKv.τ).loc Cert.MemKv.main_arg1)
      ∧ r.2.mem ((c.tc : Thread Cert.MemKv.nD Cert.MemKv.τ).loc Cert.MemKv.main_arg2) = m ((c.tc : Thread Cert.MemKv.nD Cert.MemKv.τ).loc Cert.MemKv.main_arg2))
      ∧ r.2.sem = fun _ => 0)

def quiescent_MemKvIdeal [hMemKvIdeal : Cert.MemKvIdeal.Facts] : Prop :=
  ∀ (m : (ℓ : Loc Cert.MemKvIdeal.nD Cert.MemKvIdeal.τ Cert.MemKvIdeal.sig) → Buf (Elt Ideal) ℓ) (g : Dev Cert.MemKvIdeal.nD → PrngReg), Pre_MemKvIdeal m →
    θ_run (Cert.MemKvIdeal.defs (F := Ideal)) (onTc (τ := Cert.MemKvIdeal.τ) (Cert.MemKvIdeal.main (F := Ideal))) ⟨m, fun _ => 0, g⟩ (fun r => (∀ c : Dev Cert.MemKvIdeal.nD,
      r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
      ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
      ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2))
      ∧ r.2.sem = fun _ => 0)

def quiescent_MemKvRefIdeal [hMemKvRefIdeal : Cert.MemKvRefIdeal.Facts] : Prop :=
  ∀ (m : (ℓ : Loc Cert.MemKvRefIdeal.nD Cert.MemKvRefIdeal.τ Cert.MemKvRefIdeal.sig) → Buf (Elt Ideal) ℓ) (g : Dev Cert.MemKvRefIdeal.nD → PrngReg), Pre_MemKvRefIdeal m →
    θ_run (Cert.MemKvRefIdeal.defs (F := Ideal)) (onTc (τ := Cert.MemKvRefIdeal.τ) (Cert.MemKvRefIdeal.main (F := Ideal))) ⟨m, fun _ => 0, g⟩ (fun r => (∀ c : Dev Cert.MemKvRefIdeal.nD,
      r.2.mem ((c.tc : Thread Cert.MemKvRefIdeal.nD Cert.MemKvRefIdeal.τ).loc Cert.MemKvRefIdeal.main_arg0) = m ((c.tc : Thread Cert.MemKvRefIdeal.nD Cert.MemKvRefIdeal.τ).loc Cert.MemKvRefIdeal.main_arg0)
      ∧ r.2.mem ((c.tc : Thread Cert.MemKvRefIdeal.nD Cert.MemKvRefIdeal.τ).loc Cert.MemKvRefIdeal.main_arg1) = m ((c.tc : Thread Cert.MemKvRefIdeal.nD Cert.MemKvRefIdeal.τ).loc Cert.MemKvRefIdeal.main_arg1)
      ∧ r.2.mem ((c.tc : Thread Cert.MemKvRefIdeal.nD Cert.MemKvRefIdeal.τ).loc Cert.MemKvRefIdeal.main_arg2) = m ((c.tc : Thread Cert.MemKvRefIdeal.nD Cert.MemKvRefIdeal.τ).loc Cert.MemKvRefIdeal.main_arg2))
      ∧ r.2.sem = fun _ => 0)

def quiescent_OutCross [hOutCross : Cert.OutCross.Facts] : Prop :=
  ∀ (m : (ℓ : Loc Cert.OutCross.nD Cert.OutCross.τ Cert.OutCross.sig) → Buf (Elt Bits) ℓ) (g : Dev Cert.OutCross.nD → PrngReg), Pre_OutCross m →
    θ_run (Cert.OutCross.defs (F := Bits)) (onTc (τ := Cert.OutCross.τ) (Cert.OutCross.main (F := Bits))) ⟨m, fun _ => 0, g⟩ (fun r => (∀ c : Dev Cert.OutCross.nD,
      r.2.mem ((c.tc : Thread Cert.OutCross.nD Cert.OutCross.τ).loc Cert.OutCross.main_arg0) = m ((c.tc : Thread Cert.OutCross.nD Cert.OutCross.τ).loc Cert.OutCross.main_arg0)
      ∧ r.2.mem ((c.tc : Thread Cert.OutCross.nD Cert.OutCross.τ).loc Cert.OutCross.main_arg1) = m ((c.tc : Thread Cert.OutCross.nD Cert.OutCross.τ).loc Cert.OutCross.main_arg1)
      ∧ r.2.mem ((c.tc : Thread Cert.OutCross.nD Cert.OutCross.τ).loc Cert.OutCross.main_arg2) = m ((c.tc : Thread Cert.OutCross.nD Cert.OutCross.τ).loc Cert.OutCross.main_arg2)
      ∧ r.2.mem ((c.tc : Thread Cert.OutCross.nD Cert.OutCross.τ).loc Cert.OutCross.main_arg3) = m ((c.tc : Thread Cert.OutCross.nD Cert.OutCross.τ).loc Cert.OutCross.main_arg3)
      ∧ r.2.mem ((c.tc : Thread Cert.OutCross.nD Cert.OutCross.τ).loc Cert.OutCross.main_arg4) = m ((c.tc : Thread Cert.OutCross.nD Cert.OutCross.τ).loc Cert.OutCross.main_arg4)
      ∧ r.2.mem ((c.tc : Thread Cert.OutCross.nD Cert.OutCross.τ).loc Cert.OutCross.main_arg5) = m ((c.tc : Thread Cert.OutCross.nD Cert.OutCross.τ).loc Cert.OutCross.main_arg5)
      ∧ r.2.mem ((c.tc : Thread Cert.OutCross.nD Cert.OutCross.τ).loc Cert.OutCross.main_arg6) = m ((c.tc : Thread Cert.OutCross.nD Cert.OutCross.τ).loc Cert.OutCross.main_arg6)
      ∧ r.2.mem ((c.tc : Thread Cert.OutCross.nD Cert.OutCross.τ).loc Cert.OutCross.main_arg7) = m ((c.tc : Thread Cert.OutCross.nD Cert.OutCross.τ).loc Cert.OutCross.main_arg7)
      ∧ r.2.mem ((c.tc : Thread Cert.OutCross.nD Cert.OutCross.τ).loc Cert.OutCross.main_arg8) = m ((c.tc : Thread Cert.OutCross.nD Cert.OutCross.τ).loc Cert.OutCross.main_arg8)
      ∧ r.2.mem ((c.tc : Thread Cert.OutCross.nD Cert.OutCross.τ).loc Cert.OutCross.main_arg9) = m ((c.tc : Thread Cert.OutCross.nD Cert.OutCross.τ).loc Cert.OutCross.main_arg9))
      ∧ r.2.sem = fun _ => 0)

def quiescent_OutCrossIdeal [hOutCrossIdeal : Cert.OutCrossIdeal.Facts] : Prop :=
  ∀ (m : (ℓ : Loc Cert.OutCrossIdeal.nD Cert.OutCrossIdeal.τ Cert.OutCrossIdeal.sig) → Buf (Elt Ideal) ℓ) (g : Dev Cert.OutCrossIdeal.nD → PrngReg), Pre_OutCrossIdeal m →
    θ_run (Cert.OutCrossIdeal.defs (F := Ideal)) (onTc (τ := Cert.OutCrossIdeal.τ) (Cert.OutCrossIdeal.main (F := Ideal))) ⟨m, fun _ => 0, g⟩ (fun r => (∀ c : Dev Cert.OutCrossIdeal.nD,
      r.2.mem ((c.tc : Thread Cert.OutCrossIdeal.nD Cert.OutCrossIdeal.τ).loc Cert.OutCrossIdeal.main_arg0) = m ((c.tc : Thread Cert.OutCrossIdeal.nD Cert.OutCrossIdeal.τ).loc Cert.OutCrossIdeal.main_arg0)
      ∧ r.2.mem ((c.tc : Thread Cert.OutCrossIdeal.nD Cert.OutCrossIdeal.τ).loc Cert.OutCrossIdeal.main_arg1) = m ((c.tc : Thread Cert.OutCrossIdeal.nD Cert.OutCrossIdeal.τ).loc Cert.OutCrossIdeal.main_arg1)
      ∧ r.2.mem ((c.tc : Thread Cert.OutCrossIdeal.nD Cert.OutCrossIdeal.τ).loc Cert.OutCrossIdeal.main_arg2) = m ((c.tc : Thread Cert.OutCrossIdeal.nD Cert.OutCrossIdeal.τ).loc Cert.OutCrossIdeal.main_arg2)
      ∧ r.2.mem ((c.tc : Thread Cert.OutCrossIdeal.nD Cert.OutCrossIdeal.τ).loc Cert.OutCrossIdeal.main_arg3) = m ((c.tc : Thread Cert.OutCrossIdeal.nD Cert.OutCrossIdeal.τ).loc Cert.OutCrossIdeal.main_arg3)
      ∧ r.2.mem ((c.tc : Thread Cert.OutCrossIdeal.nD Cert.OutCrossIdeal.τ).loc Cert.OutCrossIdeal.main_arg4) = m ((c.tc : Thread Cert.OutCrossIdeal.nD Cert.OutCrossIdeal.τ).loc Cert.OutCrossIdeal.main_arg4)
      ∧ r.2.mem ((c.tc : Thread Cert.OutCrossIdeal.nD Cert.OutCrossIdeal.τ).loc Cert.OutCrossIdeal.main_arg5) = m ((c.tc : Thread Cert.OutCrossIdeal.nD Cert.OutCrossIdeal.τ).loc Cert.OutCrossIdeal.main_arg5)
      ∧ r.2.mem ((c.tc : Thread Cert.OutCrossIdeal.nD Cert.OutCrossIdeal.τ).loc Cert.OutCrossIdeal.main_arg6) = m ((c.tc : Thread Cert.OutCrossIdeal.nD Cert.OutCrossIdeal.τ).loc Cert.OutCrossIdeal.main_arg6)
      ∧ r.2.mem ((c.tc : Thread Cert.OutCrossIdeal.nD Cert.OutCrossIdeal.τ).loc Cert.OutCrossIdeal.main_arg7) = m ((c.tc : Thread Cert.OutCrossIdeal.nD Cert.OutCrossIdeal.τ).loc Cert.OutCrossIdeal.main_arg7)
      ∧ r.2.mem ((c.tc : Thread Cert.OutCrossIdeal.nD Cert.OutCrossIdeal.τ).loc Cert.OutCrossIdeal.main_arg8) = m ((c.tc : Thread Cert.OutCrossIdeal.nD Cert.OutCrossIdeal.τ).loc Cert.OutCrossIdeal.main_arg8)
      ∧ r.2.mem ((c.tc : Thread Cert.OutCrossIdeal.nD Cert.OutCrossIdeal.τ).loc Cert.OutCrossIdeal.main_arg9) = m ((c.tc : Thread Cert.OutCrossIdeal.nD Cert.OutCrossIdeal.τ).loc Cert.OutCrossIdeal.main_arg9))
      ∧ r.2.sem = fun _ => 0)

def quiescent_OutCrossRefIdeal [hOutCrossRefIdeal : Cert.OutCrossRefIdeal.Facts] : Prop :=
  ∀ (m : (ℓ : Loc Cert.OutCrossRefIdeal.nD Cert.OutCrossRefIdeal.τ Cert.OutCrossRefIdeal.sig) → Buf (Elt Ideal) ℓ) (g : Dev Cert.OutCrossRefIdeal.nD → PrngReg), Pre_OutCrossRefIdeal m →
    θ_run (Cert.OutCrossRefIdeal.defs (F := Ideal)) (onTc (τ := Cert.OutCrossRefIdeal.τ) (Cert.OutCrossRefIdeal.main (F := Ideal))) ⟨m, fun _ => 0, g⟩ (fun r => (∀ c : Dev Cert.OutCrossRefIdeal.nD,
      r.2.mem ((c.tc : Thread Cert.OutCrossRefIdeal.nD Cert.OutCrossRefIdeal.τ).loc Cert.OutCrossRefIdeal.main_arg0) = m ((c.tc : Thread Cert.OutCrossRefIdeal.nD Cert.OutCrossRefIdeal.τ).loc Cert.OutCrossRefIdeal.main_arg0)
      ∧ r.2.mem ((c.tc : Thread Cert.OutCrossRefIdeal.nD Cert.OutCrossRefIdeal.τ).loc Cert.OutCrossRefIdeal.main_arg1) = m ((c.tc : Thread Cert.OutCrossRefIdeal.nD Cert.OutCrossRefIdeal.τ).loc Cert.OutCrossRefIdeal.main_arg1)
      ∧ r.2.mem ((c.tc : Thread Cert.OutCrossRefIdeal.nD Cert.OutCrossRefIdeal.τ).loc Cert.OutCrossRefIdeal.main_arg2) = m ((c.tc : Thread Cert.OutCrossRefIdeal.nD Cert.OutCrossRefIdeal.τ).loc Cert.OutCrossRefIdeal.main_arg2)
      ∧ r.2.mem ((c.tc : Thread Cert.OutCrossRefIdeal.nD Cert.OutCrossRefIdeal.τ).loc Cert.OutCrossRefIdeal.main_arg3) = m ((c.tc : Thread Cert.OutCrossRefIdeal.nD Cert.OutCrossRefIdeal.τ).loc Cert.OutCrossRefIdeal.main_arg3)
      ∧ r.2.mem ((c.tc : Thread Cert.OutCrossRefIdeal.nD Cert.OutCrossRefIdeal.τ).loc Cert.OutCrossRefIdeal.main_arg4) = m ((c.tc : Thread Cert.OutCrossRefIdeal.nD Cert.OutCrossRefIdeal.τ).loc Cert.OutCrossRefIdeal.main_arg4)
      ∧ r.2.mem ((c.tc : Thread Cert.OutCrossRefIdeal.nD Cert.OutCrossRefIdeal.τ).loc Cert.OutCrossRefIdeal.main_arg5) = m ((c.tc : Thread Cert.OutCrossRefIdeal.nD Cert.OutCrossRefIdeal.τ).loc Cert.OutCrossRefIdeal.main_arg5)
      ∧ r.2.mem ((c.tc : Thread Cert.OutCrossRefIdeal.nD Cert.OutCrossRefIdeal.τ).loc Cert.OutCrossRefIdeal.main_arg6) = m ((c.tc : Thread Cert.OutCrossRefIdeal.nD Cert.OutCrossRefIdeal.τ).loc Cert.OutCrossRefIdeal.main_arg6)
      ∧ r.2.mem ((c.tc : Thread Cert.OutCrossRefIdeal.nD Cert.OutCrossRefIdeal.τ).loc Cert.OutCrossRefIdeal.main_arg7) = m ((c.tc : Thread Cert.OutCrossRefIdeal.nD Cert.OutCrossRefIdeal.τ).loc Cert.OutCrossRefIdeal.main_arg7)
      ∧ r.2.mem ((c.tc : Thread Cert.OutCrossRefIdeal.nD Cert.OutCrossRefIdeal.τ).loc Cert.OutCrossRefIdeal.main_arg8) = m ((c.tc : Thread Cert.OutCrossRefIdeal.nD Cert.OutCrossRefIdeal.τ).loc Cert.OutCrossRefIdeal.main_arg8)
      ∧ r.2.mem ((c.tc : Thread Cert.OutCrossRefIdeal.nD Cert.OutCrossRefIdeal.τ).loc Cert.OutCrossRefIdeal.main_arg9) = m ((c.tc : Thread Cert.OutCrossRefIdeal.nD Cert.OutCrossRefIdeal.τ).loc Cert.OutCrossRefIdeal.main_arg9))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3)
      ∧ r.2.mem ((c.tc : Thread Cert.InProj.nD Cert.InProj.τ).loc Cert.InProj.main_arg4) = m ((c.tc : Thread Cert.InProj.nD Cert.InProj.τ).loc Cert.InProj.main_arg4)
      ∧ r.2.mem ((c.tc : Thread Cert.InProj.nD Cert.InProj.τ).loc Cert.InProj.main_arg5) = m ((c.tc : Thread Cert.InProj.nD Cert.InProj.τ).loc Cert.InProj.main_arg5))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
      ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3)
      ∧ r.2.mem ((c.tc : Thread Cert.InProjRefIdeal.nD Cert.InProjRefIdeal.τ).loc Cert.InProjRefIdeal.main_arg4) = m ((c.tc : Thread Cert.InProjRefIdeal.nD Cert.InProjRefIdeal.τ).loc Cert.InProjRefIdeal.main_arg4)
      ∧ r.2.mem ((c.tc : Thread Cert.InProjRefIdeal.nD Cert.InProjRefIdeal.τ).loc Cert.InProjRefIdeal.main_arg5) = m ((c.tc : Thread Cert.InProjRefIdeal.nD Cert.InProjRefIdeal.τ).loc Cert.InProjRefIdeal.main_arg5))
      ∧ r.2.sem = fun _ => 0)

def quiescent_Gla [hGla : Cert.Gla.Facts] : Prop :=
  ∀ (m : (ℓ : Loc Cert.Gla.nD Cert.Gla.τ Cert.Gla.sig) → Buf (Elt Bits) ℓ) (g : Dev Cert.Gla.nD → PrngReg), Pre_Gla m →
    θ_run (Cert.Gla.defs (F := Bits)) (onTc (τ := Cert.Gla.τ) (Cert.Gla.main (F := Bits))) ⟨m, fun _ => 0, g⟩ (fun r => (∀ c : Dev Cert.Gla.nD,
      r.2.mem ((c.tc : Thread Cert.Gla.nD Cert.Gla.τ).loc Cert.Gla.main_arg0) = m ((c.tc : Thread Cert.Gla.nD Cert.Gla.τ).loc Cert.Gla.main_arg0)
      ∧ r.2.mem ((c.tc : Thread Cert.Gla.nD Cert.Gla.τ).loc Cert.Gla.main_arg1) = m ((c.tc : Thread Cert.Gla.nD Cert.Gla.τ).loc Cert.Gla.main_arg1)
      ∧ r.2.mem ((c.tc : Thread Cert.Gla.nD Cert.Gla.τ).loc Cert.Gla.main_arg2) = m ((c.tc : Thread Cert.Gla.nD Cert.Gla.τ).loc Cert.Gla.main_arg2)
      ∧ r.2.mem ((c.tc : Thread Cert.Gla.nD Cert.Gla.τ).loc Cert.Gla.main_arg3) = m ((c.tc : Thread Cert.Gla.nD Cert.Gla.τ).loc Cert.Gla.main_arg3)
      ∧ r.2.mem ((c.tc : Thread Cert.Gla.nD Cert.Gla.τ).loc Cert.Gla.main_arg4) = m ((c.tc : Thread Cert.Gla.nD Cert.Gla.τ).loc Cert.Gla.main_arg4)
      ∧ r.2.mem ((c.tc : Thread Cert.Gla.nD Cert.Gla.τ).loc Cert.Gla.main_arg5) = m ((c.tc : Thread Cert.Gla.nD Cert.Gla.τ).loc Cert.Gla.main_arg5))
      ∧ r.2.sem = fun _ => 0)

def quiescent_GlaIdeal [hGlaIdeal : Cert.GlaIdeal.Facts] : Prop :=
  ∀ (m : (ℓ : Loc Cert.GlaIdeal.nD Cert.GlaIdeal.τ Cert.GlaIdeal.sig) → Buf (Elt Ideal) ℓ) (g : Dev Cert.GlaIdeal.nD → PrngReg), Pre_GlaIdeal m →
    θ_run (Cert.GlaIdeal.defs (F := Ideal)) (onTc (τ := Cert.GlaIdeal.τ) (Cert.GlaIdeal.main (F := Ideal))) ⟨m, fun _ => 0, g⟩ (fun r => (∀ c : Dev Cert.GlaIdeal.nD,
      r.2.mem ((c.tc : Thread Cert.GlaIdeal.nD Cert.GlaIdeal.τ).loc Cert.GlaIdeal.main_arg0) = m ((c.tc : Thread Cert.GlaIdeal.nD Cert.GlaIdeal.τ).loc Cert.GlaIdeal.main_arg0)
      ∧ r.2.mem ((c.tc : Thread Cert.GlaIdeal.nD Cert.GlaIdeal.τ).loc Cert.GlaIdeal.main_arg1) = m ((c.tc : Thread Cert.GlaIdeal.nD Cert.GlaIdeal.τ).loc Cert.GlaIdeal.main_arg1)
      ∧ r.2.mem ((c.tc : Thread Cert.GlaIdeal.nD Cert.GlaIdeal.τ).loc Cert.GlaIdeal.main_arg2) = m ((c.tc : Thread Cert.GlaIdeal.nD Cert.GlaIdeal.τ).loc Cert.GlaIdeal.main_arg2)
      ∧ r.2.mem ((c.tc : Thread Cert.GlaIdeal.nD Cert.GlaIdeal.τ).loc Cert.GlaIdeal.main_arg3) = m ((c.tc : Thread Cert.GlaIdeal.nD Cert.GlaIdeal.τ).loc Cert.GlaIdeal.main_arg3)
      ∧ r.2.mem ((c.tc : Thread Cert.GlaIdeal.nD Cert.GlaIdeal.τ).loc Cert.GlaIdeal.main_arg4) = m ((c.tc : Thread Cert.GlaIdeal.nD Cert.GlaIdeal.τ).loc Cert.GlaIdeal.main_arg4)
      ∧ r.2.mem ((c.tc : Thread Cert.GlaIdeal.nD Cert.GlaIdeal.τ).loc Cert.GlaIdeal.main_arg5) = m ((c.tc : Thread Cert.GlaIdeal.nD Cert.GlaIdeal.τ).loc Cert.GlaIdeal.main_arg5))
      ∧ r.2.sem = fun _ => 0)

def preserves_Attn_AttnIdeal : Prop :=
  True

def algebraic_AttnIdeal_AttnRefIdeal_pre_attn_finite [hAttnIdeal : Cert.AttnIdeal.Facts] [hAttnRefIdeal : Cert.AttnRefIdeal.Facts] [hPre_attn_finite : Cert.Pre_attn_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_attn_finite m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)
      ∧ m' ((c.tc : Thread Cert.AttnRefIdeal.nD Cert.AttnRefIdeal.τ).loc Cert.AttnRefIdeal.main_arg5) = m ((c.tc : Thread Cert.AttnIdeal.nD Cert.AttnIdeal.τ).loc Cert.AttnIdeal.main_arg5)
      ∧ m' ((c.tc : Thread Cert.AttnRefIdeal.nD Cert.AttnRefIdeal.τ).loc Cert.AttnRefIdeal.main_arg6) = m ((c.tc : Thread Cert.AttnIdeal.nD Cert.AttnIdeal.τ).loc Cert.AttnIdeal.main_arg6)
      ∧ m' ((c.tc : Thread Cert.AttnRefIdeal.nD Cert.AttnRefIdeal.τ).loc Cert.AttnRefIdeal.main_arg7) = m ((c.tc : Thread Cert.AttnIdeal.nD Cert.AttnIdeal.τ).loc Cert.AttnIdeal.main_arg7)
      ∧ m' ((c.tc : Thread Cert.AttnRefIdeal.nD Cert.AttnRefIdeal.τ).loc Cert.AttnRefIdeal.main_arg8) = m ((c.tc : Thread Cert.AttnIdeal.nD Cert.AttnIdeal.τ).loc Cert.AttnIdeal.main_arg8)) →
    ∃ (v0 : (c : Dev Cert.AttnIdeal.nD) → Buf (Elt Ideal) ((c.tc : Thread Cert.AttnIdeal.nD Cert.AttnIdeal.τ).loc Cert.AttnIdeal.main_v11)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v11) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
          ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
          ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
          ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7)
          ∧ r.2.mem ((c.tc : Thread Cert.AttnIdeal.nD Cert.AttnIdeal.τ).loc Cert.AttnIdeal.main_arg8) = m ((c.tc : Thread Cert.AttnIdeal.nD Cert.AttnIdeal.τ).loc Cert.AttnIdeal.main_arg8))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v70) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4)
          ∧ r.2.mem ((c.tc : Thread Cert.AttnRefIdeal.nD Cert.AttnRefIdeal.τ).loc Cert.AttnRefIdeal.main_arg5) = m' ((c.tc : Thread Cert.AttnRefIdeal.nD Cert.AttnRefIdeal.τ).loc Cert.AttnRefIdeal.main_arg5)
          ∧ r.2.mem ((c.tc : Thread Cert.AttnRefIdeal.nD Cert.AttnRefIdeal.τ).loc Cert.AttnRefIdeal.main_arg6) = m' ((c.tc : Thread Cert.AttnRefIdeal.nD Cert.AttnRefIdeal.τ).loc Cert.AttnRefIdeal.main_arg6)
          ∧ r.2.mem ((c.tc : Thread Cert.AttnRefIdeal.nD Cert.AttnRefIdeal.τ).loc Cert.AttnRefIdeal.main_arg7) = m' ((c.tc : Thread Cert.AttnRefIdeal.nD Cert.AttnRefIdeal.τ).loc Cert.AttnRefIdeal.main_arg7)
          ∧ r.2.mem ((c.tc : Thread Cert.AttnRefIdeal.nD Cert.AttnRefIdeal.τ).loc Cert.AttnRefIdeal.main_arg8) = m' ((c.tc : Thread Cert.AttnRefIdeal.nD Cert.AttnRefIdeal.τ).loc Cert.AttnRefIdeal.main_arg8))

def preserves_MemKv_MemKvIdeal : Prop :=
  True

def algebraic_MemKvIdeal_MemKvRefIdeal [hMemKvIdeal : Cert.MemKvIdeal.Facts] [hMemKvRefIdeal : Cert.MemKvRefIdeal.Facts] : Prop :=
  ∀ (m : (ℓ : Loc Cert.MemKvIdeal.nD Cert.MemKvIdeal.τ Cert.MemKvIdeal.sig) → Buf (Elt Ideal) ℓ) (g : Dev Cert.MemKvIdeal.nD → PrngReg)
    (m' : (ℓ : Loc Cert.MemKvRefIdeal.nD Cert.MemKvRefIdeal.τ Cert.MemKvRefIdeal.sig) → Buf (Elt Ideal) ℓ) (g' : Dev Cert.MemKvRefIdeal.nD → PrngReg), Pre_MemKvIdeal m →
    (∀ c : Dev Cert.MemKvIdeal.nD,
      m' ((c.tc : Thread Cert.MemKvRefIdeal.nD Cert.MemKvRefIdeal.τ).loc Cert.MemKvRefIdeal.main_arg0) = m ((c.tc : Thread Cert.MemKvIdeal.nD Cert.MemKvIdeal.τ).loc Cert.MemKvIdeal.main_arg0)
      ∧ m' ((c.tc : Thread Cert.MemKvRefIdeal.nD Cert.MemKvRefIdeal.τ).loc Cert.MemKvRefIdeal.main_arg1) = m ((c.tc : Thread Cert.MemKvIdeal.nD Cert.MemKvIdeal.τ).loc Cert.MemKvIdeal.main_arg1)
      ∧ m' ((c.tc : Thread Cert.MemKvRefIdeal.nD Cert.MemKvRefIdeal.τ).loc Cert.MemKvRefIdeal.main_arg2) = m ((c.tc : Thread Cert.MemKvIdeal.nD Cert.MemKvIdeal.τ).loc Cert.MemKvIdeal.main_arg2)) →
    ∃ (v0 : (c : Dev Cert.MemKvIdeal.nD) → Buf (Elt Ideal) ((c.tc : Thread Cert.MemKvIdeal.nD Cert.MemKvIdeal.τ).loc Cert.MemKvIdeal.main_v5_0)) (v1 : (c : Dev Cert.MemKvIdeal.nD) → Buf (Elt Ideal) ((c.tc : Thread Cert.MemKvIdeal.nD Cert.MemKvIdeal.τ).loc Cert.MemKvIdeal.main_v5_1)),
      θ_run (Cert.MemKvIdeal.defs (F := Ideal)) (onTc (τ := Cert.MemKvIdeal.τ) (Cert.MemKvIdeal.main (F := Ideal))) ⟨m, fun _ => 0, g⟩ (fun r => ∀ c : Dev Cert.MemKvIdeal.nD,
          r.2.mem ((c.tc : Thread Cert.MemKvIdeal.nD Cert.MemKvIdeal.τ).loc Cert.MemKvIdeal.main_v5_0) = v0 c
          ∧ r.2.mem ((c.tc : Thread Cert.MemKvIdeal.nD Cert.MemKvIdeal.τ).loc Cert.MemKvIdeal.main_v5_1) = v1 c
          ∧ r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
          ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
          ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2))
      ∧ θ_run (Cert.MemKvRefIdeal.defs (F := Ideal)) (onTc (τ := Cert.MemKvRefIdeal.τ) (Cert.MemKvRefIdeal.main (F := Ideal))) ⟨m', fun _ => 0, g'⟩ (fun r => ∀ c : Dev Cert.MemKvRefIdeal.nD,
          r.2.mem ((c.tc : Thread Cert.MemKvRefIdeal.nD Cert.MemKvRefIdeal.τ).loc Cert.MemKvRefIdeal.main_v20) = v0 c
          ∧ r.2.mem ((c.tc : Thread Cert.MemKvRefIdeal.nD Cert.MemKvRefIdeal.τ).loc Cert.MemKvRefIdeal.main_v21) = v1 c
          ∧ r.2.mem ((c.tc : Thread Cert.MemKvRefIdeal.nD Cert.MemKvRefIdeal.τ).loc Cert.MemKvRefIdeal.main_arg0) = m' ((c.tc : Thread Cert.MemKvRefIdeal.nD Cert.MemKvRefIdeal.τ).loc Cert.MemKvRefIdeal.main_arg0)
          ∧ r.2.mem ((c.tc : Thread Cert.MemKvRefIdeal.nD Cert.MemKvRefIdeal.τ).loc Cert.MemKvRefIdeal.main_arg1) = m' ((c.tc : Thread Cert.MemKvRefIdeal.nD Cert.MemKvRefIdeal.τ).loc Cert.MemKvRefIdeal.main_arg1)
          ∧ r.2.mem ((c.tc : Thread Cert.MemKvRefIdeal.nD Cert.MemKvRefIdeal.τ).loc Cert.MemKvRefIdeal.main_arg2) = m' ((c.tc : Thread Cert.MemKvRefIdeal.nD Cert.MemKvRefIdeal.τ).loc Cert.MemKvRefIdeal.main_arg2))

def preserves_OutCross_OutCrossIdeal : Prop :=
  True

def algebraic_OutCrossIdeal_OutCrossRefIdeal [hOutCrossIdeal : Cert.OutCrossIdeal.Facts] [hOutCrossRefIdeal : Cert.OutCrossRefIdeal.Facts] : Prop :=
  ∀ (m : (ℓ : Loc Cert.OutCrossIdeal.nD Cert.OutCrossIdeal.τ Cert.OutCrossIdeal.sig) → Buf (Elt Ideal) ℓ) (g : Dev Cert.OutCrossIdeal.nD → PrngReg)
    (m' : (ℓ : Loc Cert.OutCrossRefIdeal.nD Cert.OutCrossRefIdeal.τ Cert.OutCrossRefIdeal.sig) → Buf (Elt Ideal) ℓ) (g' : Dev Cert.OutCrossRefIdeal.nD → PrngReg), Pre_OutCrossIdeal m →
    (∀ c : Dev Cert.OutCrossIdeal.nD,
      m' ((c.tc : Thread Cert.OutCrossRefIdeal.nD Cert.OutCrossRefIdeal.τ).loc Cert.OutCrossRefIdeal.main_arg0) = m ((c.tc : Thread Cert.OutCrossIdeal.nD Cert.OutCrossIdeal.τ).loc Cert.OutCrossIdeal.main_arg0)
      ∧ m' ((c.tc : Thread Cert.OutCrossRefIdeal.nD Cert.OutCrossRefIdeal.τ).loc Cert.OutCrossRefIdeal.main_arg1) = m ((c.tc : Thread Cert.OutCrossIdeal.nD Cert.OutCrossIdeal.τ).loc Cert.OutCrossIdeal.main_arg1)
      ∧ m' ((c.tc : Thread Cert.OutCrossRefIdeal.nD Cert.OutCrossRefIdeal.τ).loc Cert.OutCrossRefIdeal.main_arg2) = m ((c.tc : Thread Cert.OutCrossIdeal.nD Cert.OutCrossIdeal.τ).loc Cert.OutCrossIdeal.main_arg2)
      ∧ m' ((c.tc : Thread Cert.OutCrossRefIdeal.nD Cert.OutCrossRefIdeal.τ).loc Cert.OutCrossRefIdeal.main_arg3) = m ((c.tc : Thread Cert.OutCrossIdeal.nD Cert.OutCrossIdeal.τ).loc Cert.OutCrossIdeal.main_arg3)
      ∧ m' ((c.tc : Thread Cert.OutCrossRefIdeal.nD Cert.OutCrossRefIdeal.τ).loc Cert.OutCrossRefIdeal.main_arg4) = m ((c.tc : Thread Cert.OutCrossIdeal.nD Cert.OutCrossIdeal.τ).loc Cert.OutCrossIdeal.main_arg4)
      ∧ m' ((c.tc : Thread Cert.OutCrossRefIdeal.nD Cert.OutCrossRefIdeal.τ).loc Cert.OutCrossRefIdeal.main_arg5) = m ((c.tc : Thread Cert.OutCrossIdeal.nD Cert.OutCrossIdeal.τ).loc Cert.OutCrossIdeal.main_arg5)
      ∧ m' ((c.tc : Thread Cert.OutCrossRefIdeal.nD Cert.OutCrossRefIdeal.τ).loc Cert.OutCrossRefIdeal.main_arg6) = m ((c.tc : Thread Cert.OutCrossIdeal.nD Cert.OutCrossIdeal.τ).loc Cert.OutCrossIdeal.main_arg6)
      ∧ m' ((c.tc : Thread Cert.OutCrossRefIdeal.nD Cert.OutCrossRefIdeal.τ).loc Cert.OutCrossRefIdeal.main_arg7) = m ((c.tc : Thread Cert.OutCrossIdeal.nD Cert.OutCrossIdeal.τ).loc Cert.OutCrossIdeal.main_arg7)
      ∧ m' ((c.tc : Thread Cert.OutCrossRefIdeal.nD Cert.OutCrossRefIdeal.τ).loc Cert.OutCrossRefIdeal.main_arg8) = m ((c.tc : Thread Cert.OutCrossIdeal.nD Cert.OutCrossIdeal.τ).loc Cert.OutCrossIdeal.main_arg8)
      ∧ m' ((c.tc : Thread Cert.OutCrossRefIdeal.nD Cert.OutCrossRefIdeal.τ).loc Cert.OutCrossRefIdeal.main_arg9) = m ((c.tc : Thread Cert.OutCrossIdeal.nD Cert.OutCrossIdeal.τ).loc Cert.OutCrossIdeal.main_arg9)) →
    ∃ (v0 : (c : Dev Cert.OutCrossIdeal.nD) → Buf (Elt Ideal) ((c.tc : Thread Cert.OutCrossIdeal.nD Cert.OutCrossIdeal.τ).loc Cert.OutCrossIdeal.main_v10)),
      θ_run (Cert.OutCrossIdeal.defs (F := Ideal)) (onTc (τ := Cert.OutCrossIdeal.τ) (Cert.OutCrossIdeal.main (F := Ideal))) ⟨m, fun _ => 0, g⟩ (fun r => ∀ c : Dev Cert.OutCrossIdeal.nD,
          r.2.mem ((c.tc : Thread Cert.OutCrossIdeal.nD Cert.OutCrossIdeal.τ).loc Cert.OutCrossIdeal.main_v10) = v0 c
          ∧ r.2.mem ((c.tc : Thread Cert.OutCrossIdeal.nD Cert.OutCrossIdeal.τ).loc Cert.OutCrossIdeal.main_arg0) = m ((c.tc : Thread Cert.OutCrossIdeal.nD Cert.OutCrossIdeal.τ).loc Cert.OutCrossIdeal.main_arg0)
          ∧ r.2.mem ((c.tc : Thread Cert.OutCrossIdeal.nD Cert.OutCrossIdeal.τ).loc Cert.OutCrossIdeal.main_arg1) = m ((c.tc : Thread Cert.OutCrossIdeal.nD Cert.OutCrossIdeal.τ).loc Cert.OutCrossIdeal.main_arg1)
          ∧ r.2.mem ((c.tc : Thread Cert.OutCrossIdeal.nD Cert.OutCrossIdeal.τ).loc Cert.OutCrossIdeal.main_arg2) = m ((c.tc : Thread Cert.OutCrossIdeal.nD Cert.OutCrossIdeal.τ).loc Cert.OutCrossIdeal.main_arg2)
          ∧ r.2.mem ((c.tc : Thread Cert.OutCrossIdeal.nD Cert.OutCrossIdeal.τ).loc Cert.OutCrossIdeal.main_arg3) = m ((c.tc : Thread Cert.OutCrossIdeal.nD Cert.OutCrossIdeal.τ).loc Cert.OutCrossIdeal.main_arg3)
          ∧ r.2.mem ((c.tc : Thread Cert.OutCrossIdeal.nD Cert.OutCrossIdeal.τ).loc Cert.OutCrossIdeal.main_arg4) = m ((c.tc : Thread Cert.OutCrossIdeal.nD Cert.OutCrossIdeal.τ).loc Cert.OutCrossIdeal.main_arg4)
          ∧ r.2.mem ((c.tc : Thread Cert.OutCrossIdeal.nD Cert.OutCrossIdeal.τ).loc Cert.OutCrossIdeal.main_arg5) = m ((c.tc : Thread Cert.OutCrossIdeal.nD Cert.OutCrossIdeal.τ).loc Cert.OutCrossIdeal.main_arg5)
          ∧ r.2.mem ((c.tc : Thread Cert.OutCrossIdeal.nD Cert.OutCrossIdeal.τ).loc Cert.OutCrossIdeal.main_arg6) = m ((c.tc : Thread Cert.OutCrossIdeal.nD Cert.OutCrossIdeal.τ).loc Cert.OutCrossIdeal.main_arg6)
          ∧ r.2.mem ((c.tc : Thread Cert.OutCrossIdeal.nD Cert.OutCrossIdeal.τ).loc Cert.OutCrossIdeal.main_arg7) = m ((c.tc : Thread Cert.OutCrossIdeal.nD Cert.OutCrossIdeal.τ).loc Cert.OutCrossIdeal.main_arg7)
          ∧ r.2.mem ((c.tc : Thread Cert.OutCrossIdeal.nD Cert.OutCrossIdeal.τ).loc Cert.OutCrossIdeal.main_arg8) = m ((c.tc : Thread Cert.OutCrossIdeal.nD Cert.OutCrossIdeal.τ).loc Cert.OutCrossIdeal.main_arg8)
          ∧ r.2.mem ((c.tc : Thread Cert.OutCrossIdeal.nD Cert.OutCrossIdeal.τ).loc Cert.OutCrossIdeal.main_arg9) = m ((c.tc : Thread Cert.OutCrossIdeal.nD Cert.OutCrossIdeal.τ).loc Cert.OutCrossIdeal.main_arg9))
      ∧ θ_run (Cert.OutCrossRefIdeal.defs (F := Ideal)) (onTc (τ := Cert.OutCrossRefIdeal.τ) (Cert.OutCrossRefIdeal.main (F := Ideal))) ⟨m', fun _ => 0, g'⟩ (fun r => ∀ c : Dev Cert.OutCrossRefIdeal.nD,
          r.2.mem ((c.tc : Thread Cert.OutCrossRefIdeal.nD Cert.OutCrossRefIdeal.τ).loc Cert.OutCrossRefIdeal.main_v62) = v0 c
          ∧ r.2.mem ((c.tc : Thread Cert.OutCrossRefIdeal.nD Cert.OutCrossRefIdeal.τ).loc Cert.OutCrossRefIdeal.main_arg0) = m' ((c.tc : Thread Cert.OutCrossRefIdeal.nD Cert.OutCrossRefIdeal.τ).loc Cert.OutCrossRefIdeal.main_arg0)
          ∧ r.2.mem ((c.tc : Thread Cert.OutCrossRefIdeal.nD Cert.OutCrossRefIdeal.τ).loc Cert.OutCrossRefIdeal.main_arg1) = m' ((c.tc : Thread Cert.OutCrossRefIdeal.nD Cert.OutCrossRefIdeal.τ).loc Cert.OutCrossRefIdeal.main_arg1)
          ∧ r.2.mem ((c.tc : Thread Cert.OutCrossRefIdeal.nD Cert.OutCrossRefIdeal.τ).loc Cert.OutCrossRefIdeal.main_arg2) = m' ((c.tc : Thread Cert.OutCrossRefIdeal.nD Cert.OutCrossRefIdeal.τ).loc Cert.OutCrossRefIdeal.main_arg2)
          ∧ r.2.mem ((c.tc : Thread Cert.OutCrossRefIdeal.nD Cert.OutCrossRefIdeal.τ).loc Cert.OutCrossRefIdeal.main_arg3) = m' ((c.tc : Thread Cert.OutCrossRefIdeal.nD Cert.OutCrossRefIdeal.τ).loc Cert.OutCrossRefIdeal.main_arg3)
          ∧ r.2.mem ((c.tc : Thread Cert.OutCrossRefIdeal.nD Cert.OutCrossRefIdeal.τ).loc Cert.OutCrossRefIdeal.main_arg4) = m' ((c.tc : Thread Cert.OutCrossRefIdeal.nD Cert.OutCrossRefIdeal.τ).loc Cert.OutCrossRefIdeal.main_arg4)
          ∧ r.2.mem ((c.tc : Thread Cert.OutCrossRefIdeal.nD Cert.OutCrossRefIdeal.τ).loc Cert.OutCrossRefIdeal.main_arg5) = m' ((c.tc : Thread Cert.OutCrossRefIdeal.nD Cert.OutCrossRefIdeal.τ).loc Cert.OutCrossRefIdeal.main_arg5)
          ∧ r.2.mem ((c.tc : Thread Cert.OutCrossRefIdeal.nD Cert.OutCrossRefIdeal.τ).loc Cert.OutCrossRefIdeal.main_arg6) = m' ((c.tc : Thread Cert.OutCrossRefIdeal.nD Cert.OutCrossRefIdeal.τ).loc Cert.OutCrossRefIdeal.main_arg6)
          ∧ r.2.mem ((c.tc : Thread Cert.OutCrossRefIdeal.nD Cert.OutCrossRefIdeal.τ).loc Cert.OutCrossRefIdeal.main_arg7) = m' ((c.tc : Thread Cert.OutCrossRefIdeal.nD Cert.OutCrossRefIdeal.τ).loc Cert.OutCrossRefIdeal.main_arg7)
          ∧ r.2.mem ((c.tc : Thread Cert.OutCrossRefIdeal.nD Cert.OutCrossRefIdeal.τ).loc Cert.OutCrossRefIdeal.main_arg8) = m' ((c.tc : Thread Cert.OutCrossRefIdeal.nD Cert.OutCrossRefIdeal.τ).loc Cert.OutCrossRefIdeal.main_arg8)
          ∧ r.2.mem ((c.tc : Thread Cert.OutCrossRefIdeal.nD Cert.OutCrossRefIdeal.τ).loc Cert.OutCrossRefIdeal.main_arg9) = m' ((c.tc : Thread Cert.OutCrossRefIdeal.nD Cert.OutCrossRefIdeal.τ).loc Cert.OutCrossRefIdeal.main_arg9))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)
      ∧ m' ((c.tc : Thread Cert.InProjRefIdeal.nD Cert.InProjRefIdeal.τ).loc Cert.InProjRefIdeal.main_arg4) = m ((c.tc : Thread Cert.InProjIdeal.nD Cert.InProjIdeal.τ).loc Cert.InProjIdeal.main_arg4)
      ∧ m' ((c.tc : Thread Cert.InProjRefIdeal.nD Cert.InProjRefIdeal.τ).loc Cert.InProjRefIdeal.main_arg5) = m ((c.tc : Thread Cert.InProjIdeal.nD Cert.InProjIdeal.τ).loc Cert.InProjIdeal.main_arg5)) →
    ∃ (v0 : (c : Dev Cert.InProjIdeal.nD) → Buf (Elt Ideal) ((c.tc : Thread Cert.InProjIdeal.nD Cert.InProjIdeal.τ).loc Cert.InProjIdeal.main_v44_0)) (v1 : (c : Dev Cert.InProjIdeal.nD) → Buf (Elt Ideal) ((c.tc : Thread Cert.InProjIdeal.nD Cert.InProjIdeal.τ).loc Cert.InProjIdeal.main_v44_1)) (v2 : (c : Dev Cert.InProjIdeal.nD) → Buf (Elt Ideal) ((c.tc : Thread Cert.InProjIdeal.nD Cert.InProjIdeal.τ).loc Cert.InProjIdeal.main_v44_2)) (v3 : (c : Dev Cert.InProjIdeal.nD) → Buf (Elt Ideal) ((c.tc : Thread Cert.InProjIdeal.nD Cert.InProjIdeal.τ).loc Cert.InProjIdeal.main_v44_3)) (v4 : (c : Dev Cert.InProjIdeal.nD) → Buf (Elt Ideal) ((c.tc : Thread Cert.InProjIdeal.nD Cert.InProjIdeal.τ).loc Cert.InProjIdeal.main_v44_4)) (v5 : (c : Dev Cert.InProjIdeal.nD) → Buf (Elt Ideal) ((c.tc : Thread Cert.InProjIdeal.nD Cert.InProjIdeal.τ).loc Cert.InProjIdeal.main_v44_5)) (v6 : (c : Dev Cert.InProjIdeal.nD) → Buf (Elt Ideal) ((c.tc : Thread Cert.InProjIdeal.nD Cert.InProjIdeal.τ).loc Cert.InProjIdeal.main_v44_6)) (v7 : (c : Dev Cert.InProjIdeal.nD) → Buf (Elt Ideal) ((c.tc : Thread Cert.InProjIdeal.nD Cert.InProjIdeal.τ).loc Cert.InProjIdeal.main_v44_7)) (v8 : (c : Dev Cert.InProjIdeal.nD) → Buf (Elt Ideal) ((c.tc : Thread Cert.InProjIdeal.nD Cert.InProjIdeal.τ).loc Cert.InProjIdeal.main_v44_8)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v44_0) = v0 c
          ∧ r.2.mem ((c.tc : Thread Cert.InProjIdeal.nD Cert.InProjIdeal.τ).loc Cert.InProjIdeal.main_v44_1) = v1 c
          ∧ r.2.mem ((c.tc : Thread Cert.InProjIdeal.nD Cert.InProjIdeal.τ).loc Cert.InProjIdeal.main_v44_2) = v2 c
          ∧ r.2.mem ((c.tc : Thread Cert.InProjIdeal.nD Cert.InProjIdeal.τ).loc Cert.InProjIdeal.main_v44_3) = v3 c
          ∧ r.2.mem ((c.tc : Thread Cert.InProjIdeal.nD Cert.InProjIdeal.τ).loc Cert.InProjIdeal.main_v44_4) = v4 c
          ∧ r.2.mem ((c.tc : Thread Cert.InProjIdeal.nD Cert.InProjIdeal.τ).loc Cert.InProjIdeal.main_v44_5) = v5 c
          ∧ r.2.mem ((c.tc : Thread Cert.InProjIdeal.nD Cert.InProjIdeal.τ).loc Cert.InProjIdeal.main_v44_6) = v6 c
          ∧ r.2.mem ((c.tc : Thread Cert.InProjIdeal.nD Cert.InProjIdeal.τ).loc Cert.InProjIdeal.main_v44_7) = v7 c
          ∧ r.2.mem ((c.tc : Thread Cert.InProjIdeal.nD Cert.InProjIdeal.τ).loc Cert.InProjIdeal.main_v44_8) = v8 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
          ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
          ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v90) = v0 c
          ∧ r.2.mem ((c.tc : Thread Cert.InProjRefIdeal.nD Cert.InProjRefIdeal.τ).loc Cert.InProjRefIdeal.main_v91) = v1 c
          ∧ r.2.mem ((c.tc : Thread Cert.InProjRefIdeal.nD Cert.InProjRefIdeal.τ).loc Cert.InProjRefIdeal.main_v93) = v2 c
          ∧ r.2.mem ((c.tc : Thread Cert.InProjRefIdeal.nD Cert.InProjRefIdeal.τ).loc Cert.InProjRefIdeal.main_v96) = v3 c
          ∧ r.2.mem ((c.tc : Thread Cert.InProjRefIdeal.nD Cert.InProjRefIdeal.τ).loc Cert.InProjRefIdeal.main_v97) = v4 c
          ∧ r.2.mem ((c.tc : Thread Cert.InProjRefIdeal.nD Cert.InProjRefIdeal.τ).loc Cert.InProjRefIdeal.main_v99) = v5 c
          ∧ r.2.mem ((c.tc : Thread Cert.InProjRefIdeal.nD Cert.InProjRefIdeal.τ).loc Cert.InProjRefIdeal.main_v101) = v6 c
          ∧ r.2.mem ((c.tc : Thread Cert.InProjRefIdeal.nD Cert.InProjRefIdeal.τ).loc Cert.InProjRefIdeal.main_v103) = v7 c
          ∧ r.2.mem ((c.tc : Thread Cert.InProjRefIdeal.nD Cert.InProjRefIdeal.τ).loc Cert.InProjRefIdeal.main_v106) = v8 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3)
          ∧ r.2.mem ((c.tc : Thread Cert.InProjRefIdeal.nD Cert.InProjRefIdeal.τ).loc Cert.InProjRefIdeal.main_arg4) = m' ((c.tc : Thread Cert.InProjRefIdeal.nD Cert.InProjRefIdeal.τ).loc Cert.InProjRefIdeal.main_arg4)
          ∧ r.2.mem ((c.tc : Thread Cert.InProjRefIdeal.nD Cert.InProjRefIdeal.τ).loc Cert.InProjRefIdeal.main_arg5) = m' ((c.tc : Thread Cert.InProjRefIdeal.nD Cert.InProjRefIdeal.τ).loc Cert.InProjRefIdeal.main_arg5))

def preserves_Gla_GlaIdeal : Prop :=
  True

def Claim : Prop :=
  ∃ (hAttn : Cert.Attn.Facts) (hAttnIdeal : Cert.AttnIdeal.Facts) (hAttnRefIdeal : Cert.AttnRefIdeal.Facts) (hMemKv : Cert.MemKv.Facts) (hMemKvIdeal : Cert.MemKvIdeal.Facts) (hMemKvRefIdeal : Cert.MemKvRefIdeal.Facts) (hOutCross : Cert.OutCross.Facts) (hOutCrossIdeal : Cert.OutCrossIdeal.Facts) (hOutCrossRefIdeal : Cert.OutCrossRefIdeal.Facts) (hInProj : Cert.InProj.Facts) (hInProjIdeal : Cert.InProjIdeal.Facts) (hInProjRefIdeal : Cert.InProjRefIdeal.Facts) (hGla : Cert.Gla.Facts) (hGlaIdeal : Cert.GlaIdeal.Facts) (hPre_attn_finite : Cert.Pre_attn_finite.Facts),
    quiescent_Attn (hAttn := hAttn)
    ∧ quiescent_AttnIdeal (hAttnIdeal := hAttnIdeal)
    ∧ quiescent_AttnIdeal_pre_attn_finite (hAttnIdeal := hAttnIdeal) (hPre_attn_finite := hPre_attn_finite)
    ∧ quiescent_AttnRefIdeal (hAttnRefIdeal := hAttnRefIdeal)
    ∧ quiescent_AttnRefIdeal_pre_attn_finite (hAttnRefIdeal := hAttnRefIdeal) (hPre_attn_finite := hPre_attn_finite)
    ∧ quiescent_MemKv (hMemKv := hMemKv)
    ∧ quiescent_MemKvIdeal (hMemKvIdeal := hMemKvIdeal)
    ∧ quiescent_MemKvRefIdeal (hMemKvRefIdeal := hMemKvRefIdeal)
    ∧ quiescent_OutCross (hOutCross := hOutCross)
    ∧ quiescent_OutCrossIdeal (hOutCrossIdeal := hOutCrossIdeal)
    ∧ quiescent_OutCrossRefIdeal (hOutCrossRefIdeal := hOutCrossRefIdeal)
    ∧ quiescent_InProj (hInProj := hInProj)
    ∧ quiescent_InProjIdeal (hInProjIdeal := hInProjIdeal)
    ∧ quiescent_InProjRefIdeal (hInProjRefIdeal := hInProjRefIdeal)
    ∧ quiescent_Gla (hGla := hGla)
    ∧ quiescent_GlaIdeal (hGlaIdeal := hGlaIdeal)
    ∧ preserves_Attn_AttnIdeal
    ∧ algebraic_AttnIdeal_AttnRefIdeal_pre_attn_finite (hAttnIdeal := hAttnIdeal) (hAttnRefIdeal := hAttnRefIdeal) (hPre_attn_finite := hPre_attn_finite)
    ∧ preserves_MemKv_MemKvIdeal
    ∧ algebraic_MemKvIdeal_MemKvRefIdeal (hMemKvIdeal := hMemKvIdeal) (hMemKvRefIdeal := hMemKvRefIdeal)
    ∧ preserves_OutCross_OutCrossIdeal
    ∧ algebraic_OutCrossIdeal_OutCrossRefIdeal (hOutCrossIdeal := hOutCrossIdeal) (hOutCrossRefIdeal := hOutCrossRefIdeal)
    ∧ preserves_InProj_InProjIdeal
    ∧ algebraic_InProjIdeal_InProjRefIdeal (hInProjIdeal := hInProjIdeal) (hInProjRefIdeal := hInProjRefIdeal)
    ∧ preserves_Gla_GlaIdeal
-- ==== Pre_attn_finite.lean ====
abbrev S1x64 : Shape := ⟨2, ![1, 64]⟩
abbrev S32768x512 : Shape := ⟨2, ![32768, 512]⟩
abbrev S1x128 : Shape := ⟨2, ![1, 128]⟩
abbrev S_ : Shape := ⟨0, ![]⟩

class Facts : Prop where
  bcast_S_S1x64 : S_.BroadcastsInDim S1x64 (![] : Fin 0 → Fin S1x64.rank)
  reducesTo_S1x64_S_d0_1 : S1x64.ReducesTo [0, 1] S_
  h_S_ : 0 < S_.numel
  bitsLt_bf16_f32 : FTy.bits .bf16 < FTy.bits .f32
  bcast_S_S32768x512 : S_.BroadcastsInDim S32768x512 (![] : Fin 0 → Fin S32768x512.rank)
  reducesTo_S32768x512_S_d0_1 : S32768x512.ReducesTo [0, 1] S_

variable [Facts]

def fn_part1 {F : FTy → Type} [FloatOps F] (main_arg6 : FVec F S32768x512 .bf16) (main_v14 : IVec S_ 1) (main_v15 : FVec F S1x64 .f32) (main_cst_5 : FVec F S_ .f32) : IVec S_ 1 :=
  let main_v16 : FVec F S1x64 .f32 := broadcastInDim S1x64 ![] bcast_S_S1x64 main_cst_5
  let main_v17 : IVec S1x64 1 := cmpf .olt main_v15 main_v16
  let main_c_6 : IVec S_ 1 := constantI S_ 1 1#1
  let main_v18 : IVec S_ 1 := (fun x v => Host.reduce IntOp.andi x v reducesTo_S1x64_S_d0_1 h_S_) main_v17 main_c_6
  let main_v19 : IVec S_ 1 := andi main_v14 main_v18
  let main_v20 : FVec F S32768x512 .f32 := (extf .f32 · bitsLt_bf16_f32) main_arg6
  let main_v21 : FVec F S32768x512 .f32 := Host.absf main_v20
  let main_cst_7 : FVec F S_ .f32 := constant S_ .f32 0x7F800000#32
  let main_v22 : FVec F S32768x512 .f32 := broadcastInDim S32768x512 ![] bcast_S_S32768x512 main_cst_7
  let main_v23 : IVec S32768x512 1 := cmpf .olt main_v21 main_v22
  let main_c_8 : IVec S_ 1 := constantI S_ 1 1#1
  let main_v24 : IVec S_ 1 := (fun x v => Host.reduce IntOp.andi x v reducesTo_S32768x512_S_d0_1 h_S_) main_v23 main_c_8
  let main_v25 : IVec S_ 1 := andi main_v19 main_v24
  main_v25

def fn {F : FTy → Type} [FloatOps F] (main_arg0 : FVec F S1x64 .f32) (main_arg1 : FVec F S1x64 .f32) (main_arg2 : FVec F S1x64 .f32) (main_arg3 : FVec F S1x64 .f32) (main_arg4 : FVec F S32768x512 .bf16) (main_arg5 : FVec F S32768x512 .bf16) (main_arg6 : FVec F S32768x512 .bf16) (main_arg7 : FVec F S32768x512 .bf16) (main_arg8 : FVec F S1x128 .f32) : IVec S_ 1 :=
  let main_v0 : FVec F S1x64 .f32 := Host.absf main_arg0
  let main_cst : FVec F S_ .f32 := constant S_ .f32 0x7F800000#32
  let main_v1 : FVec F S1x64 .f32 := broadcastInDim S1x64 ![] bcast_S_S1x64 main_cst
  let main_v2 : IVec S1x64 1 := cmpf .olt main_v0 main_v1
  let main_c : IVec S_ 1 := constantI S_ 1 1#1
  let main_v3 : IVec S_ 1 := (fun x v => Host.reduce IntOp.andi x v reducesTo_S1x64_S_d0_1 h_S_) main_v2 main_c
  let main_c_0 : IVec S_ 1 := constantI S_ 1 1#1
  let main_v4 : IVec S_ 1 := andi main_c_0 main_v3
  let main_v5 : FVec F S1x64 .f32 := Host.absf main_arg1
  let main_cst_1 : FVec F S_ .f32 := constant S_ .f32 0x7F800000#32
  let main_v6 : FVec F S1x64 .f32 := broadcastInDim S1x64 ![] bcast_S_S1x64 main_cst_1
  let main_v7 : IVec S1x64 1 := cmpf .olt main_v5 main_v6
  let main_c_2 : IVec S_ 1 := constantI S_ 1 1#1
  let main_v8 : IVec S_ 1 := (fun x v => Host.reduce IntOp.andi x v reducesTo_S1x64_S_d0_1 h_S_) main_v7 main_c_2
  let main_v9 : IVec S_ 1 := andi main_v4 main_v8
  let main_v10 : FVec F S1x64 .f32 := Host.absf main_arg2
  let main_cst_3 : FVec F S_ .f32 := constant S_ .f32 0x7F800000#32
  let main_v11 : FVec F S1x64 .f32 := broadcastInDim S1x64 ![] bcast_S_S1x64 main_cst_3
  let main_v12 : IVec S1x64 1 := cmpf .olt main_v10 main_v11
  let main_c_4 : IVec S_ 1 := constantI S_ 1 1#1
  let main_v13 : IVec S_ 1 := (fun x v => Host.reduce IntOp.andi x v reducesTo_S1x64_S_d0_1 h_S_) main_v12 main_c_4
  let main_v14 : IVec S_ 1 := andi main_v9 main_v13
  let main_v15 : FVec F S1x64 .f32 := Host.absf main_arg3
  let main_cst_5 : FVec F S_ .f32 := constant S_ .f32 0x7F800000#32
  fn_part1 (F := F) main_arg6 main_v14 main_v15 main_cst_5
-- ==== Attn.lean ====
abbrev S1x64 : Shape := ⟨2, ![1, 64]⟩
abbrev S32768x512 : Shape := ⟨2, ![32768, 512]⟩
abbrev S1x128 : Shape := ⟨2, ![1, 128]⟩
abbrev S64 : Shape := ⟨1, ![64]⟩
abbrev S4x64 : Shape := ⟨2, ![4, 64]⟩
abbrev S128 : Shape := ⟨1, ![128]⟩
abbrev S256x128 : Shape := ⟨2, ![256, 128]⟩
abbrev S4096x128 : Shape := ⟨2, ![4096, 128]⟩
abbrev S512x128 : Shape := ⟨2, ![512, 128]⟩
abbrev S512x1 : Shape := ⟨2, ![512, 1]⟩
abbrev S512x256 : Shape := ⟨2, ![512, 256]⟩
abbrev S512 : Shape := ⟨1, ![512]⟩
abbrev S1 : Shape := ⟨1, ![1]⟩
abbrev S1x1 : Shape := ⟨2, ![1, 1]⟩
abbrev S256x1 : Shape := ⟨2, ![256, 1]⟩
abbrev S256 : Shape := ⟨1, ![256]⟩

abbrev nBuf : Space → Nat
  | .hbm => 21
  | .vmem => 16
  | .smem => 0
  | _ => 0

abbrev bufTy : (tb : Table) → Fin (tcTables nBuf tb) → BufTy
  | .hbm, ⟨0, _⟩ => ⟨S1x64, .f32⟩
  | .hbm, ⟨1, _⟩ => ⟨S1x64, .f32⟩
  | .hbm, ⟨2, _⟩ => ⟨S1x64, .f32⟩
  | .hbm, ⟨3, _⟩ => ⟨S1x64, .f32⟩
  | .hbm, ⟨4, _⟩ => ⟨S32768x512, .bf16⟩
  | .hbm, ⟨5, _⟩ => ⟨S32768x512, .bf16⟩
  | .hbm, ⟨6, _⟩ => ⟨S32768x512, .bf16⟩
  | .hbm, ⟨7, _⟩ => ⟨S32768x512, .bf16⟩
  | .hbm, ⟨8, _⟩ => ⟨S1x128, .f32⟩
  | .hbm, ⟨9, _⟩ => ⟨S64, .f32⟩
  | .hbm, ⟨10, _⟩ => ⟨S64, .f32⟩
  | .hbm, ⟨11, _⟩ => ⟨S64, .f32⟩
  | .hbm, ⟨12, _⟩ => ⟨S64, .f32⟩
  | .hbm, ⟨13, _⟩ => ⟨S1x64, .f32⟩
  | .hbm, ⟨14, _⟩ => ⟨S1x64, .f32⟩
  | .hbm, ⟨15, _⟩ => ⟨S1x64, .f32⟩
  | .hbm, ⟨16, _⟩ => ⟨S1x64, .f32⟩
  | .hbm, ⟨17, _⟩ => ⟨S4x64, .f32⟩
  | .hbm, ⟨18, _⟩ => ⟨S128, .f32⟩
  | .hbm, ⟨19, _⟩ => ⟨S1x128, .f32⟩
  | .hbm, ⟨20, _⟩ => ⟨S32768x512, .bf16⟩
  | .local _ .vmem, ⟨0, _⟩ => ⟨S4x64, .f32⟩
  | .local _ .vmem, ⟨1, _⟩ => ⟨S256x128, .bf16⟩
  | .local _ .vmem, ⟨2, _⟩ => ⟨S256x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S4096x128, .bf16⟩
  | .local _ .vmem, ⟨7, _⟩ => ⟨S256x128, .bf16⟩
  | .local _ .vmem, ⟨8, _⟩ => ⟨S256x128, .bf16⟩
  | .local _ .vmem, ⟨9, _⟩ => ⟨S1x128, .f32⟩
  | .local _ .vmem, ⟨10, _⟩ => ⟨S256x128, .bf16⟩
  | .local _ .vmem, ⟨11, _⟩ => ⟨S256x128, .bf16⟩
  | .local _ .vmem, ⟨12, _⟩ => ⟨S512x128, .bf16⟩
  | .local _ .vmem, ⟨13, _⟩ => ⟨S512x1, .f32⟩
  | .local _ .vmem, ⟨14, _⟩ => ⟨S512x1, .f32⟩
  | .local _ .vmem, ⟨15, _⟩ => ⟨S512x128, .f32⟩
  | _, _ => ⟨S1x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨3, ![8, 4, 16], ![false, false, false]⟩

@[reducible] def k0_t1_loop (i : grid0.Coords) : Scf.Loop 32 :=
  let c0_i32_14 : BitVec 32 := 0#32
  let arg2 : BitVec 32 := BitVec.ofNat 32 (i 2).val
  let v27 : BitVec 32 := Scalar.subi arg2 c0_i32_14
  let c1_i32 : BitVec 32 := 1#32
  let v29 : BitVec 32 := Scalar.divsi v27 c1_i32
  let v30 : BitVec 32 := Scalar.muli v29 c1_i32
  let v31 : BitVec 32 := Scalar.addi c0_i32_14 v30
  let c1_i32_15 : BitVec 32 := 1#32
  ⟨c0_i32_14, v31, c1_i32_15⟩
def k0_mult1 (i : grid0.Coords) (k0_t1 : Fin (k0_t1_loop i).trips) : BitVec 32 :=
  let c0_i32_14 : BitVec 32 := 0#32
  let c1_i32_15 : BitVec 32 := 1#32
  let arg14 : BitVec 32 := Scf.iv c0_i32_14 c1_i32_15 k0_t1
  let c256_i32_81 : BitVec 32 := 256#32
  let v187 : BitVec 32 := Scalar.muli arg14 c256_i32_81
  v187
def k0_off1 (i : grid0.Coords) (k0_t1 : Fin (k0_t1_loop i).trips) : Fin 2 → Nat :=
  let c0_i32_14 : BitVec 32 := 0#32
  let c1_i32_15 : BitVec 32 := 1#32
  let arg14 : BitVec 32 := Scf.iv c0_i32_14 c1_i32_15 k0_t1
  let c256_i32_81 : BitVec 32 := 256#32
  let v187 : BitVec 32 := Scalar.muli arg14 c256_i32_81
  let v188 : BitVec 32 := v187
  let v189 : Index := Scalar.indexCast v188
  let c0_82 : Index := 0#32
  ![v189.toNat, 0]
@[reducible] def k0_t2_loop (i : grid0.Coords) : Scf.Loop 32 :=
  let c0_i32_14 : BitVec 32 := 0#32
  let arg2 : BitVec 32 := BitVec.ofNat 32 (i 2).val
  let v27 : BitVec 32 := Scalar.subi arg2 c0_i32_14
  let c1_i32 : BitVec 32 := 1#32
  let v29 : BitVec 32 := Scalar.divsi v27 c1_i32
  let v30 : BitVec 32 := Scalar.muli v29 c1_i32
  let v31 : BitVec 32 := Scalar.addi c0_i32_14 v30
  let v28 : BitVec 32 := Scalar.addi c0_i32_14 v27
  let c1_i32_16 : BitVec 32 := 1#32
  ⟨v31, v28, c1_i32_16⟩
def k0_mult2 (i : grid0.Coords) (k0_t2 : Fin (k0_t2_loop i).trips) : BitVec 32 :=
  let c0_i32_14 : BitVec 32 := 0#32
  let arg2 : BitVec 32 := BitVec.ofNat 32 (i 2).val
  let v27 : BitVec 32 := Scalar.subi arg2 c0_i32_14
  let c1_i32 : BitVec 32 := 1#32
  let v29 : BitVec 32 := Scalar.divsi v27 c1_i32
  let v30 : BitVec 32 := Scalar.muli v29 c1_i32
  let v31 : BitVec 32 := Scalar.addi c0_i32_14 v30
  let c1_i32_16 : BitVec 32 := 1#32
  let arg14 : BitVec 32 := Scf.iv v31 c1_i32_16 k0_t2
  let c256_i32_81 : BitVec 32 := 256#32
  let v187 : BitVec 32 := Scalar.muli arg14 c256_i32_81
  v187
def k0_off2 (i : grid0.Coords) (k0_t2 : Fin (k0_t2_loop i).trips) : Fin 2 → Nat :=
  let c0_i32_14 : BitVec 32 := 0#32
  let arg2 : BitVec 32 := BitVec.ofNat 32 (i 2).val
  let v27 : BitVec 32 := Scalar.subi arg2 c0_i32_14
  let c1_i32 : BitVec 32 := 1#32
  let v29 : BitVec 32 := Scalar.divsi v27 c1_i32
  let v30 : BitVec 32 := Scalar.muli v29 c1_i32
  let v31 : BitVec 32 := Scalar.addi c0_i32_14 v30
  let c1_i32_16 : BitVec 32 := 1#32
  let arg14 : BitVec 32 := Scf.iv v31 c1_i32_16 k0_t2
  let c256_i32_81 : BitVec 32 := 256#32
  let v187 : BitVec 32 := Scalar.muli arg14 c256_i32_81
  let v188 : BitVec 32 := v187
  let v189 : Index := Scalar.indexCast v188
  let c0_82 : Index := 0#32
  ![v189.toNat, 0]
def k0_mult3 (i : grid0.Coords) : BitVec 32 :=
  let arg2 : BitVec 32 := BitVec.ofNat 32 (i 2).val
  let c256_i32 : BitVec 32 := 256#32
  let v32 : BitVec 32 := Scalar.muli arg2 c256_i32
  v32
def k0_off3 (i : grid0.Coords) : Fin 2 → Nat :=
  let arg2 : BitVec 32 := BitVec.ofNat 32 (i 2).val
  let c256_i32 : BitVec 32 := 256#32
  let v32 : BitVec 32 := Scalar.muli arg2 c256_i32
  let v33 : BitVec 32 := v32
  let v34 : Index := Scalar.indexCast v33
  let c0_17 : Index := 0#32
  ![v34.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage0_0 : Fin 1 → Memref sig .tc .vmem S4x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S256x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== AttnRefIdeal.lean ====
abbrev S1x64 : Shape := ⟨2, ![1, 64]⟩
abbrev S32768x512 : Shape := ⟨2, ![32768, 512]⟩
abbrev S1x128 : Shape := ⟨2, ![1, 128]⟩
abbrev S64 : Shape := ⟨1, ![64]⟩
abbrev S_ : Shape := ⟨0, ![]⟩
abbrev S8x4096x4x2x64 : Shape := ⟨5, ![8, 4096, 4, 2, 64]⟩
abbrev S8x4x2x4096x64 : Shape := ⟨5, ![8, 4, 2, 4096, 64]⟩
abbrev S8x4096x4x128 : Shape := ⟨4, ![8, 4096, 4, 128]⟩
abbrev S8x4x4096x128 : Shape := ⟨4, ![8, 4, 4096, 128]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x4x2x4096x4096 : Shape := ⟨5, ![8, 4, 2, 4096, 4096]⟩
abbrev S8x4x2x4096 : Shape := ⟨4, ![8, 4, 2, 4096]⟩
abbrev S8x4x2x4096x1 : Shape := ⟨5, ![8, 4, 2, 4096, 1]⟩
abbrev S8x4x1x4096x4096 : Shape := ⟨5, ![8, 4, 1, 4096, 4096]⟩
abbrev S8x4x4096x4096 : Shape := ⟨4, ![8, 4, 4096, 4096]⟩
abbrev S8x4096x4 : Shape := ⟨3, ![8, 4096, 4]⟩
abbrev S8x4096x4x1 : Shape := ⟨4, ![8, 4096, 4, 1]⟩
abbrev S128 : Shape := ⟨1, ![128]⟩
abbrev S1x1x1x128 : Shape := ⟨4, ![1, 1, 1, 128]⟩

abbrev nBuf : Space → Nat
  | .hbm => 111
  | .vmem => 0
  | .smem => 0
  | _ => 0

abbrev bufTy : (tb : Table) → Fin (tcTables nBuf tb) → BufTy
  | .hbm, ⟨0, _⟩ => ⟨S1x64, .f32⟩
  | .hbm, ⟨1, _⟩ => ⟨S1x64, .f32⟩
  | .hbm, ⟨2, _⟩ => ⟨S1x64, .f32⟩
  | .hbm, ⟨3, _⟩ => ⟨S1x64, .f32⟩
  | .hbm, ⟨4, _⟩ => ⟨S32768x512, .bf16⟩
  | .hbm, ⟨5, _⟩ => ⟨S32768x512, .bf16⟩
  | .hbm, ⟨6, _⟩ => ⟨S32768x512, .bf16⟩
  | .hbm, ⟨7, _⟩ => ⟨S32768x512, .bf16⟩
  | .hbm, ⟨8, _⟩ => ⟨S1x128, .f32⟩
  | .hbm, ⟨9, _⟩ => ⟨S64, .f32⟩
  | .hbm, ⟨10, _⟩ => ⟨S64, .f32⟩
  | .hbm, ⟨11, _⟩ => ⟨S64, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S64, .f32⟩
  | .hbm, ⟨16, _⟩ => ⟨S64, .f32⟩
  | .hbm, ⟨17, _⟩ => ⟨S64, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S32768x512, .f32⟩
  | .hbm, ⟨25, _⟩ => ⟨S8x4096x4x2x64, .f32⟩
  | .hbm, ⟨26, _⟩ => ⟨S8x4x2x4096x64, .f32⟩
  | .hbm, ⟨27, _⟩ => ⟨S32768x512, .f32⟩
  | .hbm, ⟨28, _⟩ => ⟨S8x4096x4x2x64, .f32⟩
  | .hbm, ⟨29, _⟩ => ⟨S8x4x2x4096x64, .f32⟩
  | .hbm, ⟨30, _⟩ => ⟨S32768x512, .f32⟩
  | .hbm, ⟨31, _⟩ => ⟨S8x4096x4x128, .f32⟩
  | .hbm, ⟨32, _⟩ => ⟨S8x4x4096x128, .f32⟩
  | .hbm, ⟨33, _⟩ => ⟨S4096, .i32⟩
  | .hbm, ⟨34, _⟩ => ⟨S_, .i32⟩
  | .hbm, ⟨35, _⟩ => ⟨S_, .i32⟩
  | .hbm, ⟨36, _⟩ => ⟨S4096, .i32⟩
  | .hbm, ⟨37, _⟩ => ⟨S4096, .i32⟩
  | .hbm, ⟨38, _⟩ => ⟨S4096, .i32⟩
  | .hbm, ⟨39, _⟩ => ⟨S_, .i32⟩
  | .hbm, ⟨40, _⟩ => ⟨S4096, .i32⟩
  | .hbm, ⟨41, _⟩ => ⟨S4096, .i1⟩
  | .hbm, ⟨42, _⟩ => ⟨S4096, .i32⟩
  | .hbm, ⟨43, _⟩ => ⟨S4096, .i32⟩
  | .hbm, ⟨44, _⟩ => ⟨S_, .i32⟩
  | .hbm, ⟨45, _⟩ => ⟨S4096, .i32⟩
  | .hbm, ⟨46, _⟩ => ⟨S4096, .i1⟩
  | .hbm, ⟨47, _⟩ => ⟨S4096, .i1⟩
  | .hbm, ⟨48, _⟩ => ⟨S_, .i32⟩
  | .hbm, ⟨49, _⟩ => ⟨S4096, .i32⟩
  | .hbm, ⟨50, _⟩ => ⟨S4096, .i32⟩
  | .hbm, ⟨51, _⟩ => ⟨S4096, .i32⟩
  | .hbm, ⟨52, _⟩ => ⟨S1x4096, .i32⟩
  | .hbm, ⟨53, _⟩ => ⟨S4096x1, .i32⟩
  | .hbm, ⟨54, _⟩ => ⟨S4096x4096, .i32⟩
  | .hbm, ⟨55, _⟩ => ⟨S4096x4096, .i32⟩
  | .hbm, ⟨56, _⟩ => ⟨S4096x4096, .i1⟩
  | .hbm, ⟨57, _⟩ => ⟨S8x4x2x4096x4096, .f32⟩
  | .hbm, ⟨58, _⟩ => ⟨S_, .f32⟩
  | .hbm, ⟨59, _⟩ => ⟨S_, .f32⟩
  | .hbm, ⟨60, _⟩ => ⟨S8x4x2x4096x4096, .i1⟩
  | .hbm, ⟨61, _⟩ => ⟨S8x4x2x4096x4096, .f32⟩
  | .hbm, ⟨62, _⟩ => ⟨S8x4x2x4096x4096, .f32⟩
  | .hbm, ⟨63, _⟩ => ⟨S_, .f32⟩
  | .hbm, ⟨64, _⟩ => ⟨S8x4x2x4096, .f32⟩
  | .hbm, ⟨65, _⟩ => ⟨S_, .f32⟩
  | .hbm, ⟨66, _⟩ => ⟨S8x4x2x4096, .f32⟩
  | .hbm, ⟨67, _⟩ => ⟨S8x4x2x4096, .f32⟩
  | .hbm, ⟨68, _⟩ => ⟨S8x4x2x4096x1, .f32⟩
  | .hbm, ⟨69, _⟩ => ⟨S8x4x2x4096x4096, .f32⟩
  | .hbm, ⟨70, _⟩ => ⟨S8x4x2x4096x4096, .f32⟩
  | .hbm, ⟨71, _⟩ => ⟨S8x4x2x4096x4096, .f32⟩
  | .hbm, ⟨72, _⟩ => ⟨S_, .f32⟩
  | .hbm, ⟨73, _⟩ => ⟨S8x4x2x4096, .f32⟩
  | .hbm, ⟨74, _⟩ => ⟨S8x4x2x4096x1, .f32⟩
  | .hbm, ⟨75, _⟩ => ⟨S8x4x2x4096x4096, .f32⟩
  | .hbm, ⟨76, _⟩ => ⟨S8x4x2x4096x4096, .f32⟩
  | .hbm, ⟨77, _⟩ => ⟨S8x4x1x4096x4096, .f32⟩
  | .hbm, ⟨78, _⟩ => ⟨S8x4x4096x4096, .f32⟩
  | .hbm, ⟨79, _⟩ => ⟨S8x4x1x4096x4096, .f32⟩
  | .hbm, ⟨80, _⟩ => ⟨S8x4x4096x4096, .f32⟩
  | .hbm, ⟨81, _⟩ => ⟨S8x4x4096x4096, .f32⟩
  | .hbm, ⟨82, _⟩ => ⟨S8x4x4096x4096, .f32⟩
  | .hbm, ⟨83, _⟩ => ⟨S8x4x4096x4096, .f32⟩
  | .hbm, ⟨84, _⟩ => ⟨S8x4x4096x128, .f32⟩
  | .hbm, ⟨85, _⟩ => ⟨S8x4096x4x128, .f32⟩
  | .hbm, ⟨86, _⟩ => ⟨S8x4096x4x128, .f32⟩
  | .hbm, ⟨87, _⟩ => ⟨S_, .f32⟩
  | .hbm, ⟨88, _⟩ => ⟨S8x4096x4, .f32⟩
  | .hbm, ⟨89, _⟩ => ⟨S8x4096x4x1, .f32⟩
  | .hbm, ⟨90, _⟩ => ⟨S_, .f32⟩
  | .hbm, ⟨91, _⟩ => ⟨S8x4096x4x1, .f32⟩
  | .hbm, ⟨92, _⟩ => ⟨S8x4096x4x1, .f32⟩
  | .hbm, ⟨93, _⟩ => ⟨S_, .f32⟩
  | .hbm, ⟨94, _⟩ => ⟨S8x4096x4x1, .f32⟩
  | .hbm, ⟨95, _⟩ => ⟨S8x4096x4x1, .f32⟩
  | .hbm, ⟨96, _⟩ => ⟨S8x4096x4x1, .f32⟩
  | .hbm, ⟨97, _⟩ => ⟨S8x4096x4x128, .f32⟩
  | .hbm, ⟨98, _⟩ => ⟨S8x4096x4x128, .f32⟩
  | .hbm, ⟨99, _⟩ => ⟨S128, .f32⟩
  | .hbm, ⟨100, _⟩ => ⟨S1x1x1x128, .f32⟩
  | .hbm, ⟨101, _⟩ => ⟨S8x4096x4x128, .f32⟩
  | .hbm, ⟨102, _⟩ => ⟨S8x4096x4x128, .f32⟩
  | .hbm, ⟨103, _⟩ => ⟨S_, .f32⟩
  | .hbm, ⟨104, _⟩ => ⟨S8x4096x4x128, .f32⟩
  | .hbm, ⟨105, _⟩ => ⟨S8x4096x4x128, .f32⟩
  | .hbm, ⟨106, _⟩ => ⟨S32768x512, .f32⟩
  | .hbm, ⟨107, _⟩ => ⟨S8x4096x4x128, .f32⟩
  | .hbm, ⟨108, _⟩ => ⟨S8x4096x4x128, .f32⟩
  | .hbm, ⟨109, _⟩ => ⟨S32768x512, .f32⟩
  | .hbm, ⟨110, _⟩ => ⟨S32768x512, .bf16⟩
  | _, _ => ⟨S1x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_call0_v3 : Ref sig .tc := ⟨.hbm, 38, rfl⟩
abbrev main_call0_v4 : Ref sig .tc := ⟨.hbm, 39, rfl⟩
abbrev main_call0_v5 : Ref sig .tc := ⟨.hbm, 40, rfl⟩
abbrev main_call0_v6 : Ref sig .tc := ⟨.hbm, 41, rfl⟩
abbrev main_call0_v7 : Ref sig .tc := ⟨.hbm, 42, rfl⟩
abbrev main_call0_v8 : Ref sig .tc := ⟨.hbm, 43, rfl⟩
abbrev main_call0_c : Ref sig .tc := ⟨.hbm, 44, rfl⟩
abbrev main_call0_v9 : Ref sig .tc := ⟨.hbm, 45, rfl⟩
abbrev main_call0_v10 : Ref sig .tc := ⟨.hbm, 46, rfl⟩
abbrev main_call0_v11 : Ref sig .tc := ⟨.hbm, 47, rfl⟩
abbrev main_call0_c_0 : Ref sig .tc := ⟨.hbm, 48, rfl⟩
abbrev main_call0_v12 : Ref sig .tc := ⟨.hbm, 49, rfl⟩
abbrev main_call0_v13 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_cst_2 : Ref sig .tc := ⟨.hbm, 58, rfl⟩
abbrev main_call1_v0 : Ref sig .tc := ⟨.hbm, 59, rfl⟩
abbrev main_call1_v1 : Ref sig .tc := ⟨.hbm, 60, rfl⟩
abbrev main_call1_v2 : Ref sig .tc := ⟨.hbm, 61, rfl⟩
abbrev main_v29 : Ref sig .tc := ⟨.hbm, 62, rfl⟩
abbrev main_cst_3 : Ref sig .tc := ⟨.hbm, 63, rfl⟩
abbrev main_v30 : Ref sig .tc := ⟨.hbm, 64, rfl⟩
abbrev main_cst_4 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_cst_5 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_cst_6 : Ref sig .tc := ⟨.hbm, 87, rfl⟩
abbrev main_v51 : Ref sig .tc := ⟨.hbm, 88, rfl⟩
abbrev main_v52 : Ref sig .tc := ⟨.hbm, 89, rfl⟩
abbrev main_cst_7 : Ref sig .tc := ⟨.hbm, 90, rfl⟩
abbrev main_v53 : Ref sig .tc := ⟨.hbm, 91, rfl⟩
abbrev main_v54 : Ref sig .tc := ⟨.hbm, 92, rfl⟩
abbrev main_cst_8 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_cst_9 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩

abbrev nD : Nat := 1
abbrev τ : Topo := Topo.v7x

variable {F : FTy → Type} [FloatOps F]
-- ==== MemKv.lean ====
abbrev S8x256x1024 : Shape := ⟨3, ![8, 256, 1024]⟩
abbrev S1x1024 : Shape := ⟨2, ![1, 1024]⟩
abbrev S1x1024x2048 : Shape := ⟨3, ![1, 1024, 2048]⟩
abbrev S2048x1024 : Shape := ⟨2, ![2048, 1024]⟩
abbrev S1024 : Shape := ⟨1, ![1024]⟩
abbrev S1024x2048 : Shape := ⟨2, ![1024, 2048]⟩
abbrev S256x1024 : Shape := ⟨2, ![256, 1024]⟩
abbrev S256 : Shape := ⟨1, ![256]⟩
abbrev S256x1 : Shape := ⟨2, ![256, 1]⟩
abbrev S1024x1024 : Shape := ⟨2, ![1024, 1024]⟩

abbrev nBuf : Space → Nat
  | .hbm => 10
  | .vmem => 8
  | .smem => 0
  | _ => 0

abbrev bufTy : (tb : Table) → Fin (tcTables nBuf tb) → BufTy
  | .hbm, ⟨0, _⟩ => ⟨S8x256x1024, .f32⟩
  | .hbm, ⟨1, _⟩ => ⟨S1x1024, .f32⟩
  | .hbm, ⟨2, _⟩ => ⟨S1x1024x2048, .f32⟩
  | .hbm, ⟨3, _⟩ => ⟨S2048x1024, .f32⟩
  | .hbm, ⟨4, _⟩ => ⟨S1024, .f32⟩
  | .hbm, ⟨5, _⟩ => ⟨S1x1024, .f32⟩
  | .hbm, ⟨6, _⟩ => ⟨S1024x2048, .f32⟩
  | .hbm, ⟨7, _⟩ => ⟨S1024x2048, .bf16⟩
  | .hbm, ⟨8, _⟩ => ⟨S2048x1024, .bf16⟩
  | .hbm, ⟨9, _⟩ => ⟨S2048x1024, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x2048, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== MemKvRefIdeal.lean ====
abbrev S8x256x1024 : Shape := ⟨3, ![8, 256, 1024]⟩
abbrev S1x1024 : Shape := ⟨2, ![1, 1024]⟩
abbrev S1x1024x2048 : Shape := ⟨3, ![1, 1024, 2048]⟩
abbrev S_ : Shape := ⟨0, ![]⟩
abbrev S8x256 : Shape := ⟨2, ![8, 256]⟩
abbrev S8x256x1 : Shape := ⟨3, ![8, 256, 1]⟩
abbrev S1024 : Shape := ⟨1, ![1024]⟩
abbrev S1x1x1024 : Shape := ⟨3, ![1, 1, 1024]⟩
abbrev S1024x2048 : Shape := ⟨2, ![1024, 2048]⟩
abbrev S8x256x2048 : Shape := ⟨3, ![8, 256, 2048]⟩
abbrev S2048x1024 : Shape := ⟨2, ![2048, 1024]⟩

abbrev nBuf : Space → Nat
  | .hbm => 28
  | .vmem => 0
  | .smem => 0
  | _ => 0

abbrev bufTy : (tb : Table) → Fin (tcTables nBuf tb) → BufTy
  | .hbm, ⟨0, _⟩ => ⟨S8x256x1024, .f32⟩
  | .hbm, ⟨1, _⟩ => ⟨S1x1024, .f32⟩
  | .hbm, ⟨2, _⟩ => ⟨S1x1024x2048, .f32⟩
  | .hbm, ⟨3, _⟩ => ⟨S8x256x1024, .f32⟩
  | .hbm, ⟨4, _⟩ => ⟨S_, .f32⟩
  | .hbm, ⟨5, _⟩ => ⟨S8x256, .f32⟩
  | .hbm, ⟨6, _⟩ => ⟨S8x256x1, .f32⟩
  | .hbm, ⟨7, _⟩ => ⟨S_, .f32⟩
  | .hbm, ⟨8, _⟩ => ⟨S8x256x1, .f32⟩
  | .hbm, ⟨9, _⟩ => ⟨S8x256x1, .f32⟩
  | .hbm, ⟨10, _⟩ => ⟨S_, .f32⟩
  | .hbm, ⟨11, _⟩ => ⟨S8x256x1, .f32⟩
  | .hbm, ⟨12, _⟩ => ⟨S8x256x1, .f32⟩
  | .hbm, ⟨13, _⟩ => ⟨S8x256x1, .f32⟩
  | .hbm, ⟨14, _⟩ => ⟨S8x256x1024, .f32⟩
  | .hbm, ⟨15, _⟩ => ⟨S8x256x1024, .f32⟩
  | .hbm, ⟨16, _⟩ => ⟨S1024, .f32⟩
  | .hbm, ⟨17, _⟩ => ⟨S1x1x1024, .f32⟩
  | .hbm, ⟨18, _⟩ => ⟨S8x256x1024, .f32⟩
  | .hbm, ⟨19, _⟩ => ⟨S8x256x1024, .f32⟩
  | .hbm, ⟨20, _⟩ => ⟨S1024x2048, .f32⟩
  | .hbm, ⟨21, _⟩ => ⟨S8x256x2048, .f32⟩
  | .hbm, ⟨22, _⟩ => ⟨S8x256x1024, .f32⟩
  | .hbm, ⟨23, _⟩ => ⟨S2048x1024, .f32⟩
  | .hbm, ⟨24, _⟩ => ⟨S8x256x1024, .f32⟩
  | .hbm, ⟨25, _⟩ => ⟨S2048x1024, .f32⟩
  | .hbm, ⟨26, _⟩ => ⟨S2048x1024, .bf16⟩
  | .hbm, ⟨27, _⟩ => ⟨S2048x1024, .bf16⟩
  | _, _ => ⟨S8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩

abbrev nD : Nat := 1
abbrev τ : Topo := Topo.v7x

variable {F : FTy → Type} [FloatOps F]
-- ==== OutCross.lean ====
abbrev S8x4096x1024 : Shape := ⟨3, ![8, 4096, 1024]⟩
abbrev S32768x512 : Shape := ⟨2, ![32768, 512]⟩
abbrev S1x1024x1024 : Shape := ⟨3, ![1, 1024, 1024]⟩
abbrev S1x1024 : Shape := ⟨2, ![1, 1024]⟩
abbrev S2048x1024 : Shape := ⟨2, ![2048, 1024]⟩
abbrev S1024 : Shape := ⟨1, ![1024]⟩
abbrev S32768x1024 : Shape := ⟨2, ![32768, 1024]⟩
abbrev S1024x1024 : Shape := ⟨2, ![1024, 1024]⟩
abbrev S512x1024 : Shape := ⟨2, ![512, 1024]⟩
abbrev S512x512 : Shape := ⟨2, ![512, 512]⟩
abbrev S256x1024 : Shape := ⟨2, ![256, 1024]⟩
abbrev S512 : Shape := ⟨1, ![512]⟩
abbrev S512x1 : Shape := ⟨2, ![512, 1]⟩
abbrev S512x256 : Shape := ⟨2, ![512, 256]⟩
abbrev S256x256 : Shape := ⟨2, ![256, 256]⟩

abbrev nBuf : Space → Nat
  | .hbm => 21
  | .vmem => 18
  | .smem => 0
  | _ => 0

abbrev bufTy : (tb : Table) → Fin (tcTables nBuf tb) → BufTy
  | .hbm, ⟨0, _⟩ => ⟨S8x4096x1024, .f32⟩
  | .hbm, ⟨1, _⟩ => ⟨S32768x512, .bf16⟩
  | .hbm, ⟨2, _⟩ => ⟨S32768x512, .bf16⟩
  | .hbm, ⟨3, _⟩ => ⟨S1x1024x1024, .f32⟩
  | .hbm, ⟨4, _⟩ => ⟨S1x1024, .f32⟩
  | .hbm, ⟨5, _⟩ => ⟨S1x1024x1024, .f32⟩
  | .hbm, ⟨6, _⟩ => ⟨S2048x1024, .bf16⟩
  | .hbm, ⟨7, _⟩ => ⟨S2048x1024, .bf16⟩
  | .hbm, ⟨8, _⟩ => ⟨S1x1024x1024, .f32⟩
  | .hbm, ⟨9, _⟩ => ⟨S1024, .f32⟩
  | .hbm, ⟨10, _⟩ => ⟨S32768x1024, .f32⟩
  | .hbm, ⟨11, _⟩ => ⟨S1024x1024, .f32⟩
  | .hbm, ⟨12, _⟩ => ⟨S1024x1024, .bf16⟩
  | .hbm, ⟨13, _⟩ => ⟨S1024, .f32⟩
  | .hbm, ⟨14, _⟩ => ⟨S1x1024, .f32⟩
  | .hbm, ⟨15, _⟩ => ⟨S1024x1024, .f32⟩
  | .hbm, ⟨16, _⟩ => ⟨S1024x1024, .bf16⟩
  | .hbm, ⟨17, _⟩ => ⟨S1024x1024, .f32⟩
  | .hbm, ⟨18, _⟩ => ⟨S1024x1024, .bf16⟩
  | .hbm, ⟨19, _⟩ => ⟨S1x1024, .f32⟩
  | .hbm, ⟨20, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S1024x1024, .bf16⟩
  | .local _ .vmem, ⟨7, _⟩ => ⟨S1x1024, .f32⟩
  | .local _ .vmem, ⟨8, _⟩ => ⟨S1024x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S1024x1024, .bf16⟩
  | .local _ .vmem, ⟨14, _⟩ => ⟨S1x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_7 (i : grid0.Coords) : Fin 2 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== OutCrossRefIdeal.lean ====
abbrev S8x4096x1024 : Shape := ⟨3, ![8, 4096, 1024]⟩
abbrev S32768x512 : Shape := ⟨2, ![32768, 512]⟩
abbrev S1x1024x1024 : Shape := ⟨3, ![1, 1024, 1024]⟩
abbrev S1x1024 : Shape := ⟨2, ![1, 1024]⟩
abbrev S2048x1024 : Shape := ⟨2, ![2048, 1024]⟩
abbrev S1024 : Shape := ⟨1, ![1024]⟩
abbrev S8x4096x512 : Shape := ⟨3, ![8, 4096, 512]⟩
abbrev S1024x1024 : Shape := ⟨2, ![1024, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x4x256 : Shape := ⟨4, ![8, 4096, 4, 256]⟩
abbrev S8x256x4x256 : Shape := ⟨4, ![8, 256, 4, 256]⟩
abbrev S8x4x4096x256 : Shape := ⟨4, ![8, 4, 4096, 256]⟩
abbrev S8x4x4096 : Shape := ⟨3, ![8, 4, 4096]⟩
abbrev S8x4x4096x1 : Shape := ⟨4, ![8, 4, 4096, 1]⟩
abbrev S8x4x256x4096 : Shape := ⟨4, ![8, 4, 256, 4096]⟩
abbrev S32768x1024 : Shape := ⟨2, ![32768, 1024]⟩

abbrev nBuf : Space → Nat
  | .hbm => 83
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S32768x512, .bf16⟩
  | .hbm, ⟨2, _⟩ => ⟨S32768x512, .bf16⟩
  | .hbm, ⟨3, _⟩ => ⟨S1x1024x1024, .f32⟩
  | .hbm, ⟨4, _⟩ => ⟨S1x1024, .f32⟩
  | .hbm, ⟨5, _⟩ => ⟨S1x1024x1024, .f32⟩
  | .hbm, ⟨6, _⟩ => ⟨S2048x1024, .bf16⟩
  | .hbm, ⟨7, _⟩ => ⟨S2048x1024, .bf16⟩
  | .hbm, ⟨8, _⟩ => ⟨S1x1024x1024, .f32⟩
  | .hbm, ⟨9, _⟩ => ⟨S1024, .f32⟩
  | .hbm, ⟨10, _⟩ => ⟨S32768x512, .f32⟩
  | .hbm, ⟨11, _⟩ => ⟨S8x4096x512, .f32⟩
  | .hbm, ⟨12, _⟩ => ⟨S32768x512, .f32⟩
  | .hbm, ⟨13, _⟩ => ⟨S8x4096x512, .f32⟩
  | .hbm, ⟨14, _⟩ => ⟨S8x4096x1024, .f32⟩
  | .hbm, ⟨15, _⟩ => ⟨S1024x1024, .f32⟩
  | .hbm, ⟨16, _⟩ => ⟨S8x4096x1024, .f32⟩
  | .hbm, ⟨17, _⟩ => ⟨S8x4096x1024, .f32⟩
  | .hbm, ⟨18, _⟩ => ⟨S8x4096x1024, .f32⟩
  | .hbm, ⟨19, _⟩ => ⟨S_, .f32⟩
  | .hbm, ⟨20, _⟩ => ⟨S8x4096, .f32⟩
  | .hbm, ⟨21, _⟩ => ⟨S8x4096x1, .f32⟩
  | .hbm, ⟨22, _⟩ => ⟨S_, .f32⟩
  | .hbm, ⟨23, _⟩ => ⟨S8x4096x1, .f32⟩
  | .hbm, ⟨24, _⟩ => ⟨S8x4096x1, .f32⟩
  | .hbm, ⟨25, _⟩ => ⟨S_, .f32⟩
  | .hbm, ⟨26, _⟩ => ⟨S8x4096x1, .f32⟩
  | .hbm, ⟨27, _⟩ => ⟨S8x4096x1, .f32⟩
  | .hbm, ⟨28, _⟩ => ⟨S8x4096x1, .f32⟩
  | .hbm, ⟨29, _⟩ => ⟨S8x4096x1024, .f32⟩
  | .hbm, ⟨30, _⟩ => ⟨S8x4096x1024, .f32⟩
  | .hbm, ⟨31, _⟩ => ⟨S1024, .f32⟩
  | .hbm, ⟨32, _⟩ => ⟨S1x1x1024, .f32⟩
  | .hbm, ⟨33, _⟩ => ⟨S8x4096x1024, .f32⟩
  | .hbm, ⟨34, _⟩ => ⟨S8x4096x1024, .f32⟩
  | .hbm, ⟨35, _⟩ => ⟨S1024x1024, .f32⟩
  | .hbm, ⟨36, _⟩ => ⟨S8x4096x1024, .f32⟩
  | .hbm, ⟨37, _⟩ => ⟨S8x4096x4x256, .f32⟩
  | .hbm, ⟨38, _⟩ => ⟨S2048x1024, .f32⟩
  | .hbm, ⟨39, _⟩ => ⟨S8x256x4x256, .f32⟩
  | .hbm, ⟨40, _⟩ => ⟨S2048x1024, .f32⟩
  | .hbm, ⟨41, _⟩ => ⟨S8x256x4x256, .f32⟩
  | .hbm, ⟨42, _⟩ => ⟨S8x4x4096x256, .f32⟩
  | .hbm, ⟨43, _⟩ => ⟨S_, .f32⟩
  | .hbm, ⟨44, _⟩ => ⟨S8x4x4096x256, .f32⟩
  | .hbm, ⟨45, _⟩ => ⟨S8x4x4096x256, .f32⟩
  | .hbm, ⟨46, _⟩ => ⟨S_, .f32⟩
  | .hbm, ⟨47, _⟩ => ⟨S8x4x4096, .f32⟩
  | .hbm, ⟨48, _⟩ => ⟨S_, .f32⟩
  | .hbm, ⟨49, _⟩ => ⟨S8x4x4096, .f32⟩
  | .hbm, ⟨50, _⟩ => ⟨S8x4x4096, .f32⟩
  | .hbm, ⟨51, _⟩ => ⟨S8x4x4096x1, .f32⟩
  | .hbm, ⟨52, _⟩ => ⟨S8x4x4096x256, .f32⟩
  | .hbm, ⟨53, _⟩ => ⟨S8x4x4096x256, .f32⟩
  | .hbm, ⟨54, _⟩ => ⟨S8x4x4096x256, .f32⟩
  | .hbm, ⟨55, _⟩ => ⟨S_, .f32⟩
  | .hbm, ⟨56, _⟩ => ⟨S8x4x4096, .f32⟩
  | .hbm, ⟨57, _⟩ => ⟨S8x4x4096x1, .f32⟩
  | .hbm, ⟨58, _⟩ => ⟨S8x4x4096x256, .f32⟩
  | .hbm, ⟨59, _⟩ => ⟨S8x4x4096x256, .f32⟩
  | .hbm, ⟨60, _⟩ => ⟨S8x4x256x4096, .f32⟩
  | .hbm, ⟨61, _⟩ => ⟨S8x4096x4x256, .f32⟩
  | .hbm, ⟨62, _⟩ => ⟨S8x4096x1024, .f32⟩
  | .hbm, ⟨63, _⟩ => ⟨S1024x1024, .f32⟩
  | .hbm, ⟨64, _⟩ => ⟨S8x4096x1024, .f32⟩
  | .hbm, ⟨65, _⟩ => ⟨S8x4096x1024, .f32⟩
  | .hbm, ⟨66, _⟩ => ⟨S8x4096x1024, .f32⟩
  | .hbm, ⟨67, _⟩ => ⟨S_, .f32⟩
  | .hbm, ⟨68, _⟩ => ⟨S8x4096, .f32⟩
  | .hbm, ⟨69, _⟩ => ⟨S8x4096x1, .f32⟩
  | .hbm, ⟨70, _⟩ => ⟨S_, .f32⟩
  | .hbm, ⟨71, _⟩ => ⟨S8x4096x1, .f32⟩
  | .hbm, ⟨72, _⟩ => ⟨S8x4096x1, .f32⟩
  | .hbm, ⟨73, _⟩ => ⟨S_, .f32⟩
  | .hbm, ⟨74, _⟩ => ⟨S8x4096x1, .f32⟩
  | .hbm, ⟨75, _⟩ => ⟨S8x4096x1, .f32⟩
  | .hbm, ⟨76, _⟩ => ⟨S8x4096x1, .f32⟩
  | .hbm, ⟨77, _⟩ => ⟨S8x4096x1024, .f32⟩
  | .hbm, ⟨78, _⟩ => ⟨S8x4096x1024, .f32⟩
  | .hbm, ⟨79, _⟩ => ⟨S1x1x1024, .f32⟩
  | .hbm, ⟨80, _⟩ => ⟨S8x4096x1024, .f32⟩
  | .hbm, ⟨81, _⟩ => ⟨S8x4096x1024, .f32⟩
  | .hbm, ⟨82, _⟩ => ⟨S32768x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_v10 : Ref sig .tc := ⟨.hbm, 21, rfl⟩
abbrev main_cst_0 : Ref sig .tc := ⟨.hbm, 22, rfl⟩
abbrev main_v11 : Ref sig .tc := ⟨.hbm, 23, rfl⟩
abbrev main_v12 : Ref sig .tc := ⟨.hbm, 24, rfl⟩
abbrev main_cst_1 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_2 : Ref sig .tc := ⟨.hbm, 43, rfl⟩
abbrev main_v30 : Ref sig .tc := ⟨.hbm, 44, rfl⟩
abbrev main_v31 : Ref sig .tc := ⟨.hbm, 45, rfl⟩
abbrev main_cst_3 : Ref sig .tc := ⟨.hbm, 46, rfl⟩
abbrev main_v32 : Ref sig .tc := ⟨.hbm, 47, rfl⟩
abbrev main_cst_4 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_5 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_6 : Ref sig .tc := ⟨.hbm, 67, rfl⟩
abbrev main_v50 : Ref sig .tc := ⟨.hbm, 68, rfl⟩
abbrev main_v51 : Ref sig .tc := ⟨.hbm, 69, rfl⟩
abbrev main_cst_7 : Ref sig .tc := ⟨.hbm, 70, rfl⟩
abbrev main_v52 : Ref sig .tc := ⟨.hbm, 71, rfl⟩
abbrev main_v53 : Ref sig .tc := ⟨.hbm, 72, rfl⟩
abbrev main_cst_8 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩

abbrev nD : Nat := 1
abbrev τ : Topo := Topo.v7x

variable {F : FTy → Type} [FloatOps F]
-- ==== InProj.lean ====
abbrev S8x4096x1024 : Shape := ⟨3, ![8, 4096, 1024]⟩
abbrev S8x4096 : Shape := ⟨2, ![8, 4096]⟩
abbrev S1x1024 : Shape := ⟨2, ![1, 1024]⟩
abbrev S1x1024x3600 : Shape := ⟨3, ![1, 1024, 3600]⟩
abbrev S1x16x256 : Shape := ⟨3, ![1, 16, 256]⟩
abbrev S1x256 : Shape := ⟨2, ![1, 256]⟩
abbrev S8 : Shape := ⟨1, ![8]⟩
abbrev S_ : Shape := ⟨0, ![]⟩
abbrev S8x4096x1 : Shape := ⟨3, ![8, 4096, 1]⟩
abbrev S1x1x8 : Shape := ⟨3, ![1, 1, 8]⟩
abbrev S8x4096x8 : Shape := ⟨3, ![8, 4096, 8]⟩
abbrev S8x4096x48 : Shape := ⟨3, ![8, 4096, 48]⟩
abbrev S8x4096x64 : Shape := ⟨3, ![8, 4096, 64]⟩
abbrev S8x4096x128 : Shape := ⟨3, ![8, 4096, 128]⟩
abbrev S32768x128 : Shape := ⟨2, ![32768, 128]⟩
abbrev S32768x1024 : Shape := ⟨2, ![32768, 1024]⟩
abbrev S1024x3600 : Shape := ⟨2, ![1024, 3600]⟩
abbrev S1024x1536 : Shape := ⟨2, ![1024, 1536]⟩
abbrev S1024x16 : Shape := ⟨2, ![1024, 16]⟩
abbrev S1024x128 : Shape := ⟨2, ![1024, 128]⟩
abbrev S1024x2048 : Shape := ⟨2, ![1024, 2048]⟩
abbrev S16x256 : Shape := ⟨2, ![16, 256]⟩
abbrev S128x256 : Shape := ⟨2, ![128, 256]⟩
abbrev S256 : Shape := ⟨1, ![256]⟩
abbrev S1024 : Shape := ⟨1, ![1024]⟩
abbrev S32768x256 : Shape := ⟨2, ![32768, 256]⟩
abbrev S32768x512 : Shape := ⟨2, ![32768, 512]⟩
abbrev S512x1024 : Shape := ⟨2, ![512, 1024]⟩
abbrev S512x128 : Shape := ⟨2, ![512, 128]⟩
abbrev S512x256 : Shape := ⟨2, ![512, 256]⟩
abbrev S512x512 : Shape := ⟨2, ![512, 512]⟩
abbrev S512 : Shape := ⟨1, ![512]⟩
abbrev S512x1 : Shape := ⟨2, ![512, 1]⟩
abbrev S1024x256 : Shape := ⟨2, ![1024, 256]⟩
abbrev S1024x512 : Shape := ⟨2, ![1024, 512]⟩

abbrev nBuf : Space → Nat
  | .hbm => 69
  | .vmem => 30
  | .smem => 0
  | _ => 0

abbrev bufTy : (tb : Table) → Fin (tcTables nBuf tb) → BufTy
  | .hbm, ⟨0, _⟩ => ⟨S8x4096x1024, .f32⟩
  | .hbm, ⟨1, _⟩ => ⟨S8x4096, .i32⟩
  | .hbm, ⟨2, _⟩ => ⟨S1x1024, .f32⟩
  | .hbm, ⟨3, _⟩ => ⟨S1x1024x3600, .f32⟩
  | .hbm, ⟨4, _⟩ => ⟨S1x16x256, .f32⟩
  | .hbm, ⟨5, _⟩ => ⟨S1x256, .f32⟩
  | .hbm, ⟨6, _⟩ => ⟨S8x4096, .f32⟩
  | .hbm, ⟨7, _⟩ => ⟨S8, .f32⟩
  | .hbm, ⟨8, _⟩ => ⟨S_, .f32⟩
  | .hbm, ⟨9, _⟩ => ⟨S8, .f32⟩
  | .hbm, ⟨10, _⟩ => ⟨S8, .f32⟩
  | .hbm, ⟨11, _⟩ => ⟨S_, .f32⟩
  | .hbm, ⟨12, _⟩ => ⟨S8, .f32⟩
  | .hbm, ⟨13, _⟩ => ⟨S8, .f32⟩
  | .hbm, ⟨14, _⟩ => ⟨S_, .f32⟩
  | .hbm, ⟨15, _⟩ => ⟨S8, .f32⟩
  | .hbm, ⟨16, _⟩ => ⟨S8, .f32⟩
  | .hbm, ⟨17, _⟩ => ⟨S8, .f32⟩
  | .hbm, ⟨18, _⟩ => ⟨S_, .f32⟩
  | .hbm, ⟨19, _⟩ => ⟨S8, .f32⟩
  | .hbm, ⟨20, _⟩ => ⟨S8, .f32⟩
  | .hbm, ⟨21, _⟩ => ⟨S8x4096x1, .f32⟩
  | .hbm, ⟨22, _⟩ => ⟨S1x1x8, .f32⟩
  | .hbm, ⟨23, _⟩ => ⟨S8x4096x8, .f32⟩
  | .hbm, ⟨24, _⟩ => ⟨S8x4096x8, .f32⟩
  | .hbm, ⟨25, _⟩ => ⟨S8x4096x8, .f32⟩
  | .hbm, ⟨26, _⟩ => ⟨S8x4096x8, .f32⟩
  | .hbm, ⟨27, _⟩ => ⟨S8x4096x8, .f32⟩
  | .hbm, ⟨28, _⟩ => ⟨S_, .f32⟩
  | .hbm, ⟨29, _⟩ => ⟨S8x4096x48, .f32⟩
  | .hbm, ⟨30, _⟩ => ⟨S8x4096x64, .f32⟩
  | .hbm, ⟨31, _⟩ => ⟨S8x4096x8, .f32⟩
  | .hbm, ⟨32, _⟩ => ⟨S_, .f32⟩
  | .hbm, ⟨33, _⟩ => ⟨S8x4096x48, .f32⟩
  | .hbm, ⟨34, _⟩ => ⟨S8x4096x48, .f32⟩
  | .hbm, ⟨35, _⟩ => ⟨S8x4096x64, .f32⟩
  | .hbm, ⟨36, _⟩ => ⟨S8x4096x128, .f32⟩
  | .hbm, ⟨37, _⟩ => ⟨S32768x128, .f32⟩
  | .hbm, ⟨38, _⟩ => ⟨S8x4096x128, .f32⟩
  | .hbm, ⟨39, _⟩ => ⟨S32768x128, .f32⟩
  | .hbm, ⟨40, _⟩ => ⟨S32768x1024, .f32⟩
  | .hbm, ⟨41, _⟩ => ⟨S1024x3600, .f32⟩
  | .hbm, ⟨42, _⟩ => ⟨S1024x1536, .f32⟩
  | .hbm, ⟨43, _⟩ => ⟨S1024x1536, .bf16⟩
  | .hbm, ⟨44, _⟩ => ⟨S1024x16, .f32⟩
  | .hbm, ⟨45, _⟩ => ⟨S_, .i32⟩
  | .hbm, ⟨46, _⟩ => ⟨S_, .f32⟩
  | .hbm, ⟨47, _⟩ => ⟨S1024x128, .f32⟩
  | .hbm, ⟨48, _⟩ => ⟨S1024x128, .bf16⟩
  | .hbm, ⟨49, _⟩ => ⟨S1024x2048, .f32⟩
  | .hbm, ⟨50, _⟩ => ⟨S1024x2048, .bf16⟩
  | .hbm, ⟨51, _⟩ => ⟨S16x256, .f32⟩
  | .hbm, ⟨52, _⟩ => ⟨S_, .i32⟩
  | .hbm, ⟨53, _⟩ => ⟨S_, .f32⟩
  | .hbm, ⟨54, _⟩ => ⟨S128x256, .f32⟩
  | .hbm, ⟨55, _⟩ => ⟨S128x256, .bf16⟩
  | .hbm, ⟨56, _⟩ => ⟨S256, .f32⟩
  | .hbm, ⟨57, _⟩ => ⟨S1x256, .f32⟩
  | .hbm, ⟨58, _⟩ => ⟨S1024, .f32⟩
  | .hbm, ⟨59, _⟩ => ⟨S1x1024, .f32⟩
  | .hbm, ⟨60, _⟩ => ⟨S32768x256, .f32⟩
  | .hbm, ⟨61, _⟩ => ⟨S32768x256, .f32⟩
  | .hbm, ⟨62, _⟩ => ⟨S32768x512, .bf16⟩
  | .hbm, ⟨63, _⟩ => ⟨S32768x512, .bf16⟩
  | .hbm, ⟨64, _⟩ => ⟨S32768x256, .f32⟩
  | .hbm, ⟨65, _⟩ => ⟨S32768x512, .bf16⟩
  | .hbm, ⟨66, _⟩ => ⟨S32768x512, .bf16⟩
  | .hbm, ⟨67, _⟩ => ⟨S32768x512, .bf16⟩
  | .hbm, ⟨68, _⟩ => ⟨S32768x512, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1536, .bf16⟩
  | .local _ .vmem, ⟨4, _⟩ => ⟨S1024x128, .bf16⟩
  | .local _ .vmem, ⟨5, _⟩ => ⟨S128x256, .bf16⟩
  | .local _ .vmem, ⟨6, _⟩ => ⟨S1x256, .f32⟩
  | .local _ .vmem, ⟨7, _⟩ => ⟨S1024x2048, .bf16⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x256, .f32⟩
  | .local _ .vmem, ⟨13, _⟩ => ⟨S512x256, .f32⟩
  | .local _ .vmem, ⟨14, _⟩ => ⟨S512x256, .f32⟩
  | .local _ .vmem, ⟨15, _⟩ => ⟨S512x256, .f32⟩
  | .local _ .vmem, ⟨16, _⟩ => ⟨S512x512, .bf16⟩
  | .local _ .vmem, ⟨17, _⟩ => ⟨S512x512, .bf16⟩
  | .local _ .vmem, ⟨18, _⟩ => ⟨S512x512, .bf16⟩
  | .local _ .vmem, ⟨19, _⟩ => ⟨S512x512, .bf16⟩
  | .local _ .vmem, ⟨20, _⟩ => ⟨S512x256, .f32⟩
  | .local _ .vmem, ⟨21, _⟩ => ⟨S512x256, .f32⟩
  | .local _ .vmem, ⟨22, _⟩ => ⟨S512x512, .bf16⟩
  | .local _ .vmem, ⟨23, _⟩ => ⟨S512x512, .bf16⟩
  | .local _ .vmem, ⟨24, _⟩ => ⟨S512x512, .bf16⟩
  | .local _ .vmem, ⟨25, _⟩ => ⟨S512x512, .bf16⟩
  | .local _ .vmem, ⟨26, _⟩ => ⟨S512x512, .bf16⟩
  | .local _ .vmem, ⟨27, _⟩ => ⟨S512x512, .bf16⟩
  | .local _ .vmem, ⟨28, _⟩ => ⟨S512x512, .bf16⟩
  | .local _ .vmem, ⟨29, _⟩ => ⟨S512x512, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_c : Ref sig .tc := ⟨.hbm, 45, rfl⟩
abbrev main_call0_v0 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_c_5 : Ref sig .tc := ⟨.hbm, 52, rfl⟩
abbrev main_call1_v0 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44_0 : Ref sig .tc := ⟨.hbm, 60, rfl⟩
abbrev main_v44_1 : Ref sig .tc := ⟨.hbm, 61, rfl⟩
abbrev main_v44_2 : Ref sig .tc := ⟨.hbm, 62, rfl⟩
abbrev main_v44_3 : Ref sig .tc := ⟨.hbm, 63, rfl⟩
abbrev main_v44_4 : Ref sig .tc := ⟨.hbm, 64, rfl⟩
abbrev main_v44_5 : Ref sig .tc := ⟨.hbm, 65, rfl⟩
abbrev main_v44_6 : Ref sig .tc := ⟨.hbm, 66, rfl⟩
abbrev main_v44_7 : Ref sig .tc := ⟨.hbm, 67, rfl⟩
abbrev main_v44_8 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem17_1 : DmaSem sig := 29

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== InProjRefIdeal.lean ====
abbrev S8x4096x1024 : Shape := ⟨3, ![8, 4096, 1024]⟩
abbrev S8x4096 : Shape := ⟨2, ![8, 4096]⟩
abbrev S1x1024 : Shape := ⟨2, ![1, 1024]⟩
abbrev S1x1024x3600 : Shape := ⟨3, ![1, 1024, 3600]⟩
abbrev S1x16x256 : Shape := ⟨3, ![1, 16, 256]⟩
abbrev S1x256 : Shape := ⟨2, ![1, 256]⟩
abbrev S8 : Shape := ⟨1, ![8]⟩
abbrev S_ : Shape := ⟨0, ![]⟩
abbrev S8x4096x1 : Shape := ⟨3, ![8, 4096, 1]⟩
abbrev S1x1x8 : Shape := ⟨3, ![1, 1, 8]⟩
abbrev S8x4096x8 : Shape := ⟨3, ![8, 4096, 8]⟩
abbrev S8x4096x16 : Shape := ⟨3, ![8, 4096, 16]⟩
abbrev S1024 : Shape := ⟨1, ![1024]⟩
abbrev S1x1x1024 : Shape := ⟨3, ![1, 1, 1024]⟩
abbrev S1024x3600 : Shape := ⟨2, ![1024, 3600]⟩
abbrev S8x4096x3600 : Shape := ⟨3, ![8, 4096, 3600]⟩
abbrev S8x4096x256 : Shape := ⟨3, ![8, 4096, 256]⟩
abbrev S8x4096x512 : Shape := ⟨3, ![8, 4096, 512]⟩
abbrev S16x256 : Shape := ⟨2, ![16, 256]⟩
abbrev S256 : Shape := ⟨1, ![256]⟩
abbrev S1x1x256 : Shape := ⟨3, ![1, 1, 256]⟩
abbrev S8x4096x4x2x64 : Shape := ⟨5, ![8, 4096, 4, 2, 64]⟩
abbrev S8x4096x4x2x16 : Shape := ⟨5, ![8, 4096, 4, 2, 16]⟩
abbrev S8x4096x4x2x48 : Shape := ⟨5, ![8, 4096, 4, 2, 48]⟩
abbrev S8x4096x4x2x8 : Shape := ⟨5, ![8, 4096, 4, 2, 8]⟩
abbrev S8x4096x1x1x16 : Shape := ⟨5, ![8, 4096, 1, 1, 16]⟩
abbrev S32768x256 : Shape := ⟨2, ![32768, 256]⟩
abbrev S32768x512 : Shape := ⟨2, ![32768, 512]⟩

abbrev nBuf : Space → Nat
  | .hbm => 154
  | .vmem => 0
  | .smem => 0
  | _ => 0

abbrev hbmTy0_0 (i : Nat) : BufTy := match i % 128 with
  | 0 => ⟨S8x4096x1024, .f32⟩
  | 1 => ⟨S8x4096, .i32⟩
  | 2 => ⟨S1x1024, .f32⟩
  | 3 => ⟨S1x1024x3600, .f32⟩
  | 4 => ⟨S1x16x256, .f32⟩
  | 5 => ⟨S1x256, .f32⟩
  | 6 => ⟨S8x4096, .f32⟩
  | 7 => ⟨S8, .f32⟩
  | 8 => ⟨S_, .f32⟩
  | 9 => ⟨S8, .f32⟩
  | 10 => ⟨S8, .f32⟩
  | 11 => ⟨S_, .f32⟩
  | 12 => ⟨S8, .f32⟩
  | 13 => ⟨S8, .f32⟩
  | 14 => ⟨S_, .f32⟩
  | 15 => ⟨S8, .f32⟩
  | 16 => ⟨S8, .f32⟩
  | 17 => ⟨S8, .f32⟩
  | 18 => ⟨S_, .f32⟩
  | 19 => ⟨S8, .f32⟩
  | 20 => ⟨S8, .f32⟩
  | 21 => ⟨S8x4096x1, .f32⟩
  | 22 => ⟨S1x1x8, .f32⟩
  | 23 => ⟨S8x4096x8, .f32⟩
  | 24 => ⟨S8x4096x8, .f32⟩
  | 25 => ⟨S8x4096x8, .f32⟩
  | 26 => ⟨S8x4096x8, .f32⟩
  | 27 => ⟨S8x4096x8, .f32⟩
  | 28 => ⟨S8x4096x16, .f32⟩
  | 29 => ⟨S8x4096x8, .f32⟩
  | 30 => ⟨S8x4096x8, .f32⟩
  | 31 => ⟨S8x4096x16, .f32⟩
  | 32 => ⟨S8x4096x1024, .f32⟩
  | 33 => ⟨S_, .f32⟩
  | 34 => ⟨S8x4096, .f32⟩
  | 35 => ⟨S8x4096x1, .f32⟩
  | 36 => ⟨S_, .f32⟩
  | 37 => ⟨S8x4096x1, .f32⟩
  | 38 => ⟨S8x4096x1, .f32⟩
  | 39 => ⟨S_, .f32⟩
  | 40 => ⟨S8x4096x1, .f32⟩
  | 41 => ⟨S8x4096x1, .f32⟩
  | 42 => ⟨S8x4096x1, .f32⟩
  | 43 => ⟨S8x4096x1024, .f32⟩
  | 44 => ⟨S8x4096x1024, .f32⟩
  | 45 => ⟨S1024, .f32⟩
  | 46 => ⟨S1x1x1024, .f32⟩
  | 47 => ⟨S8x4096x1024, .f32⟩
  | 48 => ⟨S8x4096x1024, .f32⟩
  | 49 => ⟨S1024x3600, .f32⟩
  | 50 => ⟨S8x4096x3600, .f32⟩
  | 51 => ⟨S8x4096x256, .f32⟩
  | 52 => ⟨S8x4096x256, .f32⟩
  | 53 => ⟨S8x4096x512, .f32⟩
  | 54 => ⟨S8x4096x512, .f32⟩
  | 55 => ⟨S8x4096x16, .f32⟩
  | 56 => ⟨S8x4096x512, .f32⟩
  | 57 => ⟨S8x4096x512, .f32⟩
  | 58 => ⟨S8x4096x512, .f32⟩
  | 59 => ⟨S8x4096x512, .f32⟩
  | 60 => ⟨S16x256, .f32⟩
  | 61 => ⟨S8x4096x256, .f32⟩
  | 62 => ⟨S256, .f32⟩
  | 63 => ⟨S1x1x256, .f32⟩
  | 64 => ⟨S8x4096x256, .f32⟩
  | 65 => ⟨S8x4096x256, .f32⟩
  | 66 => ⟨S8x4096x256, .f32⟩
  | 67 => ⟨S_, .f32⟩
  | 68 => ⟨S8x4096x256, .f32⟩
  | 69 => ⟨S8x4096x256, .f32⟩
  | 70 => ⟨S8x4096x256, .f32⟩
  | 71 => ⟨S8x4096x256, .f32⟩
  | 72 => ⟨S8x4096x256, .i1⟩
  | 73 => ⟨S8x4096x256, .f32⟩
  | 74 => ⟨S8x4096x256, .f32⟩
  | 75 => ⟨S8x4096x256, .f32⟩
  | 76 => ⟨S8x4096x256, .f32⟩
  | 77 => ⟨S8x4096x256, .f32⟩
  | 78 => ⟨S8x4096x256, .f32⟩
  | 79 => ⟨S8x4096x256, .f32⟩
  | 80 => ⟨S8x4096x256, .f32⟩
  | 81 => ⟨S8x4096x256, .f32⟩
  | 82 => ⟨S_, .f32⟩
  | 83 => ⟨S8x4096x256, .f32⟩
  | 84 => ⟨S8x4096x256, .f32⟩
  | 85 => ⟨S8x4096x4x2x64, .f32⟩
  | 86 => ⟨S8x4096x4x2x16, .f32⟩
  | 87 => ⟨S8x4096x4x2x48, .f32⟩
  | 88 => ⟨S8x4096x4x2x8, .f32⟩
  | 89 => ⟨S8x4096x4x2x8, .f32⟩
  | 90 => ⟨S8x4096x1x1x16, .f32⟩
  | 91 => ⟨S8x4096x1x1x16, .f32⟩
  | 92 => ⟨S8x4096x4x2x16, .f32⟩
  | 93 => ⟨S8x4096x4x2x16, .f32⟩
  | 94 => ⟨S8x4096x4x2x8, .f32⟩
  | 95 => ⟨S8x4096x4x2x16, .f32⟩
  | 96 => ⟨S8x4096x4x2x16, .f32⟩
  | 97 => ⟨S8x4096x4x2x16, .f32⟩
  | 98 => ⟨S8x4096x4x2x16, .f32⟩
  | 99 => ⟨S8x4096x4x2x64, .f32⟩
  | 100 => ⟨S_, .f32⟩
  | 101 => ⟨S8x4096x4x2x64, .f32⟩
  | 102 => ⟨S8x4096x4x2x64, .f32⟩
  | 103 => ⟨S8x4096x4x2x64, .f32⟩
  | 104 => ⟨S8x4096x4x2x16, .f32⟩
  | 105 => ⟨S8x4096x4x2x48, .f32⟩
  | 106 => ⟨S8x4096x4x2x8, .f32⟩
  | 107 => ⟨S8x4096x4x2x8, .f32⟩
  | 108 => ⟨S8x4096x1x1x16, .f32⟩
  | 109 => ⟨S8x4096x1x1x16, .f32⟩
  | 110 => ⟨S8x4096x4x2x16, .f32⟩
  | 111 => ⟨S8x4096x4x2x16, .f32⟩
  | 112 => ⟨S8x4096x4x2x8, .f32⟩
  | 113 => ⟨S8x4096x4x2x16, .f32⟩
  | 114 => ⟨S8x4096x4x2x16, .f32⟩
  | 115 => ⟨S8x4096x4x2x16, .f32⟩
  | 116 => ⟨S8x4096x4x2x16, .f32⟩
  | 117 => ⟨S8x4096x4x2x64, .f32⟩
  | 118 => ⟨S_, .f32⟩
  | 119 => ⟨S8x4096x256, .f32⟩
  | 120 => ⟨S8x4096x256, .f32⟩
  | 121 => ⟨S32768x256, .f32⟩
  | 122 => ⟨S32768x256, .f32⟩
  | 123 => ⟨S32768x512, .f32⟩
  | 124 => ⟨S32768x512, .bf16⟩
  | 125 => ⟨S8x4096x512, .f32⟩
  | 126 => ⟨S8x4096x512, .f32⟩
  | 127 => ⟨S_, .f32⟩
  | _ => ⟨S8x4096x1024, .f32⟩

abbrev hbmTy0_1 (i : Nat) : BufTy := match i % 128 with
  | 0 => ⟨S8x4096x512, .f32⟩
  | 1 => ⟨S8x4096x512, .f32⟩
  | 2 => ⟨S_, .f32⟩
  | 3 => ⟨S8x4096x512, .f32⟩
  | 4 => ⟨S8x4096x512, .f32⟩
  | 5 => ⟨S8x4096x512, .f32⟩
  | 6 => ⟨S32768x512, .f32⟩
  | 7 => ⟨S32768x512, .bf16⟩
  | 8 => ⟨S32768x256, .f32⟩
  | 9 => ⟨S32768x512, .f32⟩
  | 10 => ⟨S32768x512, .bf16⟩
  | 11 => ⟨S32768x512, .f32⟩
  | 12 => ⟨S32768x512, .bf16⟩
  | 13 => ⟨S32768x512, .f32⟩
  | 14 => ⟨S32768x512, .bf16⟩
  | 15 => ⟨S8x4096x512, .f32⟩
  | 16 => ⟨S8x4096x512, .f32⟩
  | 17 => ⟨S_, .f32⟩
  | 18 => ⟨S8x4096x512, .f32⟩
  | 19 => ⟨S8x4096x512, .f32⟩
  | 20 => ⟨S_, .f32⟩
  | 21 => ⟨S8x4096x512, .f32⟩
  | 22 => ⟨S8x4096x512, .f32⟩
  | 23 => ⟨S8x4096x512, .f32⟩
  | 24 => ⟨S32768x512, .f32⟩
  | 25 => ⟨S32768x512, .bf16⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_cst_5 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_call0_v0 : Ref sig .tc := ⟨.hbm, 66, rfl⟩
abbrev main_call0_call0_cst : Ref sig .tc := ⟨.hbm, 67, rfl⟩
abbrev main_call0_call0_v0 : Ref sig .tc := ⟨.hbm, 68, rfl⟩
abbrev main_call0_call0_v1 : Ref sig .tc := ⟨.hbm, 69, rfl⟩
abbrev main_call0_call0_v2 : Ref sig .tc := ⟨.hbm, 70, rfl⟩
abbrev main_call0_call0_v3 : Ref sig .tc := ⟨.hbm, 71, rfl⟩
abbrev main_call0_call0_v4 : Ref sig .tc := ⟨.hbm, 72, rfl⟩
abbrev main_call0_call0_v5 : Ref sig .tc := ⟨.hbm, 73, rfl⟩
abbrev main_call0_call0_v6 : Ref sig .tc := ⟨.hbm, 74, rfl⟩
abbrev main_call0_call0_v7 : Ref sig .tc := ⟨.hbm, 75, rfl⟩
abbrev main_call0_call0_v8 : Ref sig .tc := ⟨.hbm, 76, rfl⟩
abbrev main_call0_call0_v9 : Ref sig .tc := ⟨.hbm, 77, rfl⟩
abbrev main_call0_call0_v10 : Ref sig .tc := ⟨.hbm, 78, rfl⟩
abbrev main_call0_call0_v11 : Ref sig .tc := ⟨.hbm, 79, rfl⟩
abbrev main_call0_v1 : Ref sig .tc := ⟨.hbm, 80, rfl⟩
abbrev main_v53 : Ref sig .tc := ⟨.hbm, 81, rfl⟩
abbrev main_cst_6 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_cst_7 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_cst_8 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_call1_v0 : Ref sig .tc := ⟨.hbm, 125, rfl⟩
abbrev main_call1_v1 : Ref sig .tc := ⟨.hbm, 126, rfl⟩
abbrev main_call1_cst : Ref sig .tc := ⟨.hbm, 127, rfl⟩
abbrev main_call1_v2 : Ref sig .tc := ⟨.hbm, 128, rfl⟩
abbrev main_call1_v3 : Ref sig .tc := ⟨.hbm, 129, rfl⟩
abbrev main_call1_cst_0 : Ref sig .tc := ⟨.hbm, 130, rfl⟩
abbrev main_call1_v4 : Ref sig .tc := ⟨.hbm, 131, rfl⟩
abbrev main_call1_v5 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_call2_v0 : Ref sig .tc := ⟨.hbm, 143, rfl⟩
abbrev main_call2_v1 : Ref sig .tc := ⟨.hbm, 144, rfl⟩
abbrev main_call2_cst : Ref sig .tc := ⟨.hbm, 145, rfl⟩
abbrev main_call2_v2 : Ref sig .tc := ⟨.hbm, 146, rfl⟩
abbrev main_call2_v3 : Ref sig .tc := ⟨.hbm, 147, rfl⟩
abbrev main_call2_cst_0 : Ref sig .tc := ⟨.hbm, 148, rfl⟩
abbrev main_call2_v4 : Ref sig .tc := ⟨.hbm, 149, rfl⟩
abbrev main_call2_v5 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩

abbrev nD : Nat := 1
abbrev τ : Topo := Topo.v7x

variable {F : FTy → Type} [FloatOps F]
-- ==== Gla.lean ====
abbrev S32768x256 : Shape := ⟨2, ![32768, 256]⟩
abbrev S32768x512 : Shape := ⟨2, ![32768, 512]⟩
abbrev S1x128 : Shape := ⟨2, ![1, 128]⟩
abbrev S128 : Shape := ⟨1, ![128]⟩
abbrev S512x256 : Shape := ⟨2, ![512, 256]⟩
abbrev S512x512 : Shape := ⟨2, ![512, 512]⟩
abbrev S8x256 : Shape := ⟨2, ![8, 256]⟩
abbrev S4x128x64 : Shape := ⟨3, ![4, 128, 64]⟩
abbrev S1x256 : Shape := ⟨2, ![1, 256]⟩
abbrev S64x256 : Shape := ⟨2, ![64, 256]⟩
abbrev S64x64 : Shape := ⟨2, ![64, 64]⟩
abbrev S64x128 : Shape := ⟨2, ![64, 128]⟩
abbrev S1x128x64 : Shape := ⟨3, ![1, 128, 64]⟩
abbrev S128x64 : Shape := ⟨2, ![128, 64]⟩
abbrev S1x64 : Shape := ⟨2, ![1, 64]⟩
abbrev S64 : Shape := ⟨1, ![64]⟩
abbrev S64x1 : Shape := ⟨2, ![64, 1]⟩

abbrev nBuf : Space → Nat
  | .hbm => 9
  | .vmem => 18
  | .smem => 0
  | _ => 0

abbrev bufTy : (tb : Table) → Fin (tcTables nBuf tb) → BufTy
  | .hbm, ⟨0, _⟩ => ⟨S32768x256, .f32⟩
  | .hbm, ⟨1, _⟩ => ⟨S32768x256, .f32⟩
  | .hbm, ⟨2, _⟩ => ⟨S32768x256, .f32⟩
  | .hbm, ⟨3, _⟩ => ⟨S32768x512, .bf16⟩
  | .hbm, ⟨4, _⟩ => ⟨S32768x512, .bf16⟩
  | .hbm, ⟨5, _⟩ => ⟨S1x128, .f32⟩
  | .hbm, ⟨6, _⟩ => ⟨S128, .f32⟩
  | .hbm, ⟨7, _⟩ => ⟨S1x128, .f32⟩
  | .hbm, ⟨8, _⟩ => ⟨S32768x512, .bf16⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S1x128, .f32⟩
  | .local _ .vmem, ⟨11, _⟩ => ⟨S512x512, .bf16⟩
  | .local _ .vmem, ⟨12, _⟩ => ⟨S512x512, .bf16⟩
  | .local _ .vmem, ⟨13, _⟩ => ⟨S512x256, .bf16⟩
  | .local _ .vmem, ⟨14, _⟩ => ⟨S512x256, .bf16⟩
  | .local _ .vmem, ⟨15, _⟩ => ⟨S512x256, .bf16⟩
  | .local _ .vmem, ⟨16, _⟩ => ⟨S8x256, .f32⟩
  | .local _ .vmem, ⟨17, _⟩ => ⟨S4x128x64, .f32⟩
  | _, _ => ⟨S32768x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_scratch4 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Proof.Frames.lean ====
/- Every program ends, faults nowhere, keeps its arguments and leaves every semaphore at zero; nothing was rewritten between each program and its ideal print. -/
module

public import proofs.«01_k».proof.Defs
public import proofs.«01_k».proof.Pre_attn_finite
public import proofs.«01_k».proof.Proof.Gen.Attn.Frame
public import proofs.«01_k».proof.Proof.Gen.AttnIdeal.Frame
public import proofs.«01_k».proof.Proof.Gen.MemKv.Frame
public import proofs.«01_k».proof.Proof.Gen.MemKvIdeal.Frame
public import proofs.«01_k».proof.Proof.Gen.OutCross.Frame
public import proofs.«01_k».proof.Proof.Gen.OutCrossIdeal.Frame
public import proofs.«01_k».proof.Proof.Gen.InProj.Frame
public import proofs.«01_k».proof.Proof.Gen.InProjIdeal.Frame
public import proofs.«01_k».proof.Proof.Gen.Gla.Frame
public import proofs.«01_k».proof.Proof.Gen.GlaIdeal.Frame
public import proofs.«01_k».proof.Proof.Gen.AttnRefIdeal.Run
public import proofs.«01_k».proof.Proof.Gen.MemKvRefIdeal.Run
public import proofs.«01_k».proof.Proof.Gen.OutCrossRefIdeal.Run
public import proofs.«01_k».proof.Proof.Gen.InProjRefIdeal.Run
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)
open scoped BigOperators

namespace Cert.Proof

theorem frame_Attn : Cert.quiescent_Attn := fun m g _ => Cert.Attn.Gen.frame m g

theorem frame_AttnIdeal : Cert.quiescent_AttnIdeal := fun m g _ => Cert.AttnIdeal.Gen.frame m g

theorem frame_AttnRefIdeal : Cert.quiescent_AttnRefIdeal := fun m g _ =>
  (θ_run Cert.AttnRefIdeal.defs _ _).mono (fun r h => ⟨fun c => (h c).2,
      Idealize.ShloMosaic.sem_eq_zero_of_no_sems (by decide) r.2⟩) (Cert.AttnRefIdeal.Value.run (F := Ideal) m g)

theorem kept_Attn : Cert.preserves_Attn_AttnIdeal := trivial

theorem frame_MemKv : Cert.quiescent_MemKv := fun m g _ => Cert.MemKv.Gen.frame m g

theorem frame_MemKvIdeal : Cert.quiescent_MemKvIdeal := fun m g _ => Cert.MemKvIdeal.Gen.frame m g

theorem frame_MemKvRefIdeal : Cert.quiescent_MemKvRefIdeal := fun m g _ =>
  (θ_run Cert.MemKvRefIdeal.defs _ _).mono (fun r h => ⟨fun c => (h c).2.2,
      Idealize.ShloMosaic.sem_eq_zero_of_no_sems (by decide) r.2⟩) (Cert.MemKvRefIdeal.Value.run (F := Ideal) m g)

theorem kept_MemKv : Cert.preserves_MemKv_MemKvIdeal := trivial

theorem frame_OutCross : Cert.quiescent_OutCross := fun m g _ => Cert.OutCross.Gen.frame m g

theorem frame_OutCrossIdeal : Cert.quiescent_OutCrossIdeal := fun m g _ => Cert.OutCrossIdeal.Gen.frame m g

theorem frame_OutCrossRefIdeal : Cert.quiescent_OutCrossRefIdeal := fun m g _ =>
  (θ_run Cert.OutCrossRefIdeal.defs _ _).mono (fun r h => ⟨fun c => (h c).2,
      Idealize.ShloMosaic.sem_eq_zero_of_no_sems (by decide) r.2⟩) (Cert.OutCrossRefIdeal.Value.run (F := Ideal) m g)

theorem kept_OutCross : Cert.preserves_OutCross_OutCrossIdeal := trivial

theorem frame_InProj : Cert.quiescent_InProj := fun m g _ => Cert.InProj.Gen.frame m g

theorem frame_InProjIdeal : Cert.quiescent_InProjIdeal := fun m g _ => Cert.InProjIdeal.Gen.frame m g

theorem frame_InProjRefIdeal : Cert.quiescent_InProjRefIdeal := fun m g _ =>
  (θ_run Cert.InProjRefIdeal.defs _ _).mono (fun r h => ⟨fun c => (h c).2.2.2.2.2.2.2.2.2,
      Idealize.ShloMosaic.sem_eq_zero_of_no_sems (by decide) r.2⟩) (Cert.InProjRefIdeal.Value.run (F := Ideal) m g)

theorem kept_InProj : Cert.preserves_InProj_InProjIdeal := trivial

theorem frame_Gla : Cert.quiescent_Gla := fun m g _ => Cert.Gla.Gen.frame m g

theorem frame_GlaIdeal : Cert.quiescent_GlaIdeal := fun m g _ => Cert.GlaIdeal.Gen.frame m g

theorem kept_Gla : Cert.preserves_Gla_GlaIdeal := trivial

/-- The shape facts the precondition of the attention states. -/
instance facts_attn_finite : Cert.Pre_attn_finite.Facts where
  bcast_S_S1x64 := by decide
  reducesTo_S1x64_S_d0_1 := by decide
  h_S_ := by decide
  bitsLt_bf16_f32 := by decide
  bcast_S_S32768x512 := by decide
  reducesTo_S32768x512_S_d0_1 := by decide

theorem frame_AttnIdeal_finite : Cert.quiescent_AttnIdeal_pre_attn_finite := fun m g _ => Cert.AttnIdeal.Gen.frame m g

theorem frame_AttnRefIdeal_finite : Cert.quiescent_AttnRefIdeal_pre_attn_finite := fun m g _ => frame_AttnRefIdeal m g trivial

end Cert.Proof

end
-- ==== Proof.MemKvVal.lean ====
/- The two results of the keys-and-values call of the memory, read at an index. -/
module

public import proofs.«01_k».proof.Proof.Gen.MemKvIdeal.Value
public import proofs.«01_k».proof.Proof.Gen.MemKvRefIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.MemKvIdeal.Mine

open Cert.MemKvIdeal Cert.MemKvIdeal.Gen

variable (m : (ℓ : Loc nD τ sig) → Buf (Elt Ideal) ℓ)

theorem idx : ∀ t : Fin cfg0.N, win0_0.index t = ![t.val, 0] ∧ win0_1.index t = ![0, 0] ∧ win0_2.index t = ![0, 0]
    ∧ win0_3.index t = ![t.val, 0] ∧ win0_4.index t = ![t.val, 0] := (by decide +kernel : ∀ t : Fin grid0.N, _)

theorem lt8 (t : Fin cfg0.N) : t.val < 8 := lt_of_lt_of_eq t.isLt N_0

theorem b0 (c : Dev nD) (t : Fin cfg0.N) (p : Fin 256) (k : Fin 1024) :
    (iblk m c 0 t : FVec Ideal S256x1024 .f32) (ix2 p k) = m ((c : Thread nD τ).loc main_arg0) (ix3 ⟨t.val, lt8 t⟩ p k) := by
  have h := lt8 t
  blk_simp [iblk, idx t]
  entry_read
  pointwise
  blk_ext [idx t]

theorem b1 (c : Dev nD) (t : Fin cfg0.N) (k : Fin 1024) :
    (iblk m c 1 t : FVec Ideal S1x1024 .f32) (ix2 0 k) = m ((c : Thread nD τ).loc main_arg1) (ix2 0 k) := by
  blk_simp [iblk, idx t]
  entry_read
  pointwise
  blk_ext [idx t]

theorem b2 (c : Dev nD) (t : Fin cfg0.N) (k : Fin 1024) (j : Fin 2048) :
    (iblk m c 2 t : FVec Ideal S1024x2048 .bf16) (ix2 k j) = m ((c : Thread nD τ).loc main_arg2) (ix3 0 k j) := by
  blk_simp [iblk, idx t]
  entry_read
  pointwise
  blk_ext [idx t]

open Cert.MemKvRefIdeal.Read in
theorem final3 (c : Dev nD) : (dats m 0 c).arrAt 3 (cfgs 0).N
    = val_main_v20 (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  frame_out
  pointwise [k0_pay2, k0_pay1, val_main_v20, val_main_v17, val_main_v16, val_main_v15, val_main_v14, val_main_v13, val_main_v12, val_main_v11, val_main_v10, val_main_v9, val_main_v8, val_main_v7, val_main_v6, val_main_v5, val_main_cst_1, val_main_v4, val_main_v3, val_main_cst_0, val_main_v2, val_main_v1, val_main_cst, val_main_v0]
  have ht := lt8 t
  reads_congr
  · refine (b0 m c t _ _).trans ?_
    blk_ext [idx t]
  · refine (b0 m c t _ _).trans ?_
    blk_ext [idx t]
  · exact b1 m c t _
  · refine (b2 m c t _ _).trans ?_
    blk_ext [idx t]

open Cert.MemKvRefIdeal.Read in
theorem final4 (c : Dev nD) : (dats m 0 c).arrAt 4 (cfgs 0).N
    = val_main_v21 (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]
  frame_out
  pointwise [k0_pay3, k0_pay1, val_main_v21, val_main_v19, val_main_v18, val_main_v17, val_main_v16, val_main_v15, val_main_v14, val_main_v13, val_main_v12, val_main_v11, val_main_v10, val_main_v9, val_main_v8, val_main_v7, val_main_v6, val_main_v5, val_main_cst_1, val_main_v4, val_main_v3, val_main_cst_0, val_main_v2, val_main_v1, val_main_cst, val_main_v0]
  have ht := lt8 t
  reads_congr
  · refine (b0 m c t _ _).trans ?_
    blk_ext [idx t]
  · refine (b0 m c t _ _).trans ?_
    blk_ext [idx t]
  · exact b1 m c t _
  · refine (b2 m c t _ _).trans ?_
    blk_ext [idx t]

end Cert.MemKvIdeal.Mine

end
-- ==== Proof.MemKvClaim.lean ====
/- The call of the memory's keys and values: the kernel and its reference leave the same two arrays. -/
module

public import proofs.«01_k».proof.Defs
public import proofs.«01_k».proof.Proof.MemKvVal

@[expose] public section

set_option maxRecDepth 16384

noncomputable section

open Idealize.ShloMosaic Idealize.ShloMosaic.TcCoe Idealize.SL.Sem
open Idealize.ShloMosaic.Pipeline (Dat)
open scoped BigOperators

namespace Cert.Proof

theorem value_MemKv : Cert.algebraic_MemKvIdeal_MemKvRefIdeal := by
  pair_intro
  · run_from Cert.MemKvIdeal.Gen.run_main m g
  · run_from Cert.MemKvRefIdeal.Value.run m' g'
    · exact (Cert.MemKvRefIdeal.Read.val_main_v20_eq _ _ _).trans (Cert.MemKvIdeal.Mine.final3 m c).symm
    · exact (Cert.MemKvRefIdeal.Read.val_main_v21_eq _ _ _).trans (Cert.MemKvIdeal.Mine.final4 m c).symm

end Cert.Proof

end
-- ==== Proof.Sums.lean ====
/- Sums of extended reals times a real number that is not negative, and the values of a few words. -/
module

public import Idealize.ShloMosaic.Lib.Pipeline.ValueKit
public import Idealize.ShloMosaic.Lib.Pointwise
public import Idealize.ShloMosaic.Lib.IdealHost

@[expose] public section

set_option maxRecDepth 16384

noncomputable section

open Idealize.ShloMosaic Idealize.ShloMosaic.TcCoe Idealize.SL.Sem
open Idealize.ShloMosaic.Pipeline (Dat)
open scoped BigOperators

namespace Cert.Sums

/-- A real factor that is not negative goes into a sum of two from the right. -/
theorem add_mul_real (a b κ : EReal) (h : 0 ≤ κ) (h' : κ ≠ ⊤) : (a + b) * κ = a * κ + b * κ :=
  EReal.right_distrib_of_nonneg_of_ne_top h h' a b

/-- A real factor that is not negative goes into a finite sum from the right. -/
theorem sum_mul_real {ι : Type*} (s : Finset ι) (f : ι → EReal) (κ : EReal) (h : 0 ≤ κ) (h' : κ ≠ ⊤) :
    (∑ x ∈ s, f x) * κ = ∑ x ∈ s, f x * κ := by
  classical
  induction s using Finset.induction_on with
  | empty => simp
  | insert a s ha ih => rw [Finset.sum_insert ha, Finset.sum_insert ha, add_mul_real _ _ _ h h', ih]

/-- A real factor that is not negative goes into a finite sum from the left. -/
theorem mul_sum_real {ι : Type*} (s : Finset ι) (f : ι → EReal) (κ : EReal) (h : 0 ≤ κ) (h' : κ ≠ ⊤) :
    κ * (∑ x ∈ s, f x) = ∑ x ∈ s, κ * f x := by
  rw [mul_comm, sum_mul_real s f κ h h']
  exact Finset.sum_congr rfl fun x _ => mul_comm _ _

/-- The f32 word `0x3D800000` is one sixteenth. -/
theorem sixteenth : Ideal.ofBits .f32 0x3D800000#32 = (((1 : ℝ) / 16 : ℝ) : EReal) := by
  simp [Ideal.ofBits, Ideal.ieee, -EReal.coe_mul]; norm_num

theorem sixteenth_nonneg : (0 : EReal) ≤ Ideal.ofBits .f32 0x3D800000#32 := by
  rw [sixteenth]; exact_mod_cast (by norm_num : (0 : ℝ) ≤ 1 / 16)

theorem sixteenth_ne_top : Ideal.ofBits .f32 0x3D800000#32 ≠ ⊤ := by
  rw [sixteenth]; exact EReal.coe_ne_top _

/-- The f32 word of minus infinity is the least extended real. -/
theorem negInf : Ideal.ofBits .f32 0xFF800000#32 = ⊥ := by
  simp [Ideal.ofBits, Ideal.ieee]

/-- A factor in the left operand of every product of a sum comes out at the right. -/
theorem sum_scale {n : ℕ} (κ : EReal) (h : 0 ≤ κ) (h' : κ ≠ ⊤) (q k : Fin n → EReal) :
    (∑ x, q x * κ * k x) = (∑ x, q x * k x) * κ := by
  rw [sum_mul_real _ _ _ h h']
  exact Finset.sum_congr rfl fun x _ => mul_right_comm _ _ _

end Cert.Sums
end
-- ==== Proof.OutCrossRef.lean ====
/- The reference of the call OutCross, read at an index, step by step. -/
module

public import proofs.«01_k».proof.Proof.Gen.OutCrossRefIdeal.Read
public import proofs.«01_k».proof.Proof.Sums
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.OutCrossRefIdeal.Mine
open Cert.OutCrossRefIdeal Cert.OutCrossRefIdeal.Read Cert.Sums

/-- The softmax of the scores `s`, times the values `v`. -/
def soft (s v : Fin 256 → EReal) : EReal :=
  ∑ k, Ideal.div (Ideal.exp (s k - Finset.fold max (Ideal.ofBits .f32 0xFF800000#32) s Finset.univ))
    (∑ k, Ideal.exp (s k - Finset.fold max (Ideal.ofBits .f32 0xFF800000#32) s Finset.univ)) * v k

/-- The root-mean-square norm of the row `x`, at `j`, with the weight `w`. -/
def rmsRow (x : Fin 1024 → EReal) (w : EReal) (j : Fin 1024) : EReal :=
  x j * Ideal.rsqrt (Ideal.div (∑ k, x k * x k) (Ideal.ofBits .f32 0x44800000#32) + Ideal.ofBits .f32 0x358637BD#32) * w

theorem reds : S8x4x4096x256.Reduces [3] S8x4x4096 := ⟨rfl, by decide, by decide⟩

theorem max_at (f : FVec Ideal S8x4x4096x256 .f32) (init : FVec Ideal S_ .f32) (h' : S8x4x4096x256.ReducesTo [3] S8x4x4096)
    (hu : 0 < S_.numel) (b : Fin 8) (h : Fin 4) (s : Fin 4096) :
    Host.reduce (FloatOps.maximumf (F := Ideal) (φ := .f32)) f init h' hu (ix3 b h s)
      = Finset.fold max (init ix0) (fun k : Fin 256 => f (ix4 b h s k)) Finset.univ := by
  rw [Host.reduce_eq_fold_single _ _ _ _ reds]
  have e : (f ∘ reds.lift (ix3 b h s)) = fun k : Fin 256 => f (ix4 b h s k) := by
    funext k
    refine congrArg f (funext fun a => Fin.ext ?_)
    match a with
    | ⟨0, _⟩ => rfl
    | ⟨1, _⟩ => rfl
    | ⟨2, _⟩ => rfl
    | ⟨3, _⟩ => rfl
  rw [e, show Shape.Idx.first hu = ix0 from funext fun a => a.elim0]
  rfl

variable (x0 : (⟨S8x4096x1024, .f32⟩ : BufTy).Contents (Elt Ideal)) (x1 x2 : (⟨S32768x512, .bf16⟩ : BufTy).Contents (Elt Ideal))
  (x3 : (⟨S1x1024x1024, .f32⟩ : BufTy).Contents (Elt Ideal)) (x4 : (⟨S1x1024, .f32⟩ : BufTy).Contents (Elt Ideal))
  (x5 : (⟨S1x1024x1024, .f32⟩ : BufTy).Contents (Elt Ideal)) (x6 x7 : (⟨S2048x1024, .bf16⟩ : BufTy).Contents (Elt Ideal))
  (x8 : (⟨S1x1024x1024, .f32⟩ : BufTy).Contents (Elt Ideal)) (x9 : (⟨S1024, .f32⟩ : BufTy).Contents (Elt Ideal))

theorem r4_lo (b : Fin 8) (s : Fin 4096) (k : Fin 512) :
    val_main_v4 (F := Ideal) x1 x2 (ix3 b s ⟨k, by omega⟩) = x1 (ix2 ⟨b * 4096 + s, by omega⟩ k) := by
  have hk : (k : ℕ) < 512 := k.isLt
  pointwise [val_main_v4, val_main_v3, val_main_v2, val_main_v1, val_main_v0]

theorem r4_hi (b : Fin 8) (s : Fin 4096) (k : Fin 512) :
    val_main_v4 (F := Ideal) x1 x2 (ix3 b s ⟨512 + k, by omega⟩) = x2 (ix2 ⟨b * 4096 + s, by omega⟩ k) := by
  pointwise [val_main_v4, val_main_v3, val_main_v2, val_main_v1, val_main_v0]

theorem r7 (b : Fin 8) (s : Fin 4096) (j : Fin 1024) : val_main_v7 (F := Ideal) x0 x1 x2 x3 (ix3 b s j)
    = x0 (ix3 b s j) + (∑ k : Fin 512, x1 (ix2 ⟨b * 4096 + s, by omega⟩ k) * x3 (ix3 0 ⟨k, by omega⟩ j))
      + ∑ k : Fin 512, x2 (ix2 ⟨b * 4096 + s, by omega⟩ k) * x3 (ix3 0 ⟨512 + k, by omega⟩ j) := by
  have e : val_main_v7 (F := Ideal) x0 x1 x2 x3 (ix3 b s j)
      = x0 (ix3 b s j) + ∑ k : Fin (512 + 512), val_main_v4 (F := Ideal) x1 x2 (ix3 b s k) * x3 (ix3 0 k j) := by
    pointwise [val_main_v7, val_main_v6, val_main_v5]
  rw [e, Fin.sum_univ_add, add_assoc]
  congr 2
  · exact Finset.sum_congr rfl fun k _ => congrArg (· * _) (r4_lo x1 x2 b s k)
  · exact Finset.sum_congr rfl fun k _ => congrArg (· * _) (r4_hi x1 x2 b s k)

theorem r21 (b : Fin 8) (s : Fin 4096) (j : Fin 1024) : val_main_v21 (F := Ideal) x0 x1 x2 x3 x4 (ix3 b s j)
    = rmsRow (fun k => val_main_v7 x0 x1 x2 x3 (ix3 b s k)) (x4 (ix2 0 j)) j := by
  unfold rmsRow
  pointwise [val_main_v21, val_main_v20, val_main_v19, val_main_v18, val_main_v17, val_main_v16, val_main_v15, val_main_v14, val_main_v13,
    val_main_v12, val_main_v11, val_main_v10, val_main_v9, val_main_v8, val_main_cst, val_main_cst_0, val_main_cst_1]

theorem r23 (b : Fin 8) (s : Fin 4096) (j : Fin 1024) : val_main_v23 (F := Ideal) x0 x1 x2 x3 x4 x5 (ix3 b s j)
    = ∑ k : Fin 1024, val_main_v21 x0 x1 x2 x3 x4 (ix3 b s k) * x5 (ix3 0 k j) := by
  pointwise [val_main_v23, val_main_v22]

theorem r31 (b : Fin 8) (s : Fin 4096) (h : Fin 4) (k : Fin 256) : val_main_v31 (F := Ideal) x0 x1 x2 x3 x4 x5 x6 (ix4 b h s k)
    = (∑ e : Fin 256, val_main_v23 x0 x1 x2 x3 x4 x5 (ix3 b s ⟨h * 256 + e, by omega⟩) * x6 (ix2 ⟨b * 256 + k, by omega⟩ ⟨h * 256 + e, by omega⟩))
      * Ideal.ofBits .f32 0x3D800000#32 := by
  pointwise [val_main_v31, val_main_v30, val_main_v29, val_main_v26, val_main_v25, val_main_v24, val_main_cst_2]

theorem r32 (b : Fin 8) (s : Fin 4096) (h : Fin 4) : val_main_v32 (F := Ideal) x0 x1 x2 x3 x4 x5 x6 (ix3 b h s)
    = Finset.fold max (Ideal.ofBits .f32 0xFF800000#32) (fun k : Fin 256 => val_main_v31 x0 x1 x2 x3 x4 x5 x6 (ix4 b h s k)) Finset.univ := by
  unfold val_main_v32
  rw [max_at, val_main_cst_3_apply, Ideal.ofBits_def]

theorem r34 (b : Fin 8) (s : Fin 4096) (h : Fin 4) : val_main_v34 (F := Ideal) x0 x1 x2 x3 x4 x5 x6 (ix3 b h s)
    = val_main_v32 x0 x1 x2 x3 x4 x5 x6 (ix3 b h s) := by
  rw [val_main_v34_apply, val_main_v33_apply, val_main_cst_4_apply, Ideal.ofBits_def, negInf, Ideal.maximumf_def]
  exact max_eq_right bot_le

theorem r38 (b : Fin 8) (s : Fin 4096) (h : Fin 4) (k : Fin 256) : val_main_v38 (F := Ideal) x0 x1 x2 x3 x4 x5 x6 (ix4 b h s k)
    = Ideal.exp (val_main_v31 x0 x1 x2 x3 x4 x5 x6 (ix4 b h s k) - val_main_v34 x0 x1 x2 x3 x4 x5 x6 (ix3 b h s)) := by
  pointwise [val_main_v38, val_main_v37, val_main_v36, val_main_v35]

theorem r42 (b : Fin 8) (s : Fin 4096) (h : Fin 4) (k : Fin 256) : val_main_v42 (F := Ideal) x0 x1 x2 x3 x4 x5 x6 (ix4 b h s k)
    = Ideal.div (val_main_v38 x0 x1 x2 x3 x4 x5 x6 (ix4 b h s k)) (∑ k : Fin 256, val_main_v38 x0 x1 x2 x3 x4 x5 x6 (ix4 b h s k)) := by
  pointwise [val_main_v42, val_main_v41, val_main_v40, val_main_v39, val_main_cst_5]

theorem r44 (b : Fin 8) (s : Fin 4096) (h : Fin 4) (e : Fin 256) : val_main_v44 (F := Ideal) x0 x1 x2 x3 x4 x5 x6 x7 (ix4 b s h e)
    = ∑ k : Fin 256, x7 (ix2 ⟨b * 256 + k, by omega⟩ ⟨h * 256 + e, by omega⟩) * val_main_v42 x0 x1 x2 x3 x4 x5 x6 (ix4 b h s k) := by
  pointwise [val_main_v44, val_main_v43, val_main_v28, val_main_v27]

/-- One head's result: the softmax of its scaled scores, times the values. -/
theorem head (b : Fin 8) (s : Fin 4096) (h : Fin 4) (e : Fin 256) : val_main_v44 (F := Ideal) x0 x1 x2 x3 x4 x5 x6 x7 (ix4 b s h e)
    = soft (fun k => (∑ y : Fin 256, val_main_v23 x0 x1 x2 x3 x4 x5 (ix3 b s ⟨h * 256 + y, by omega⟩)
        * x6 (ix2 ⟨b * 256 + k, by omega⟩ ⟨h * 256 + y, by omega⟩)) * Ideal.ofBits .f32 0x3D800000#32)
      (fun k => x7 (ix2 ⟨b * 256 + k, by omega⟩ ⟨h * 256 + e, by omega⟩)) := by
  unfold soft
  simp only [r44, r42, r38, r34, r32, r31]
  exact Finset.sum_congr rfl fun k _ => mul_comm _ _

theorem r48 (b : Fin 8) (s : Fin 4096) (j : Fin 1024) : val_main_v48 (F := Ideal) x0 x1 x2 x3 x4 x5 x6 x7 x8 (ix3 b s j)
    = val_main_v7 x0 x1 x2 x3 (ix3 b s j) + ∑ k : Fin 1024, val_main_v44 x0 x1 x2 x3 x4 x5 x6 x7
        (ix4 b s ⟨k / 256, by omega⟩ ⟨k % 256, by omega⟩) * x8 (ix3 0 k j) := by
  pointwise [val_main_v48, val_main_v47, val_main_v46, val_main_v45]

theorem r62 (r : Fin 32768) (j : Fin 1024) : val_main_v62 (F := Ideal) x0 x1 x2 x3 x4 x5 x6 x7 x8 x9 (ix2 r j)
    = rmsRow (fun k => val_main_v48 x0 x1 x2 x3 x4 x5 x6 x7 x8 (ix3 ⟨r / 4096, by omega⟩ ⟨r % 4096, by omega⟩ k)) (x9 (ix1 j)) j := by
  unfold rmsRow
  pointwise [val_main_v62, val_main_v61, val_main_v60, val_main_v59, val_main_v58, val_main_v57, val_main_v56, val_main_v55, val_main_v54, val_main_v53,
    val_main_v52, val_main_v51, val_main_v50, val_main_v49, val_main_cst_6, val_main_cst_7, val_main_cst_8]
end Cert.OutCrossRefIdeal.Mine
end
-- ==== Proof.OutCrossPay.lean ====
/- The result of the call OutCross, read at an index. -/
module

public import proofs.«01_k».proof.Proof.Gen.OutCrossIdeal.Frame
public import proofs.«01_k».proof.Proof.OutCrossRef
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.OutCrossIdeal.Mine
open Cert.OutCrossIdeal Cert.OutCrossIdeal.Gen Cert.Sums
open Cert.OutCrossRefIdeal.Mine (soft rmsRow)

section Payloads

theorem p2 (v0 : Vec Ideal S512x1024 .f32) (v2 v7 : Vec Ideal S512x512 .bf16) (w : Vec Ideal S1024x1024 .bf16) (p : Fin 512) (j : Fin 1024) :
    k0_pay2 v0 v2 (View.ld w (Rect.unit ![0, 0] ![512, 1024] inb_S1024x1024_S512x1024_0_0)) v7
      (View.ld w (Rect.unit ![512, 0] ![512, 1024] inb_S1024x1024_S512x1024_512_0)) (ix2 p j)
    = v0 (ix2 p j) + (∑ k : Fin 512, v2 (ix2 p k) * w (ix2 ⟨k, by omega⟩ j)) + ∑ k : Fin 512, v7 (ix2 p k) * w (ix2 ⟨512 + k, by omega⟩ j) := by
  pointwise [k0_pay2]

theorem p3 (v0 : Vec Ideal S512x1024 .f32) (v2 v7 : Vec Ideal S512x512 .bf16) (w w' : Vec Ideal S512x1024 .bf16) (nw : Vec Ideal S1x1024 .f32)
    (wq : Vec Ideal S1024x1024 .bf16) (p : Fin 512) (j : Fin 1024) :
    k0_pay3 v0 v2 w v7 w' nw wq (ix2 p j)
    = (∑ k : Fin 1024, rmsRow (fun k => k0_pay2 v0 v2 w v7 w' (ix2 p k)) (nw (ix2 0 k)) k * wq (ix2 k j)) * Ideal.ofBits .f32 0x3D800000#32 := by
  unfold rmsRow
  pointwise [k0_pay3]

theorem p1 (x : FVec Ideal S512x1024 .f32) (o : Vec Ideal S512x1024 .bf16) (w : Vec Ideal S1024x1024 .bf16) (nw : Vec Ideal S1x1024 .f32)
    (p : Fin 512) (j : Fin 1024) :
    k0_pay1 x o w nw (ix2 p j)
    = rmsRow (fun j => x (ix2 p j) + ∑ k : Fin 1024, o (ix2 p k) * w (ix2 k j)) (nw (ix2 0 j)) j := by
  unfold rmsRow
  pointwise [k0_pay1]

theorem p5 (q : FVec Ideal S512x256 .bf16) (k v : Vec Ideal S256x256 .bf16) (p : Fin 512) (e : Fin 256) :
    k0_pay5 q k (constant S512x256 .f32 0x00000000#32) v (ix2 p e)
    = soft (fun x => ∑ y, q (ix2 p y) * k (ix2 x y)) (fun x => v (ix2 x e)) := by
  unfold soft
  pointwise [k0_pay5]

theorem p8 (q : FVec Ideal S512x256 .bf16) (k v : Vec Ideal S256x256 .bf16) (p : Fin 512) (e : Fin 256) :
    k0_pay8 q k (constant S512x256 .f32 0x00000000#32) v (ix2 p e)
    = soft (fun x => ∑ y, q (ix2 p y) * k (ix2 x y)) (fun x => v (ix2 x e)) := by
  unfold soft
  pointwise [k0_pay8]

theorem p6 (q : FVec Ideal S512x1024 .bf16) (k v : Vec Ideal S256x256 .bf16) (p : Fin 512) (e : Fin 256) :
    k0_pay6 q k v (ix2 p e)
    = soft (fun x => ∑ y : Fin 256, q (ix2 p ⟨256 + y, by omega⟩) * k (ix2 x y)) (fun x => v (ix2 x e)) := by
  unfold soft
  pointwise [k0_pay6]

theorem p9 (q : FVec Ideal S512x1024 .bf16) (k v : Vec Ideal S256x256 .bf16) (p : Fin 512) (e : Fin 256) :
    k0_pay9 q k v (ix2 p e)
    = soft (fun x => ∑ y : Fin 256, q (ix2 p ⟨768 + y, by omega⟩) * k (ix2 x y)) (fun x => v (ix2 x e)) := by
  unfold soft
  pointwise [k0_pay9]

theorem p4 (v0 : Vec Ideal S512x1024 .f32) (v2 v7 : Vec Ideal S512x512 .bf16) (w w' : Vec Ideal S512x1024 .bf16) (nw : Vec Ideal S1x1024 .f32)
    (wq : Vec Ideal S1024x1024 .bf16) (p : Fin 512) (y : Fin 256) :
    k0_pay4 v0 v2 w v7 w' nw wq (ix2 p y) = k0_pay3 v0 v2 w v7 w' nw wq (ix2 p ⟨y, by omega⟩) := by
  pointwise [k0_pay4]

theorem p7 (q : FVec Ideal S512x1024 .bf16) (p : Fin 512) (y : Fin 256) : k0_pay7 q (ix2 p y) = q (ix2 p ⟨512 + y, by omega⟩) := by
  pointwise [k0_pay7]

end Payloads

variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0]
    ∧ win0_6.index t = ![t.val / 8, 0] ∧ win0_7.index t = ![t.val / 8, 0]
    ∧ win0_8.index t = ![0, 0] ∧ win0_9.index t = ![0, 0] ∧ win0_10.index t = ![t.val, 0] := (by decide +kernel : ∀ t : Fin grid0.N, _)

theorem lt64 (t : Fin cfg0.N) : t.val < 64 := lt_of_lt_of_eq t.isLt N_0

theorem b0 (c : Dev nD) (t : Fin cfg0.N) (p : Fin 512) (j : Fin 1024) : (iblk m c 0 t : FVec Ideal S512x1024 .f32) (ix2 p j)
    = m ((c : Thread nD τ).loc main_arg0) (ix3 ⟨t.val / 8, by have := lt64 t; omega⟩ ⟨t.val % 8 * 512 + p, by omega⟩ j) := by
  have h := lt64 t
  blk_simp [iblk, idx t]
  entry_read
  pointwise
  blk_ext [idx t]

theorem b1 (c : Dev nD) (t : Fin cfg0.N) (p : Fin 512) (k : Fin 512) : (iblk m c 1 t : FVec Ideal S512x512 .bf16) (ix2 p k)
    = m ((c : Thread nD τ).loc main_arg1) (ix2 ⟨t.val * 512 + p, by have := lt64 t; omega⟩ k) := by
  have h := lt64 t
  blk_simp [iblk, idx t]
  entry_read
  pointwise
  blk_ext [idx t]

theorem b2 (c : Dev nD) (t : Fin cfg0.N) (p : Fin 512) (k : Fin 512) : (iblk m c 2 t : FVec Ideal S512x512 .bf16) (ix2 p k)
    = m ((c : Thread nD τ).loc main_arg2) (ix2 ⟨t.val * 512 + p, by have := lt64 t; omega⟩ k) := by
  have h := lt64 t
  blk_simp [iblk, idx t]
  entry_read
  pointwise
  blk_ext [idx t]

theorem b3 (c : Dev nD) (t : Fin cfg0.N) (i j : Fin 1024) : (iblk m c 3 t : FVec Ideal S1024x1024 .bf16) (ix2 i j)
    = m ((c : Thread nD τ).loc main_arg3) (ix3 0 i j) := by
  blk_simp [iblk, idx t]
  entry_read
  pointwise
  blk_ext [idx t]

theorem b5 (c : Dev nD) (t : Fin cfg0.N) (i j : Fin 1024) : (iblk m c 5 t : FVec Ideal S1024x1024 .bf16) (ix2 i j)
    = m ((c : Thread nD τ).loc main_arg5) (ix3 0 i j) := by
  blk_simp [iblk, idx t]
  entry_read
  pointwise
  blk_ext [idx t]

theorem b8 (c : Dev nD) (t : Fin cfg0.N) (i j : Fin 1024) : (iblk m c 8 t : FVec Ideal S1024x1024 .bf16) (ix2 i j)
    = m ((c : Thread nD τ).loc main_arg8) (ix3 0 i j) := by
  blk_simp [iblk, idx t]
  entry_read
  pointwise
  blk_ext [idx t]

theorem b6 (c : Dev nD) (t : Fin cfg0.N) (k : Fin 256) (j : Fin 1024) : (iblk m c 6 t : FVec Ideal S256x1024 .bf16) (ix2 k j)
    = m ((c : Thread nD τ).loc main_arg6) (ix2 ⟨t.val / 8 * 256 + k, by have := lt64 t; omega⟩ j) := by
  have h := lt64 t
  blk_simp [iblk, idx t]
  entry_read
  pointwise
  blk_ext [idx t]

theorem b7 (c : Dev nD) (t : Fin cfg0.N) (k : Fin 256) (j : Fin 1024) : (iblk m c 7 t : FVec Ideal S256x1024 .bf16) (ix2 k j)
    = m ((c : Thread nD τ).loc main_arg7) (ix2 ⟨t.val / 8 * 256 + k, by have := lt64 t; omega⟩ j) := by
  have h := lt64 t
  blk_simp [iblk, idx t]
  entry_read
  pointwise
  blk_ext [idx t]

theorem b4 (c : Dev nD) (t : Fin cfg0.N) (j : Fin 1024) : (iblk m c 4 t : FVec Ideal S1x1024 .f32) (ix2 0 j)
    = m ((c : Thread nD τ).loc main_arg4) (ix2 0 j) := by
  blk_simp [iblk, idx t]
  entry_read
  pointwise
  blk_ext [idx t]

theorem b9 (c : Dev nD) (t : Fin cfg0.N) (j : Fin 1024) : (iblk m c 9 t : FVec Ideal S1x1024 .f32) (ix2 0 j)
    = m ((c : Thread nD τ).loc main_arg9) (ix1 j) := by
  blk_simp [iblk, idx t]
  entry_read
  pointwise
  blk_ext [idx t]

end Cert.OutCrossIdeal.Mine
end
-- ==== Proof.OutCrossVal.lean ====
/- The result of the call OutCross: its array is the reference's. -/
module

public import proofs.«01_k».proof.Proof.OutCrossPay
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.OutCrossIdeal.Mine
open Cert.OutCrossIdeal Cert.OutCrossIdeal.Gen Cert.Sums
open Cert.OutCrossRefIdeal.Mine (soft rmsRow)
open Cert.OutCrossRefIdeal.Read
variable (m : (ℓ : Loc nD τ sig) → Buf (Elt Ideal) ℓ)

abbrev A0 (c : Dev nD) := m ((c : Thread nD τ).loc main_arg0)
abbrev A1 (c : Dev nD) := m ((c : Thread nD τ).loc main_arg1)
abbrev A2 (c : Dev nD) := m ((c : Thread nD τ).loc main_arg2)
abbrev A3 (c : Dev nD) := m ((c : Thread nD τ).loc main_arg3)
abbrev A4 (c : Dev nD) := m ((c : Thread nD τ).loc main_arg4)
abbrev A5 (c : Dev nD) := m ((c : Thread nD τ).loc main_arg5)
abbrev A6 (c : Dev nD) := m ((c : Thread nD τ).loc main_arg6)
abbrev A7 (c : Dev nD) := m ((c : Thread nD τ).loc main_arg7)
abbrev A8 (c : Dev nD) := m ((c : Thread nD τ).loc main_arg8)
abbrev A9 (c : Dev nD) := m ((c : Thread nD τ).loc main_arg9)

/-- The batch of grid point `t`. -/
def bt (t : Fin cfg0.N) : Fin 8 := ⟨t.val / 8, by have := lt64 t; omega⟩
/-- The position, in its batch, of row `p` of grid point `t`. -/
def pos (t : Fin cfg0.N) (p : Fin 512) : Fin 4096 := ⟨t.val % 8 * 512 + p, by omega⟩

/-- The residual stream after the output projection, at grid point `t`. -/
def res (c : Dev nD) (t : Fin cfg0.N) : FVec Ideal S512x1024 .f32 :=
  k0_pay2 (iblk m c 0 t) (iblk m c 1 t) (View.ld (iblk m c 3 t) (Rect.unit ![0, 0] ![512, 1024] inb_S1024x1024_S512x1024_0_0))
    (iblk m c 2 t) (View.ld (iblk m c 3 t) (Rect.unit ![512, 0] ![512, 1024] inb_S1024x1024_S512x1024_512_0))

/-- The scaled queries at grid point `t`. -/
def qry (c : Dev nD) (t : Fin cfg0.N) : FVec Ideal S512x1024 .bf16 :=
  k0_pay3 (iblk m c 0 t) (iblk m c 1 t) (View.ld (iblk m c 3 t) (Rect.unit ![0, 0] ![512, 1024] inb_S1024x1024_S512x1024_0_0))
    (iblk m c 2 t) (View.ld (iblk m c 3 t) (Rect.unit ![512, 0] ![512, 1024] inb_S1024x1024_S512x1024_512_0)) (iblk m c 4 t) (iblk m c 5 t)

theorem res_at (c : Dev nD) (t : Fin cfg0.N) (p : Fin 512) (j : Fin 1024) :
    res m c t (ix2 p j) = val_main_v7 (F := Ideal) (A0 m c) (A1 m c) (A2 m c) (A3 m c) (ix3 (bt t) (pos t p) j) := by
  have h := lt64 t
  unfold res
  refine (p2 (iblk m c 0 t) (iblk m c 1 t) (iblk m c 2 t) (iblk m c 3 t) p j).trans ?_
  rw [Cert.OutCrossRefIdeal.Mine.r7, b0]
  simp only [b1, b2, b3]
  have e : ∀ h' h'', (⟨(bt t : ℕ) * 4096 + (pos t p : ℕ), h'⟩ : Fin 32768) = ⟨t.val * 512 + p, h''⟩ := fun _ _ => Fin.ext (by
    show t.val / 8 * 4096 + (t.val % 8 * 512 + p.val) = t.val * 512 + p.val
    omega)
  simp only [e _ (by omega)]
  rfl

theorem qry_at (c : Dev nD) (t : Fin cfg0.N) (p : Fin 512) (j : Fin 1024) :
    qry m c t (ix2 p j) = val_main_v23 (F := Ideal) (A0 m c) (A1 m c) (A2 m c) (A3 m c) (A4 m c) (A5 m c) (ix3 (bt t) (pos t p) j)
      * Ideal.ofBits .f32 0x3D800000#32 := by
  unfold qry
  rw [p3, Cert.OutCrossRefIdeal.Mine.r23]
  refine congrArg (· * _) (Finset.sum_congr rfl fun k _ => ?_)
  rw [Cert.OutCrossRefIdeal.Mine.r21, b4, b5]
  have e : (fun k => k0_pay2 (iblk m c 0 t) (iblk m c 1 t) (View.ld (iblk m c 3 t) (Rect.unit ![0, 0] ![512, 1024] inb_S1024x1024_S512x1024_0_0))
      (iblk m c 2 t) (View.ld (iblk m c 3 t) (Rect.unit ![512, 0] ![512, 1024] inb_S1024x1024_S512x1024_512_0)) (ix2 p k))
      = fun k => val_main_v7 (F := Ideal) (A0 m c) (A1 m c) (A2 m c) (A3 m c) (ix3 (bt t) (pos t p) k) :=
    funext fun k => res_at m c t p k
  rw [e]

/-- What a head's payload computes from the queries is the reference's head. -/
theorem head_at (c : Dev nD) (t : Fin cfg0.N) (p : Fin 512) (h : Fin 4) (e : Fin 256) (q : Fin 256 → EReal) (k : Fin 256 → Fin 256 → EReal)
    (v : Fin 256 → EReal)
    (hq : ∀ y : Fin 256, q y = qry m c t (ix2 p ⟨h * 256 + y, by omega⟩))
    (hk : ∀ x y : Fin 256, k x y = (iblk m c 6 t : FVec Ideal S256x1024 .bf16) (ix2 x ⟨h * 256 + y, by omega⟩))
    (hv : ∀ x : Fin 256, v x = (iblk m c 7 t : FVec Ideal S256x1024 .bf16) (ix2 x ⟨h * 256 + e, by omega⟩)) :
    soft (fun x => ∑ y, q y * k x y) v
      = val_main_v44 (F := Ideal) (A0 m c) (A1 m c) (A2 m c) (A3 m c) (A4 m c) (A5 m c) (A6 m c) (A7 m c) (ix4 (bt t) (pos t p) h e) := by
  rw [Cert.OutCrossRefIdeal.Mine.head]
  refine congrArg₂ soft (funext fun x => ?_) (funext fun x => (hv x).trans (b7 m c t _ _))
  rw [← sum_scale _ sixteenth_nonneg sixteenth_ne_top]
  exact Finset.sum_congr rfl fun y _ => congrArg₂ (· * ·) ((hq y).trans (qry_at m c t p _)) ((hk x y).trans (b6 m c t _ _))

/-- The four heads' results side by side, at grid point `t`. -/
def ctx (c : Dev nD) (t : Fin cfg0.N) : FVec Ideal S512x1024 .bf16 := fun i =>
  val_main_v44 (F := Ideal) (A0 m c) (A1 m c) (A2 m c) (A3 m c) (A4 m c) (A5 m c) (A6 m c) (A7 m c)
    (ix4 (bt t) (pos t (i 0)) ⟨(i 1 : ℕ) / 256, by have : (i 1 : ℕ) < 1024 := (i 1).isLt; omega⟩ ⟨(i 1 : ℕ) % 256, by omega⟩)

theorem ctx_of (c : Dev nD) (t : Fin cfg0.N) (i : S512x1024.Idx) (p : Fin 512) (h : Fin 4) (e : Fin 256) (h0 : (i 0 : ℕ) = p)
    (h1 : (i 1 : ℕ) = h * 256 + e) : val_main_v44 (F := Ideal) (A0 m c) (A1 m c) (A2 m c) (A3 m c) (A4 m c) (A5 m c) (A6 m c) (A7 m c)
      (ix4 (bt t) (pos t p) h e) = ctx m c t i := by
  have e0 : i 0 = p := Fin.ext h0
  have e1 : ∀ h', (⟨(i 1 : ℕ) / 256, h'⟩ : Fin 4) = h := fun _ => Fin.ext (by
    show (i 1 : ℕ) / 256 = h
    omega)
  have e2 : ∀ h', (⟨(i 1 : ℕ) % 256, h'⟩ : Fin 256) = e := fun _ => Fin.ext (by
    show (i 1 : ℕ) % 256 = e
    omega)
  unfold ctx
  rw [e0, e1, e2]

theorem piece3 (c : Dev nD) (t : Fin cfg0.N) (p : Fin 512) (e : Fin 256) :
    k0_pay9 (qry m c t) (View.ld (iblk m c 6 t) (Rect.unit ![0, 768] ![256, 256] inb_S256x1024_S256x256_0_768))
      (View.ld (iblk m c 7 t) (Rect.unit ![0, 768] ![256, 256] inb_S256x1024_S256x256_0_768)) (ix2 p e)
    = val_main_v44 (F := Ideal) (A0 m c) (A1 m c) (A2 m c) (A3 m c) (A4 m c) (A5 m c) (A6 m c) (A7 m c) (ix4 (bt t) (pos t p) 3 e) := by
  refine (p9 _ _ _ p e).trans (head_at m c t p 3 e _ _ _ (fun y => ?_) (fun x y => ?_) (fun x => ?_))
  · rfl
  · pointwise
    blk_ext
  · pointwise
    blk_ext

theorem piece2 (c : Dev nD) (t : Fin cfg0.N) (p : Fin 512) (e : Fin 256) :
    k0_pay8 (k0_pay7 (qry m c t)) (View.ld (iblk m c 6 t) (Rect.unit ![0, 512] ![256, 256] inb_S256x1024_S256x256_0_512)) (constant S512x256 .f32 0x00000000#32)
      (View.ld (iblk m c 7 t) (Rect.unit ![0, 512] ![256, 256] inb_S256x1024_S256x256_0_512)) (ix2 p e)
    = val_main_v44 (F := Ideal) (A0 m c) (A1 m c) (A2 m c) (A3 m c) (A4 m c) (A5 m c) (A6 m c) (A7 m c) (ix4 (bt t) (pos t p) 2 e) := by
  refine (p8 _ _ _ p e).trans (head_at m c t p 2 e _ _ _ (fun y => ?_) (fun x y => ?_) (fun x => ?_))
  · exact p7 _ p y
  · pointwise
    blk_ext
  · pointwise
    blk_ext

theorem piece1 (c : Dev nD) (t : Fin cfg0.N) (p : Fin 512) (e : Fin 256) :
    k0_pay6 (qry m c t) (View.ld (iblk m c 6 t) (Rect.unit ![0, 256] ![256, 256] inb_S256x1024_S256x256_0_256))
      (View.ld (iblk m c 7 t) (Rect.unit ![0, 256] ![256, 256] inb_S256x1024_S256x256_0_256)) (ix2 p e)
    = val_main_v44 (F := Ideal) (A0 m c) (A1 m c) (A2 m c) (A3 m c) (A4 m c) (A5 m c) (A6 m c) (A7 m c) (ix4 (bt t) (pos t p) 1 e) := by
  refine (p6 _ _ _ p e).trans (head_at m c t p 1 e _ _ _ (fun y => ?_) (fun x y => ?_) (fun x => ?_))
  · rfl
  · pointwise
    blk_ext
  · pointwise
    blk_ext

theorem piece0 (c : Dev nD) (t : Fin cfg0.N) (p : Fin 512) (e : Fin 256) :
    k0_pay5 (k0_pay4 (iblk m c 0 t) (iblk m c 1 t) (View.ld (iblk m c 3 t) (Rect.unit ![0, 0] ![512, 1024] inb_S1024x1024_S512x1024_0_0))
    (iblk m c 2 t) (View.ld (iblk m c 3 t) (Rect.unit ![512, 0] ![512, 1024] inb_S1024x1024_S512x1024_512_0)) (iblk m c 4 t) (iblk m c 5 t)) (View.ld (iblk m c 6 t) (Rect.unit ![0, 0] ![256, 256] inb_S256x1024_S256x256_0_0)) (constant S512x256 .f32 0x00000000#32)
      (View.ld (iblk m c 7 t) (Rect.unit ![0, 0] ![256, 256] inb_S256x1024_S256x256_0_0)) (ix2 p e)
    = val_main_v44 (F := Ideal) (A0 m c) (A1 m c) (A2 m c) (A3 m c) (A4 m c) (A5 m c) (A6 m c) (A7 m c) (ix4 (bt t) (pos t p) 0 e) := by
  refine (p5 _ _ _ p e).trans (head_at m c t p 0 e _ _ _ (fun y => ?_) (fun x y => ?_) (fun x => ?_))
  · exact (p4 _ _ _ _ _ _ _ p y).trans (congrArg (fun k => qry m c t (ix2 p k)) (Fin.ext (by
      show (y : ℕ) = 0 * 256 + y
      omega)))
  · pointwise
    blk_ext
  · pointwise
    blk_ext

theorem out_eq (c : Dev nD) (t : Fin cfg0.N) : outsAt0 m c t = k0_pay1 (res m c t) (ctx m c t) (iblk m c 8 t) (iblk m c 9 t) := by
  unfold outsAt0
  frame_out
  refine congrArg (fun o => k0_pay1 (res m c t) o (iblk m c 8 t) (iblk m c 9 t)) ?_
  have hz : (![0, 0] : Fin 2 → Nat) = fun _ => 0 := by decide
  rw [View.readCov_eq_canon_ld]
  · rw [View.ld_unit_zero (S := S512x1024) hz]
    funext i
    canon_tiles x h
    · obtain ⟨p, e, rfl⟩ : ∃ (p : Fin 512) (e : Fin 256), x = ix2 p e := ⟨x 0, x 1, eq_ix2 x⟩
      exact (piece3 m c t p e).trans (ctx_of m c t i p 3 e h0 h1)
    · obtain ⟨p, e, rfl⟩ : ∃ (p : Fin 512) (e : Fin 256), x = ix2 p e := ⟨x 0, x 1, eq_ix2 x⟩
      exact (piece2 m c t p e).trans (ctx_of m c t i p 2 e h0 h1)
    · obtain ⟨p, e, rfl⟩ : ∃ (p : Fin 512) (e : Fin 256), x = ix2 p e := ⟨x 0, x 1, eq_ix2 x⟩
      exact (piece1 m c t p e).trans (ctx_of m c t i p 1 e h0 h1)
    · obtain ⟨p, e, rfl⟩ : ∃ (p : Fin 512) (e : Fin 256), x = ix2 p e := ⟨x 0, x 1, eq_ix2 x⟩
      exact (piece0 m c t p e).trans (ctx_of m c t i p 0 e h0 (h1.trans (Nat.zero_add _).symm))
  · exact fun y => View.cover_of_tiledL (s := S512x1024) _ ![512, 256] (by sl_kernel_rfl) y

theorem final (c : Dev nD) : (dats m 0 c).arrAt 10 (cfgs 0).N
    = val_main_v62 (F := Ideal) (A0 m c) (A1 m c) (A2 m c) (A3 m c) (A4 m c) (A5 m c) (A6 m c) (A7 m c) (A8 m c) (A9 m c) := by
  refine (dats m 0 c).arrAt_eq_of_covers 10 _ (by decide +kernel) fun t _ y => ?_
  blk_simp
  rw [after0_10, out_eq]
  have h := lt64 t
  obtain ⟨p, j, rfl⟩ : ∃ (p : Fin 512) (j : Fin 1024), y = ix2 p j := ⟨y 0, y 1, eq_ix2 y⟩
  have ej : (win0_10.blk t).view.emb (ix2 p j) = ix2 ⟨t.val * 512 + p, by omega⟩ j := by
    blk_ext [idx t]
  refine (p1 _ _ _ _ p j).trans ?_
  refine Eq.trans ?_ ((congrArg _ ej).trans (Cert.OutCrossRefIdeal.Mine.r62 _ _ _ _ _ _ _ _ _ _ _ j)).symm
  have eb : ∀ h', (⟨(t.val * 512 + p) / 4096, h'⟩ : Fin 8) = bt t := fun _ => Fin.ext (by
    show (t.val * 512 + p.val) / 4096 = t.val / 8
    omega)
  have es : ∀ h', (⟨(t.val * 512 + p) % 4096, h'⟩ : Fin 4096) = pos t p := fun _ => Fin.ext (by
    show (t.val * 512 + p.val) % 4096 = t.val % 8 * 512 + p.val
    omega)
  simp only [eb, es]
  rw [b9]
  refine congrArg (fun f => rmsRow f _ j) (funext fun l => ?_)
  rw [Cert.OutCrossRefIdeal.Mine.r48, res_at]
  refine congrArg (_ + ·) (Finset.sum_congr rfl fun k _ => ?_)
  rw [b8]
  rfl

end Cert.OutCrossIdeal.Mine
end
-- ==== Proof.OutCrossClaim.lean ====
/- The call of the output projection, the cross-attention and the final norm: the kernel and its reference leave the same array. -/
module

public import proofs.«01_k».proof.Defs
public import proofs.«01_k».proof.Proof.OutCrossVal

@[expose] public section

set_option maxRecDepth 16384

noncomputable section

open Idealize.ShloMosaic Idealize.ShloMosaic.TcCoe Idealize.SL.Sem
open Idealize.ShloMosaic.Pipeline (Dat)
open scoped BigOperators

namespace Cert.Proof

theorem value_OutCross : Cert.algebraic_OutCrossIdeal_OutCrossRefIdeal := by
  pair_intro
  · run_from Cert.OutCrossIdeal.Gen.run_main m g
  · run_from Cert.OutCrossRefIdeal.Value.run m' g'
    refine (Cert.OutCrossRefIdeal.Read.val_main_v62_eq _ _).trans (Eq.trans ?_ (Cert.OutCrossIdeal.Mine.final m c).symm)
    obtain ⟨h0, h1, h2, h3, h4, h5, h6, h7, h8, h9⟩ := hagree c
    rw [h0, h1, h2, h3, h4, h5, h6, h7, h8, h9]

end Cert.Proof

end
-- ==== Proof.AttnPay.lean ====
/- The attention's stored values at an index. -/
module

public import proofs.«01_k».proof.Proof.Gen.AttnIdeal.Frame
public import proofs.«01_k».proof.Proof.Sums

@[expose] public section

set_option maxRecDepth 16384

noncomputable section

open Idealize.ShloMosaic Idealize.ShloMosaic.TcCoe Idealize.SL.Sem
open Idealize.ShloMosaic.Pipeline (Dat)
open scoped BigOperators

namespace Cert.AttnIdeal.Mine
open Cert.AttnIdeal Cert.AttnIdeal.Gen Cert.Sums

/-- The root-mean-square norm of the row `x`, at `j`, with the weight `w`. -/
def rmsRow (x : Fin 128 → EReal) (w : EReal) (j : Fin 128) : EReal :=
  x j * Ideal.rsqrt (Ideal.div (∑ k, x k * x k) (Ideal.ofBits .f32 0x43000000#32) + Ideal.ofBits .f32 0x358637BD#32) * w

theorem p2 (k : Vec Ideal S256x128 .bf16) (q : Vec Ideal S512x128 .bf16) (r : Fin 512) (x : Fin 256) :
    k0_pay2 k q (ix2 r x) = ∑ y : Fin 128, q (ix2 r y) * k (ix2 x y) := by
  pointwise [k0_pay2]

theorem p22 (k : Vec Ideal S256x128 .bf16) (q : Vec Ideal S512x128 .bf16) (r : Fin 512) (x : Fin 256) :
    k0_pay22 k q (ix2 r x) = ∑ y : Fin 128, q (ix2 r y) * k (ix2 x y) := by
  pointwise [k0_pay22]

theorem p20 (x : FVec Ideal S512x1 .f32) (r : Fin 512) : k0_pay20 x (ix2 r 0) = x (ix2 r 0) := by
  pointwise [k0_pay20]

theorem p3 (k : Vec Ideal S256x128 .bf16) (q : Vec Ideal S512x128 .bf16) (m : Vec Ideal S512x1 .f32) (r : Fin 512) :
    k0_pay3 k q m (ix2 r 0) = max (m (ix2 r 0)) (Finset.fold max (Ideal.ofBits .f32 0xFF800000#32) (fun x : Fin 256 => k0_pay2 k q (ix2 r x)) Finset.univ) := by
  pointwise [k0_pay3]

theorem p4 (k : Vec Ideal S256x128 .bf16) (q : Vec Ideal S512x128 .bf16) (m : Vec Ideal S512x1 .f32) (r : Fin 512) (x : Fin 256) :
    k0_pay4 k q m (ix2 r x) = Ideal.exp (k0_pay2 k q (ix2 r x) - k0_pay3 k q m (ix2 r 0)) := by
  pointwise [k0_pay4]

theorem p5 (k : Vec Ideal S256x128 .bf16) (q : Vec Ideal S512x128 .bf16) (m : Vec Ideal S512x1 .f32) (r : Fin 512) :
    k0_pay5 k q m (ix2 r 0) = Ideal.exp (m (ix2 r 0) - k0_pay3 k q m (ix2 r 0)) := by
  pointwise [k0_pay5]

theorem p6 (k : Vec Ideal S256x128 .bf16) (q : Vec Ideal S512x128 .bf16) (m l : Vec Ideal S512x1 .f32) (r : Fin 512) :
    k0_pay6 k q m l (ix2 r 0) = k0_pay5 k q m (ix2 r 0) * l (ix2 r 0) + ∑ x : Fin 256, k0_pay4 k q m (ix2 r x) := by
  pointwise [k0_pay6]

theorem p7 (k v : Vec Ideal S256x128 .bf16) (q : Vec Ideal S512x128 .bf16) (m : Vec Ideal S512x1 .f32) (a : Vec Ideal S512x128 .f32) (r : Fin 512)
    (e : Fin 128) :
    k0_pay7 k v q m a (ix2 r e) = k0_pay5 k q m (ix2 r 0) * a (ix2 r e) + ∑ x : Fin 256, k0_pay4 k q m (ix2 r x) * v (ix2 x e) := by
  pointwise [k0_pay7]

/-- The masked scores of the last tile, as the program names them. -/
abbrev msk (s : FVec Ideal S512x256 .f32) : FVec Ideal S512x256 .f32 := k0_pay26 s k0_pay23 64#32 k0_pay24 k0_pay25 1#32 0#32
abbrev mx (s : FVec Ideal S512x256 .f32) (m : Vec Ideal S512x1 .f32) : FVec Ideal S512x1 .f32 :=
  k0_pay27 s k0_pay23 64#32 k0_pay24 k0_pay25 1#32 0#32 m
abbrev pr (s : FVec Ideal S512x256 .f32) (m : Vec Ideal S512x1 .f32) : FVec Ideal S512x256 .f32 :=
  k0_pay28 s k0_pay23 64#32 k0_pay24 k0_pay25 1#32 0#32 m
abbrev df (s : FVec Ideal S512x256 .f32) (m : Vec Ideal S512x1 .f32) : FVec Ideal S512x1 .f32 :=
  k0_pay29 s k0_pay23 64#32 k0_pay24 k0_pay25 1#32 0#32 m

theorem p27 (s : FVec Ideal S512x256 .f32) (m : Vec Ideal S512x1 .f32) (r : Fin 512) :
    mx s m (ix2 r 0) = max (m (ix2 r 0)) (Finset.fold max (Ideal.ofBits .f32 0xFF800000#32) (fun x : Fin 256 => msk s (ix2 r x)) Finset.univ) := by
  pointwise [k0_pay27]

theorem p28 (s : FVec Ideal S512x256 .f32) (m : Vec Ideal S512x1 .f32) (r : Fin 512) (x : Fin 256) :
    pr s m (ix2 r x) = Ideal.exp (msk s (ix2 r x) - mx s m (ix2 r 0)) := by
  pointwise [k0_pay28]

theorem p29 (s : FVec Ideal S512x256 .f32) (m : Vec Ideal S512x1 .f32) (r : Fin 512) :
    df s m (ix2 r 0) = m (ix2 r 0) - mx s m (ix2 r 0) := by
  pointwise [k0_pay29]

theorem p31 (p : FVec Ideal S512x256 .f32) (d : FVec Ideal S512x1 .f32) (l : Vec Ideal S512x1 .f32) (r : Fin 512) :
    k0_pay31 p d l (ix2 r 0) = Ideal.exp (d (ix2 r 0)) * l (ix2 r 0) + ∑ x : Fin 256, p (ix2 r x) := by
  pointwise [k0_pay31, k0_pay30]

theorem p32 (v : Vec Ideal S256x128 .bf16) (p : FVec Ideal S512x256 .f32) (d : FVec Ideal S512x1 .f32) (a : Vec Ideal S512x128 .f32) (r : Fin 512)
    (e : Fin 128) :
    k0_pay32 v p d a (ix2 r e) = Ideal.exp (d (ix2 r 0)) * a (ix2 r e) + ∑ x : Fin 256, p (ix2 r x) * v (ix2 x e) := by
  pointwise [k0_pay32, k0_pay30]

theorem p17 (r : Fin 512) : k0_pay17 (F := Ideal) (ix2 r 0) = Ideal.ofBits .f32 0xFF800000#32 := by
  pointwise [k0_pay17]

theorem p18 (r : Fin 512) : k0_pay18 (F := Ideal) (ix2 r 0) = 0 := by
  pointwise [k0_pay18]

theorem p19 (r : Fin 512) (e : Fin 128) : k0_pay19 (F := Ideal) (ix2 r e) = 0 := by
  pointwise [k0_pay19]

theorem p1 (lam : FVec Ideal S1x1 .f32) (a a' : Vec Ideal S256x128 .f32) (l l' : Vec Ideal S256x1 .f32) (nw : Vec Ideal S1x128 .f32)
    (g : Vec Ideal S256x128 .bf16) (p : Fin 256) (e : Fin 128) :
    k0_pay1 lam a l a' l' nw g (ix2 p e)
    = rmsRow (fun e => Ideal.div (a (ix2 p e)) (l (ix2 p 0)) - lam (ix2 0 0) * Ideal.div (a' (ix2 p e)) (l' (ix2 p 0))) (nw (ix2 0 e)) e
      * Ideal.ofBits .f32 0x3F4CCCCD#32 * g (ix2 p e) := by
  unfold rmsRow
  pointwise [k0_pay1]

theorem p34 (w : Vec Ideal S4x64 .f32) :
    k0_pay34 w (ix2 0 0) = Ideal.exp (∑ y : Fin 64, w (ix2 0 y) * w (ix2 1 y)) - Ideal.exp (∑ y : Fin 64, w (ix2 2 y) * w (ix2 3 y))
      + Ideal.ofBits .f32 0x3E4CCCCD#32 := by
  pointwise [k0_pay34]

end Cert.AttnIdeal.Mine
end
-- ==== Proof.Online.lean ====
/- A softmax computed tile by tile: the largest score so far, the sum of the weights and the weighted sum of the values. -/
module

public import proofs.«01_k».proof.Proof.Sums

@[expose] public section

set_option maxRecDepth 16384

noncomputable section

open Idealize.ShloMosaic Idealize.ShloMosaic.TcCoe Idealize.SL.Sem
open Idealize.ShloMosaic.Pipeline (Dat)
open scoped BigOperators

namespace Cert.Online
open Cert.Sums

theorem exp_bot : Ideal.exp ⊥ = 0 := rfl
theorem exp_coe (r : ℝ) : Ideal.exp (r : EReal) = ((Real.exp r : ℝ) : EReal) := rfl

theorem exp_nonneg (x : EReal) : 0 ≤ Ideal.exp x := by
  induction x using EReal.rec with
  | bot => exact le_refl _
  | top => exact le_top
  | coe r => rw [exp_coe]; exact_mod_cast (Real.exp_pos r).le

/-- The weight of a score that is at most the reference score is a real. -/
theorem exp_sub_real {s m : EReal} (h : s ≤ m) : ∃ r : ℝ, 0 ≤ r ∧ Ideal.exp (s - m) = (r : EReal) := by
  induction m using EReal.rec with
  | bot => exact ⟨0, le_refl _, by rw [le_bot_iff.mp h]; rfl⟩
  | top => exact ⟨0, le_refl _, by rw [EReal.sub_top]; rfl⟩
  | coe m =>
    induction s using EReal.rec with
    | bot => exact ⟨0, le_refl _, rfl⟩
    | top => exact absurd h (by simp)
    | coe s => exact ⟨Real.exp (s - m), (Real.exp_pos _).le, rfl⟩

theorem exp_ne_top {s m : EReal} (h : s ≤ m) : Ideal.exp (s - m) ≠ ⊤ := by
  obtain ⟨r, -, e⟩ := exp_sub_real h
  rw [e]; exact EReal.coe_ne_top r

/-- Weights compose: from the score to an intermediate maximum, and on to a larger one. -/
theorem exp_trans {s m m' : EReal} (h : s ≤ m) (h' : m ≤ m') :
    Ideal.exp (m - m') * Ideal.exp (s - m) = Ideal.exp (s - m') := by
  induction m' using EReal.rec with
  | bot => obtain rfl := le_bot_iff.mp h'; obtain rfl := le_bot_iff.mp h; simp [exp_bot]
  | top => rw [EReal.sub_top, EReal.sub_top]; simp [exp_bot]
  | coe m' =>
    induction m using EReal.rec with
    | bot => obtain rfl := le_bot_iff.mp h; simp [exp_bot]
    | top => exact absurd h' (by simp)
    | coe m =>
      induction s using EReal.rec with
      | bot => simp [exp_bot]
      | top => exact absurd h (by simp)
      | coe s =>
        rw [← EReal.coe_sub, ← EReal.coe_sub, ← EReal.coe_sub, exp_coe, exp_coe, exp_coe, ← EReal.coe_mul, ← Real.exp_add]
        congr 2; ring

variable (S v : ℕ → EReal)

/-- The largest of the first `n` scores. -/
def top (n : ℕ) : EReal := (Finset.range n).sup S
/-- The sum of the weights of the first `n` scores. -/
def wt (n : ℕ) : EReal := ∑ k ∈ Finset.range n, Ideal.exp (S k - top S n)
/-- The weighted sum of the first `n` values. -/
def mix (n : ℕ) : EReal := ∑ k ∈ Finset.range n, Ideal.exp (S k - top S n) * v k

theorem top_zero : top S 0 = ⊥ := rfl
theorem wt_zero : wt S 0 = 0 := rfl
theorem mix_zero : mix S v 0 = 0 := rfl

theorem le_top_of {n k : ℕ} (h : k < n) : S k ≤ top S n := Finset.le_sup (f := S) (Finset.mem_range.mpr h)

theorem top_mono {n n' : ℕ} (h : n ≤ n') : top S n ≤ top S n' :=
  Finset.sup_mono (Finset.range_mono h)

theorem fold_sup {w : ℕ} (f : Fin w → EReal) : Finset.fold max ⊥ f Finset.univ = Finset.univ.sup f := rfl

/-- One more tile of `w` scores: the maximum. -/
theorem step_top (n w : ℕ) (f : Fin w → EReal) (hf : ∀ x, f x = S (n + x)) :
    max (top S n) (Finset.fold max ⊥ f Finset.univ) = top S (n + w) := by
  rw [fold_sup]
  apply le_antisymm
  · refine max_le (top_mono S (by omega)) (Finset.sup_le fun x _ => ?_)
    rw [hf]; exact le_top_of S (by omega)
  · refine Finset.sup_le fun k hk => ?_
    have hk := Finset.mem_range.mp hk
    by_cases h : k < n
    · exact (le_top_of S h).trans (le_max_left _ _)
    · refine le_trans ?_ (le_max_right _ _)
      have := Finset.le_sup (f := f) (Finset.mem_univ (⟨k - n, by omega⟩ : Fin w))
      rw [hf] at this
      rwa [show n + (k - n) = k by omega] at this

theorem sum_add (g : ℕ → EReal) (n w : ℕ) :
    ∑ k ∈ Finset.range (n + w), g k = ∑ k ∈ Finset.range n, g k + ∑ x : Fin w, g (n + x) := by
  rw [Finset.sum_range_add, Finset.sum_range (fun x => g (n + x))]

/-- One more tile of `w` scores: the sum of the weights. -/
theorem step_wt (n w : ℕ) (f : Fin w → EReal) (hf : ∀ x, f x = S (n + x)) :
    Ideal.exp (top S n - top S (n + w)) * wt S n + ∑ x, Ideal.exp (f x - top S (n + w)) = wt S (n + w) := by
  have ht : top S n ≤ top S (n + w) := top_mono S (by omega)
  unfold wt
  rw [sum_add, mul_sum_real _ _ _ (exp_nonneg _) (exp_ne_top ht)]
  refine congrArg₂ (· + ·) (Finset.sum_congr rfl fun k hk => ?_) (Finset.sum_congr rfl fun x _ => by rw [hf])
  exact exp_trans (le_top_of S (Finset.mem_range.mp hk)) ht

/-- One more tile of `w` scores: the weighted sum of the values. -/
theorem step_mix (n w : ℕ) (f u : Fin w → EReal) (hf : ∀ x, f x = S (n + x)) (hu : ∀ x, u x = v (n + x)) :
    Ideal.exp (top S n - top S (n + w)) * mix S v n + ∑ x, Ideal.exp (f x - top S (n + w)) * u x = mix S v (n + w) := by
  have ht : top S n ≤ top S (n + w) := top_mono S (by omega)
  unfold mix
  rw [sum_add, mul_sum_real _ _ _ (exp_nonneg _) (exp_ne_top ht)]
  refine congrArg₂ (· + ·) (Finset.sum_congr rfl fun k hk => ?_) (Finset.sum_congr rfl fun x _ => by rw [hf, hu])
  rw [← mul_assoc, exp_trans (le_top_of S (Finset.mem_range.mp hk)) ht]

/-- Scores that are masked away change nothing: the maximum. -/
theorem top_ext {n n' : ℕ} (h : n ≤ n') (hS : ∀ k, n ≤ k → S k = ⊥) : top S n' = top S n := by
  apply le_antisymm _ (top_mono S h)
  refine Finset.sup_le fun k hk => ?_
  by_cases hk' : k < n
  · exact le_top_of S hk'
  · rw [hS k (by omega)]; exact bot_le

theorem sum_ext_zero {n n' : ℕ} (h : n ≤ n') (g : ℕ → EReal) (hg : ∀ k, n ≤ k → g k = 0) :
    ∑ k ∈ Finset.range n', g k = ∑ k ∈ Finset.range n, g k := by
  refine (Finset.sum_subset (Finset.range_mono h) fun k _ hk => hg k ?_).symm
  simpa using hk

theorem wt_ext {n n' : ℕ} (h : n ≤ n') (hS : ∀ k, n ≤ k → S k = ⊥) : wt S n' = wt S n := by
  unfold wt
  rw [top_ext S h hS]
  exact sum_ext_zero h _ fun k hk => by rw [hS k hk, EReal.bot_sub, exp_bot]

theorem mix_ext {n n' : ℕ} (h : n ≤ n') (hS : ∀ k, n ≤ k → S k = ⊥) : mix S v n' = mix S v n := by
  unfold mix
  rw [top_ext S h hS]
  exact sum_ext_zero h _ fun k hk => by rw [hS k hk, EReal.bot_sub, exp_bot, zero_mul]

end Cert.Online
end
-- ==== Proof.AttnLoop.lean ====
/- The attention's loop over the whole tiles of keys: what its accumulators hold. -/
module

public import Idealize.ShloMosaic.Lib.VecWindow
public import proofs.«01_k».proof.Proof.AttnPay
public import proofs.«01_k».proof.Proof.Online

@[expose] public section

set_option maxRecDepth 16384

noncomputable section

open Idealize.ShloMosaic Idealize.ShloMosaic.TcCoe Idealize.SL.Sem
open Idealize.ShloMosaic.Pipeline (Dat)
open scoped BigOperators

namespace Cert.AttnIdeal.Mine
open Cert.AttnIdeal Cert.AttnIdeal.Gen Cert.Sums Cert.Online

/-- The tile of keys or values that trip `k` reads. -/
abbrev tile (a : Memref sig .tc .vmem S4096x128 .bf16) (X : BufTy.Contents (Elt Ideal) a.view.ty) (i : grid0.Coords)
    (k : Fin (k0_t1_loop i).trips) : Vec Ideal S256x128 .bf16 :=
  View.readAt (Elt Ideal) a.view (Rect.unit (s := S4096x128) (k0_off1 i k) S256x128.size (k0_off1_inb i k)).toLoadRect X

theorem trip_read (𝒱 : Variants) (c : Dev nD) (bd : Option 𝒱.V) (i : grid0.Coords) (arg3 : Memref sig .tc .vmem S4x64 .f32) (harg3 : arg3.IsWhole) (arg4 : Memref sig .tc .vmem S256x128 .bf16) (harg4 : arg4.IsWhole) (arg5 : Memref sig .tc .vmem S4096x128 .bf16) (harg5 : arg5.IsWhole) (arg6 : Memref sig .tc .vmem S4096x128 .bf16) (harg6 : arg6.IsWhole) (arg7 : Memref sig .tc .vmem S256x128 .bf16) (harg7 : arg7.IsWhole) (arg8 : Memref sig .tc .vmem S1x128 .f32) (harg8 : arg8.IsWhole) (arg9 : Memref sig .tc .vmem S256x128 .bf16) (harg9 : arg9.IsWhole) (arg10 : Memref sig .tc .vmem S512x128 .bf16) (harg10 : arg10.IsWhole) (arg11 : Memref sig .tc .vmem S512x1 .f32) (harg11 : arg11.IsWhole) (arg12 : Memref sig .tc .vmem S512x1 .f32) (harg12 : arg12.IsWhole) (arg13 : Memref sig .tc .vmem S512x128 .f32) (harg13 : arg13.IsWhole) (arg2 : BitVec 32) (c0_i32_14 : BitVec 32) (v30 : BitVec 32) (X_arg5 : BufTy.Contents (Elt Ideal) arg5.view.ty) (X_arg6 : BufTy.Contents (Elt Ideal) arg6.view.ty) (X_arg10 : BufTy.Contents (Elt Ideal) arg10.view.ty) (k : Fin (k0_t1_loop i).trips) (f_arg11 : BufTy.Contents (Elt Ideal) arg11.view.ty) (f_arg12 : BufTy.Contents (Elt Ideal) arg12.view.ty) (f_arg13 : BufTy.Contents (Elt Ideal) arg13.view.ty) (L11 L12 : List (View.Piece (Elt Ideal) S512x1 .f32)) (L13 : List (View.Piece (Elt Ideal) S512x128 .f32)) (G_arg11 : BufTy.Contents (Elt Ideal) arg11.view.ty) (G_arg12 : BufTy.Contents (Elt Ideal) arg12.view.ty) (G_arg13 : BufTy.Contents (Elt Ideal) arg13.view.ty) :
      arg11.view.read (Elt Ideal) (arg11.view.writes (Elt Ideal) G_arg11 ((tripL_k0_t1 (F := Ideal) 𝒱 c bd i arg3 harg3 arg4 harg4 arg5 harg5 arg6 harg6 arg7 harg7 arg8 harg8 arg9 harg9 arg10 harg10 arg11 harg11 arg12 harg12 arg13 harg13 arg2 c0_i32_14 v30 X_arg5 X_arg6 X_arg10 k f_arg11 f_arg12 f_arg13).1 ++ L11))
        = k0_pay20 (k0_pay3 (tile arg5 X_arg5 i k) (arg10.view.read (Elt Ideal) X_arg10) (arg11.view.read (Elt Ideal) f_arg11))
      ∧ arg12.view.read (Elt Ideal) (arg12.view.writes (Elt Ideal) G_arg12 ((tripL_k0_t1 (F := Ideal) 𝒱 c bd i arg3 harg3 arg4 harg4 arg5 harg5 arg6 harg6 arg7 harg7 arg8 harg8 arg9 harg9 arg10 harg10 arg11 harg11 arg12 harg12 arg13 harg13 arg2 c0_i32_14 v30 X_arg5 X_arg6 X_arg10 k f_arg11 f_arg12 f_arg13).2.1 ++ L12))
        = k0_pay6 (tile arg5 X_arg5 i k) (arg10.view.read (Elt Ideal) X_arg10) (arg11.view.read (Elt Ideal) f_arg11) (arg12.view.read (Elt Ideal) f_arg12)
      ∧ arg13.view.read (Elt Ideal) (arg13.view.writes (Elt Ideal) G_arg13 ((tripL_k0_t1 (F := Ideal) 𝒱 c bd i arg3 harg3 arg4 harg4 arg5 harg5 arg6 harg6 arg7 harg7 arg8 harg8 arg9 harg9 arg10 harg10 arg11 harg11 arg12 harg12 arg13 harg13 arg2 c0_i32_14 v30 X_arg5 X_arg6 X_arg10 k f_arg11 f_arg12 f_arg13).2.2 ++ L13))
        = k0_pay7 (tile arg5 X_arg5 i k) (tile arg6 X_arg6 i k) (arg10.view.read (Elt Ideal) X_arg10) (arg11.view.read (Elt Ideal) f_arg11) (arg13.view.read (Elt Ideal) f_arg13) := by
  · unfold tripL_k0_t1 trip_k0_t1
    dsimp only [trip_k0_t1.sl.r]
    have e10 : View.readAt (Elt Ideal) arg10.view (Rect.unit ![0, 0] ![512, 128] inb_S512x128_S512x128_0_0).toLoadRect X_arg10
      = arg10.view.read (Elt Ideal) X_arg10 := View.readAt_full _ _ _
    have e11 : View.readAt (Elt Ideal) arg11.view (Rect.unit ![0, 0] ![512, 1] inb_S512x1_S512x1_0_0).toLoadRect f_arg11
      = arg11.view.read (Elt Ideal) f_arg11 := View.readAt_full _ _ _
    have e12 : View.readAt (Elt Ideal) arg12.view (Rect.unit ![0, 0] ![512, 1] inb_S512x1_S512x1_0_0).toLoadRect f_arg12
      = arg12.view.read (Elt Ideal) f_arg12 := View.readAt_full _ _ _
    have e13 : View.readAt (Elt Ideal) arg13.view (Rect.unit ![0, 0] ![512, 128] inb_S512x128_S512x128_0_0).toLoadRect f_arg13
      = arg13.view.read (Elt Ideal) f_arg13 := View.readAt_full _ _ _
    rw [e10, e11, e12, e13]
    exact ⟨View.read_writes_full _ _ _ _ _, View.read_writes_full _ _ _ _ _, View.read_writes_full _ _ _ _ _⟩

/-- Before trip `n` the accumulators hold the maximum, the weight and the weighted sum of the first `256 * n` scores. -/
theorem loop_inv (𝒱 : Variants) (c : Dev nD) (bd : Option 𝒱.V) (i : grid0.Coords) (arg3 : Memref sig .tc .vmem S4x64 .f32) (harg3 : arg3.IsWhole) (arg4 : Memref sig .tc .vmem S256x128 .bf16) (harg4 : arg4.IsWhole) (arg5 : Memref sig .tc .vmem S4096x128 .bf16) (harg5 : arg5.IsWhole) (arg6 : Memref sig .tc .vmem S4096x128 .bf16) (harg6 : arg6.IsWhole) (arg7 : Memref sig .tc .vmem S256x128 .bf16) (harg7 : arg7.IsWhole) (arg8 : Memref sig .tc .vmem S1x128 .f32) (harg8 : arg8.IsWhole) (arg9 : Memref sig .tc .vmem S256x128 .bf16) (harg9 : arg9.IsWhole) (arg10 : Memref sig .tc .vmem S512x128 .bf16) (harg10 : arg10.IsWhole) (arg11 : Memref sig .tc .vmem S512x1 .f32) (harg11 : arg11.IsWhole) (arg12 : Memref sig .tc .vmem S512x1 .f32) (harg12 : arg12.IsWhole) (arg13 : Memref sig .tc .vmem S512x128 .f32) (harg13 : arg13.IsWhole) (arg2 : BitVec 32) (c0_i32_14 : BitVec 32) (v30 : BitVec 32) (X_arg5 : BufTy.Contents (Elt Ideal) arg5.view.ty) (X_arg6 : BufTy.Contents (Elt Ideal) arg6.view.ty) (X_arg10 : BufTy.Contents (Elt Ideal) arg10.view.ty) (G_arg11 : BufTy.Contents (Elt Ideal) arg11.view.ty) (G_arg12 : BufTy.Contents (Elt Ideal) arg12.view.ty) (G_arg13 : BufTy.Contents (Elt Ideal) arg13.view.ty) (S : Fin 512 → ℕ → EReal) (v : Fin 128 → ℕ → EReal)
    (hS : ∀ (k : Fin (k0_t1_loop i).trips) (r : Fin 512) (x : Fin 256),
      k0_pay2 (tile arg5 X_arg5 i k) (arg10.view.read (Elt Ideal) X_arg10) (ix2 r x) = S r (256 * k + x))
    (hv : ∀ (k : Fin (k0_t1_loop i).trips) (e : Fin 128) (x : Fin 256),
      (tile arg6 X_arg6 i k) (ix2 x e) = v e (256 * k + x))
    (h11 : ∀ r, (arg11.view.read (Elt Ideal) G_arg11) (ix2 r 0) = ⊥) (h12 : ∀ r, (arg12.view.read (Elt Ideal) G_arg12) (ix2 r 0) = (0 : EReal))
    (h13 : ∀ r e, (arg13.view.read (Elt Ideal) G_arg13) (ix2 r e) = (0 : EReal)) (n : ℕ) (hn : n ≤ (k0_t1_loop i).trips) :
    (∀ r, (arg11.view.read (Elt Ideal) (arg11.view.writes (Elt Ideal) G_arg11 (pb_k0_t1 (F := Ideal) 𝒱 c bd i arg3 harg3 arg4 harg4 arg5 harg5 arg6 harg6 arg7 harg7 arg8 harg8 arg9 harg9 arg10 harg10 arg11 harg11 arg12 harg12 arg13 harg13 arg2 c0_i32_14 v30 X_arg5 X_arg6 X_arg10 G_arg11 G_arg12 G_arg13 n).1)) (ix2 r 0) = top (S r) (256 * n))
    ∧ (∀ r, (arg12.view.read (Elt Ideal) (arg12.view.writes (Elt Ideal) G_arg12 (pb_k0_t1 (F := Ideal) 𝒱 c bd i arg3 harg3 arg4 harg4 arg5 harg5 arg6 harg6 arg7 harg7 arg8 harg8 arg9 harg9 arg10 harg10 arg11 harg11 arg12 harg12 arg13 harg13 arg2 c0_i32_14 v30 X_arg5 X_arg6 X_arg10 G_arg11 G_arg12 G_arg13 n).2.1)) (ix2 r 0) = wt (S r) (256 * n))
    ∧ (∀ r e, (arg13.view.read (Elt Ideal) (arg13.view.writes (Elt Ideal) G_arg13 (pb_k0_t1 (F := Ideal) 𝒱 c bd i arg3 harg3 arg4 harg4 arg5 harg5 arg6 harg6 arg7 harg7 arg8 harg8 arg9 harg9 arg10 harg10 arg11 harg11 arg12 harg12 arg13 harg13 arg2 c0_i32_14 v30 X_arg5 X_arg6 X_arg10 G_arg11 G_arg12 G_arg13 n).2.2)) (ix2 r e) = mix (S r) (v e) (256 * n)) := by
  induction n with
  | zero => exact ⟨h11, h12, h13⟩
  | succ n ih =>
    obtain ⟨i1, i2, i3⟩ := ih (by omega)
    rw [pb_k0_t1_succ 𝒱 c bd i arg3 harg3 arg4 harg4 arg5 harg5 arg6 harg6 arg7 harg7 arg8 harg8 arg9 harg9 arg10 harg10 arg11 harg11 arg12 harg12 arg13 harg13 arg2 c0_i32_14 v30 X_arg5 X_arg6 X_arg10 G_arg11 G_arg12 G_arg13 ⟨n, hn⟩]
    dsimp only
    obtain ⟨t1, t2, t3⟩ := trip_read 𝒱 c bd i arg3 harg3 arg4 harg4 arg5 harg5 arg6 harg6 arg7 harg7 arg8 harg8 arg9 harg9 arg10 harg10 arg11 harg11 arg12 harg12 arg13 harg13 arg2 c0_i32_14 v30 X_arg5 X_arg6 X_arg10 ⟨n, hn⟩
      (arg11.view.writes (Elt Ideal) G_arg11 (pb_k0_t1 (F := Ideal) 𝒱 c bd i arg3 harg3 arg4 harg4 arg5 harg5 arg6 harg6 arg7 harg7 arg8 harg8 arg9 harg9 arg10 harg10 arg11 harg11 arg12 harg12 arg13 harg13 arg2 c0_i32_14 v30 X_arg5 X_arg6 X_arg10 G_arg11 G_arg12 G_arg13 n).1) (arg12.view.writes (Elt Ideal) G_arg12 (pb_k0_t1 (F := Ideal) 𝒱 c bd i arg3 harg3 arg4 harg4 arg5 harg5 arg6 harg6 arg7 harg7 arg8 harg8 arg9 harg9 arg10 harg10 arg11 harg11 arg12 harg12 arg13 harg13 arg2 c0_i32_14 v30 X_arg5 X_arg6 X_arg10 G_arg11 G_arg12 G_arg13 n).2.1)
      (arg13.view.writes (Elt Ideal) G_arg13 (pb_k0_t1 (F := Ideal) 𝒱 c bd i arg3 harg3 arg4 harg4 arg5 harg5 arg6 harg6 arg7 harg7 arg8 harg8 arg9 harg9 arg10 harg10 arg11 harg11 arg12 harg12 arg13 harg13 arg2 c0_i32_14 v30 X_arg5 X_arg6 X_arg10 G_arg11 G_arg12 G_arg13 n).2.2) (pb_k0_t1 (F := Ideal) 𝒱 c bd i arg3 harg3 arg4 harg4 arg5 harg5 arg6 harg6 arg7 harg7 arg8 harg8 arg9 harg9 arg10 harg10 arg11 harg11 arg12 harg12 arg13 harg13 arg2 c0_i32_14 v30 X_arg5 X_arg6 X_arg10 G_arg11 G_arg12 G_arg13 n).1 (pb_k0_t1 (F := Ideal) 𝒱 c bd i arg3 harg3 arg4 harg4 arg5 harg5 arg6 harg6 arg7 harg7 arg8 harg8 arg9 harg9 arg10 harg10 arg11 harg11 arg12 harg12 arg13 harg13 arg2 c0_i32_14 v30 X_arg5 X_arg6 X_arg10 G_arg11 G_arg12 G_arg13 n).2.1 (pb_k0_t1 (F := Ideal) 𝒱 c bd i arg3 harg3 arg4 harg4 arg5 harg5 arg6 harg6 arg7 harg7 arg8 harg8 arg9 harg9 arg10 harg10 arg11 harg11 arg12 harg12 arg13 harg13 arg2 c0_i32_14 v30 X_arg5 X_arg6 X_arg10 G_arg11 G_arg12 G_arg13 n).2.2 G_arg11 G_arg12 G_arg13
    rw [t1, t2, t3]
    have m3 : ∀ r, k0_pay3 (tile arg5 X_arg5 i ⟨n, hn⟩) (arg10.view.read (Elt Ideal) X_arg10) (arg11.view.read (Elt Ideal) (arg11.view.writes (Elt Ideal) G_arg11 (pb_k0_t1 (F := Ideal) 𝒱 c bd i arg3 harg3 arg4 harg4 arg5 harg5 arg6 harg6 arg7 harg7 arg8 harg8 arg9 harg9 arg10 harg10 arg11 harg11 arg12 harg12 arg13 harg13 arg2 c0_i32_14 v30 X_arg5 X_arg6 X_arg10 G_arg11 G_arg12 G_arg13 n).1)) (ix2 r 0) = top (S r) (256 * n + 256) := fun r => by
      rw [p3, i1, negInf]
      exact step_top (S r) (256 * n) 256 _ fun x => hS ⟨n, hn⟩ r x
    refine ⟨fun r => ?_, fun r => ?_, fun r e => ?_⟩
    · rw [p20, m3]; rfl
    · rw [p6, p5, m3, i1, i2]
      refine Eq.trans ?_ (step_wt (S r) (256 * n) 256 _ fun x => hS ⟨n, hn⟩ r x)
      refine congrArg _ (Finset.sum_congr rfl fun x _ => ?_)
      rw [p4, m3]
    · rw [p7, p5, m3, i1, i3]
      have hf : ∀ x : Fin 256, _ = S r (256 * n + x) := fun x => hS ⟨n, hn⟩ r x
      have hu : ∀ x : Fin 256, _ = v e (256 * n + x) := fun x => hv ⟨n, hn⟩ e x
      refine Eq.trans ?_ (step_mix (S r) (v e) (256 * n) 256 _ _ hf hu)
      refine congrArg _ (Finset.sum_congr rfl fun x _ => ?_)
      rw [p4, m3]

end Cert.AttnIdeal.Mine
end
-- ==== Proof.AttnBlk.lean ====
/- The attention's masks at an index, and the blocks its inputs are read from. -/
module

public import proofs.«01_k».proof.Proof.AttnPay

@[expose] public section

set_option maxRecDepth 16384

noncomputable section

open Idealize.ShloMosaic Idealize.ShloMosaic.TcCoe Idealize.SL.Sem
open Idealize.ShloMosaic.Pipeline (Dat)
open scoped BigOperators

namespace Cert.AttnIdeal.Mine
open Cert.AttnIdeal Cert.AttnIdeal.Gen Cert.Sums

/-- The query's row in its tile, as a word. -/
theorem w23 (r : Fin 512) (x : Fin 256) : k0_pay23 (ix2 r x) = BitVec.ofNat 32 ((r : ℕ) % 256) := by
  unfold k0_pay23
  pointwise
  revert r
  decide +kernel

theorem w24 (r : Fin 512) (x : Fin 256) : k0_pay24 (ix2 r x) = BitVec.ofNat 32 ((r : ℕ) % 256 / 64) := by
  unfold k0_pay24
  pointwise
  rw [w23]
  clear x
  revert r
  decide +kernel

theorem w25 (r : Fin 512) (x : Fin 256) : k0_pay25 (ix2 r x) = if (r : ℕ) % 256 = 0 then 0#32 else 1#32 := by
  unfold k0_pay25
  pointwise
  rw [w23]
  clear x
  revert r
  decide +kernel

theorem sel_sle (a b : ℕ) (ha : a < 4) (hb : b < 4) (u v : EReal) :
    Scalar.select (IntOp.cmpi .sle (BitVec.ofNat 32 a) (BitVec.ofNat 32 b)) u v = if a ≤ b then u else v := by
  have h : ∀ a b : Fin 4, IntOp.cmpi .sle (BitVec.ofNat 32 a) (BitVec.ofNat 32 b) = if (a : ℕ) ≤ b then 1#1 else 0#1 := by decide +kernel
  rw [h ⟨a, ha⟩ ⟨b, hb⟩]
  show Scalar.select (if a ≤ b then 1#1 else 0#1) u v = _
  split
  · rfl
  · rfl

theorem p26 (s : FVec Ideal S512x256 .f32) (r : Fin 512) (x : Fin 256) :
    msk s (ix2 r x) = if (x : ℕ) / 64 ≤ (r : ℕ) % 256 / 64 then s (ix2 r x) else Ideal.ofBits .f32 0xFF800000#32 := by
  refine Eq.trans ?_ (sel_sle ((x : ℕ) / 64) ((r : ℕ) % 256 / 64) (by omega) (by omega) _ _)
  unfold msk
  unfold k0_pay26
  pointwise
  rw [w23, w24, w25]
  refine congrArg₂ (fun a b => Scalar.select (IntOp.cmpi .sle a b) _ _) ?_ ?_
  · clear s r
    revert x
    decide +kernel
  · clear s x
    revert r
    decide +kernel

theorem sel_lt : ∀ y : Fin 128, IntOp.cmpi .slt (BitVec.ofNat 32 y) 64#32 = if (y : ℕ) < 64 then 1#1 else 0#1 := by decide +kernel
theorem sel_ge : ∀ y : Fin 128, IntOp.cmpi .sge (BitVec.ofNat 32 y) 64#32 = if (y : ℕ) < 64 then 0#1 else 1#1 := by decide +kernel

theorem p15 (q : Vec Ideal S256x128 .bf16) (p : Fin 256) (y : Fin 128) :
    k0_pay15 q (ix2 p y) = if (y : ℕ) < 64 then q (ix2 p y) else 0 := by
  unfold k0_pay15 k0_pay14
  pointwise
  rw [sel_lt]
  split
  · rfl
  · rfl

theorem p16 (q : Vec Ideal S256x128 .bf16) (p : Fin 256) (y : Fin 128) :
    k0_pay16 q (ix2 p y) = if (y : ℕ) < 64 then 0 else q (ix2 p y) := by
  unfold k0_pay16 k0_pay14
  pointwise
  rw [sel_ge]
  split
  · rfl
  · rfl

variable (m : (ℓ : Loc nD τ sig) → Buf (Elt Ideal) ℓ)

theorem lt512 (t : Fin cfg0.N) : t.val < 512 := lt_of_lt_of_eq t.isLt N_0

theorem idx : ∀ t : Fin cfg0.N, win0_0.index t = ![0, 0] ∧ win0_1.index t = ![t.val / 64 * 16 + t.val % 16, t.val / 16 % 4]
    ∧ win0_2.index t = ![t.val / 64, t.val / 16 % 4] ∧ win0_3.index t = ![t.val / 64, t.val / 16 % 4]
    ∧ win0_4.index t = ![t.val / 64 * 16 + t.val % 16, t.val / 16 % 4] ∧ win0_5.index t = ![0, 0]
    ∧ win0_6.index t = ![t.val / 64 * 16 + t.val % 16, t.val / 16 % 4] := (by decide +kernel : ∀ t : Fin grid0.N, _)

theorem coord : ∀ t : Fin cfg0.N, (grid0.coords t 2).val = t.val % 16 := (by decide +kernel : ∀ t : Fin grid0.N, _)

theorem b1 (c : Dev nD) (t : Fin cfg0.N) (p : Fin 256) (y : Fin 128) : (iblk m c 1 t : FVec Ideal S256x128 .bf16) (ix2 p y)
    = m ((c : Thread nD τ).loc main_arg4) (ix2 ⟨(t.val / 64 * 16 + t.val % 16) * 256 + p, by have := lt512 t; omega⟩
      ⟨t.val / 16 % 4 * 128 + y, by omega⟩) := by
  have h := lt512 t
  blk_simp [iblk, idx t]
  entry_read
  pointwise
  blk_ext [idx t]

theorem b4 (c : Dev nD) (t : Fin cfg0.N) (p : Fin 256) (y : Fin 128) : (iblk m c 4 t : FVec Ideal S256x128 .bf16) (ix2 p y)
    = m ((c : Thread nD τ).loc main_arg7) (ix2 ⟨(t.val / 64 * 16 + t.val % 16) * 256 + p, by have := lt512 t; omega⟩
      ⟨t.val / 16 % 4 * 128 + y, by omega⟩) := by
  have h := lt512 t
  blk_simp [iblk, idx t]
  entry_read
  pointwise
  blk_ext [idx t]

theorem b2 (c : Dev nD) (t : Fin cfg0.N) (k : Fin 4096) (y : Fin 128) : (iblk m c 2 t : FVec Ideal S4096x128 .bf16) (ix2 k y)
    = m ((c : Thread nD τ).loc main_arg5) (ix2 ⟨t.val / 64 * 4096 + k, by have := lt512 t; omega⟩ ⟨t.val / 16 % 4 * 128 + y, by omega⟩) := by
  have h := lt512 t
  blk_simp [iblk, idx t]
  entry_read
  pointwise
  blk_ext [idx t]

theorem b3 (c : Dev nD) (t : Fin cfg0.N) (k : Fin 4096) (y : Fin 128) : (iblk m c 3 t : FVec Ideal S4096x128 .bf16) (ix2 k y)
    = m ((c : Thread nD τ).loc main_arg6) (ix2 ⟨t.val / 64 * 4096 + k, by have := lt512 t; omega⟩ ⟨t.val / 16 % 4 * 128 + y, by omega⟩) := by
  have h := lt512 t
  blk_simp [iblk, idx t]
  entry_read
  pointwise
  blk_ext [idx t]

theorem b5 (c : Dev nD) (t : Fin cfg0.N) (y : Fin 128) : (iblk m c 5 t : FVec Ideal S1x128 .f32) (ix2 0 y)
    = m ((c : Thread nD τ).loc main_arg8) (ix2 0 y) := by
  blk_simp [iblk, idx t]
  entry_read
  pointwise
  blk_ext [idx t]

end Cert.AttnIdeal.Mine
end
-- ==== Proof.AttnTile.lean ====
/- The attention's scores as the kernel forms them, its last tile of keys, and the reads of its accumulators. -/
module

public import Idealize.ShloMosaic.Lib.VecWindow
public import proofs.«01_k».proof.Proof.AttnLoop
public import proofs.«01_k».proof.Proof.AttnBlk

@[expose] public section

set_option maxRecDepth 16384

noncomputable section

open Idealize.ShloMosaic Idealize.ShloMosaic.TcCoe Idealize.SL.Sem
open Idealize.ShloMosaic.Pipeline (Dat)
open scoped BigOperators

namespace Cert.AttnIdeal.Mine
open Cert.AttnIdeal Cert.AttnIdeal.Gen Cert.Sums Cert.Online

/-- The masked score of the query `q` and the key `k`, of one batch entry, head and map, over the rows `Q` and `K`. -/
def scr (Q K : Fin 32768 → Fin 512 → EReal) (b : Fin 8) (h : Fin 4) (d : Fin 2) (q k : ℕ) (hq : q < 4096) (hk : k < 4096) : EReal :=
  if k / 64 ≤ q / 64 then ∑ y : Fin 64, Q ⟨b * 4096 + q, by omega⟩ ⟨h * 128 + d * 64 + y, by omega⟩
    * K ⟨b * 4096 + k, by omega⟩ ⟨h * 128 + d * 64 + y, by omega⟩ else ⊥

/-- The scores of one row of the kernel's stacked queries: the rows from 256 on are the second map's. -/
def row (Q K : Fin 32768 → Fin 512 → EReal) (b : Fin 8) (h : Fin 4) (i : Fin 16) (r : Fin 512) (k : ℕ) : EReal :=
  if hk : k < 4096 then scr Q K b h ⟨r / 256, by omega⟩ (i * 256 + r % 256) k (by omega) hk else ⊥

theorem row_late (Q K : Fin 32768 → Fin 512 → EReal) (b : Fin 8) (h : Fin 4) (i : Fin 16) (r : Fin 512) (k : ℕ) (hk : 256 * i + 256 ≤ k) :
    row Q K b h i r k = ⊥ := by
  unfold row scr
  split
  · rw [if_neg (by omega)]
  · rfl

theorem sum_half (f g : Fin 128 → EReal) (d : Fin 2) :
    (∑ y : Fin 128, (if (y : ℕ) / 64 = d then f y else 0) * g y) = ∑ y : Fin 64, f ⟨d * 64 + y, by omega⟩ * g ⟨d * 64 + y, by omega⟩ := by
  have e : (∑ y : Fin (64 + 64), (if (y : ℕ) / 64 = d then f y else 0) * g y) = ∑ y : Fin 64, f ⟨d * 64 + y, by omega⟩ * g ⟨d * 64 + y, by omega⟩ := by
    rw [Fin.sum_univ_add, ← Finset.sum_add_distrib]
    refine Finset.sum_congr rfl fun y _ => ?_
    have hy := y.isLt
    have e0 : ((Fin.castAdd 64 y : Fin (64 + 64)) : ℕ) = y := rfl
    have e1 : ((Fin.natAdd 64 y : Fin (64 + 64)) : ℕ) = 64 + y := rfl
    match d with
    | ⟨0, _⟩ =>
      rw [if_pos (by show y.val / 64 = 0; omega), if_neg (by show ¬ (64 + y.val) / 64 = 0; omega), zero_mul, add_zero]
      have : (⟨0 * 64 + y, by omega⟩ : Fin 128) = Fin.castAdd 64 y := Fin.ext (by show 0 * 64 + y.val = y.val; omega)
      exact (congrArg (fun a => f a * g a) this).symm
    | ⟨1, _⟩ =>
      rw [if_neg (by show ¬ y.val / 64 = 1; omega), if_pos (by show (64 + y.val) / 64 = 1; omega), zero_mul, zero_add]
      have : (⟨1 * 64 + y, by omega⟩ : Fin 128) = Fin.natAdd 64 y := Fin.ext (by show 1 * 64 + y.val = 64 + y.val; omega)
      exact (congrArg (fun a => f a * g a) this).symm
  exact e

/-- The product of a stacked query row with the key `k` of the keys' rows. -/
theorem dot_row (Q K : Fin 32768 → Fin 512 → EReal) (b : Fin 8) (h : Fin 4) (i : Fin 16) (r : Fin 512) (k : ℕ) (hk : k < 4096)
    (hc : k / 64 ≤ (i * 256 + r % 256) / 64) (qq kk : Fin 128 → EReal)
    (hq : ∀ y : Fin 128, qq y = if (y : ℕ) / 64 = r / 256 then Q ⟨b * 4096 + (i * 256 + r % 256), by omega⟩ ⟨h * 128 + y, by omega⟩ else 0)
    (hkk : ∀ y : Fin 128, kk y = K ⟨b * 4096 + k, by omega⟩ ⟨h * 128 + y, by omega⟩) :
    (∑ y, qq y * kk y) = row Q K b h i r k := by
  unfold row scr
  rw [dif_pos hk, if_pos hc]
  simp only [hq, hkk]
  refine (sum_half (fun y => Q ⟨b * 4096 + (i * 256 + r % 256), by omega⟩ ⟨h * 128 + y, by omega⟩)
    (fun y => K ⟨b * 4096 + k, by omega⟩ ⟨h * 128 + y, by omega⟩) ⟨r / 256, by omega⟩).trans ?_
  refine Finset.sum_congr rfl fun y _ => ?_
  have e : (⟨h * 128 + (r / 256 * 64 + y), by omega⟩ : Fin 512) = ⟨h * 128 + r / 256 * 64 + y, by omega⟩ := Fin.ext (Nat.add_assoc _ _ _).symm
  exact congrArg₂ (fun a c => Q _ a * K _ c) e e

/-- The last tile of keys, with its mask. -/
theorem last (s : FVec Ideal S512x256 .f32) (m0 l0 : Vec Ideal S512x1 .f32) (a0 : Vec Ideal S512x128 .f32) (vt : Vec Ideal S256x128 .bf16)
    (S : Fin 512 → ℕ → EReal) (v : Fin 128 → ℕ → EReal) (n : ℕ) (hs : ∀ r (x : Fin 256), msk s (ix2 r x) = S r (n + x))
    (hm : ∀ r, m0 (ix2 r 0) = top (S r) n) (hl : ∀ r, l0 (ix2 r 0) = wt (S r) n) (ha : ∀ r e, a0 (ix2 r e) = mix (S r) (v e) n)
    (hv : ∀ e (x : Fin 256), vt (ix2 x e) = v e (n + x)) :
    (∀ r, k0_pay31 (pr s m0) (df s m0) l0 (ix2 r 0) = wt (S r) (n + 256))
    ∧ (∀ r e, k0_pay32 vt (pr s m0) (df s m0) a0 (ix2 r e) = mix (S r) (v e) (n + 256)) := by
  have hx : ∀ r, mx s m0 (ix2 r 0) = top (S r) (n + 256) := fun r => by
    rw [p27, hm, negInf]
    exact step_top (S r) n 256 _ fun x => hs r x
  refine ⟨fun r => ?_, fun r e => ?_⟩
  · rw [p31, p29, hx, hm, hl]
    refine Eq.trans ?_ (step_wt (S r) n 256 _ fun x => hs r x)
    refine congrArg _ (Finset.sum_congr rfl fun x _ => ?_)
    rw [p28, hx]
  · rw [p32, p29, hx, hm, ha]
    have hf : ∀ x : Fin 256, _ = S r (n + x) := fun x => hs r x
    have hu : ∀ x : Fin 256, _ = v e (n + x) := fun x => hv e x
    refine Eq.trans ?_ (step_mix (S r) (v e) n 256 _ _ hf hu)
    refine congrArg _ (Finset.sum_congr rfl fun x _ => ?_)
    rw [p28, hx]

/-- The loop's accumulators, of pieces already named. -/
theorem loop_of {𝒱 : Variants}{c : Dev nD}{bd : Option 𝒱.V}{i : grid0.Coords}{arg3 : Memref sig .tc .vmem S4x64 .f32}{harg3 : arg3.IsWhole}{arg4 : Memref sig .tc .vmem S256x128 .bf16}{harg4 : arg4.IsWhole}{arg5 : Memref sig .tc .vmem S4096x128 .bf16}{harg5 : arg5.IsWhole}{arg6 : Memref sig .tc .vmem S4096x128 .bf16}{harg6 : arg6.IsWhole}{arg7 : Memref sig .tc .vmem S256x128 .bf16}{harg7 : arg7.IsWhole}{arg8 : Memref sig .tc .vmem S1x128 .f32}{harg8 : arg8.IsWhole}{arg9 : Memref sig .tc .vmem S256x128 .bf16}{harg9 : arg9.IsWhole}{arg10 : Memref sig .tc .vmem S512x128 .bf16}{harg10 : arg10.IsWhole}{arg11 : Memref sig .tc .vmem S512x1 .f32}{harg11 : arg11.IsWhole}{arg12 : Memref sig .tc .vmem S512x1 .f32}{harg12 : arg12.IsWhole}{arg13 : Memref sig .tc .vmem S512x128 .f32}{harg13 : arg13.IsWhole}{arg2 : BitVec 32}{c0_i32_14 : BitVec 32}{v30 : BitVec 32}{X_arg5 : BufTy.Contents (Elt Ideal) arg5.view.ty}{X_arg6 : BufTy.Contents (Elt Ideal) arg6.view.ty}{X_arg10 : BufTy.Contents (Elt Ideal) arg10.view.ty} {G_arg11 : BufTy.Contents (Elt Ideal) arg11.view.ty} {G_arg12 : BufTy.Contents (Elt Ideal) arg12.view.ty} {G_arg13 : BufTy.Contents (Elt Ideal) arg13.view.ty} {n : ℕ}
    {PB : List (View.Piece (Elt Ideal) S512x1 .f32) × List (View.Piece (Elt Ideal) S512x1 .f32) × List (View.Piece (Elt Ideal) S512x128 .f32)}
    (hPB : pb_k0_t1 (F := Ideal) 𝒱 c bd i arg3 harg3 arg4 harg4 arg5 harg5 arg6 harg6 arg7 harg7 arg8 harg8 arg9 harg9 arg10 harg10 arg11 harg11 arg12 harg12 arg13 harg13 arg2 c0_i32_14 v30 X_arg5 X_arg6 X_arg10 G_arg11 G_arg12 G_arg13 n = PB) (S : Fin 512 → ℕ → EReal) (v : Fin 128 → ℕ → EReal)
    (hS : ∀ (k : Fin (k0_t1_loop i).trips) (r : Fin 512) (x : Fin 256), k0_pay2 (tile arg5 X_arg5 i k) (arg10.view.read (Elt Ideal) X_arg10) (ix2 r x) = S r (256 * k + x))
    (hv : ∀ (k : Fin (k0_t1_loop i).trips) (e : Fin 128) (x : Fin 256), (tile arg6 X_arg6 i k) (ix2 x e) = v e (256 * k + x))
    (h11 : ∀ r, (arg11.view.read (Elt Ideal) G_arg11) (ix2 r 0) = ⊥) (h12 : ∀ r, (arg12.view.read (Elt Ideal) G_arg12) (ix2 r 0) = (0 : EReal))
    (h13 : ∀ r e, (arg13.view.read (Elt Ideal) G_arg13) (ix2 r e) = (0 : EReal)) (hn : n ≤ (k0_t1_loop i).trips) :
    (∀ r, (arg11.view.read (Elt Ideal) (arg11.view.writes (Elt Ideal) G_arg11 PB.1)) (ix2 r 0) = top (S r) (256 * n))
    ∧ (∀ r, (arg12.view.read (Elt Ideal) (arg12.view.writes (Elt Ideal) G_arg12 PB.2.1)) (ix2 r 0) = wt (S r) (256 * n))
    ∧ (∀ r e, (arg13.view.read (Elt Ideal) (arg13.view.writes (Elt Ideal) G_arg13 PB.2.2)) (ix2 r e) = mix (S r) (v e) (256 * n)) := by
  subst hPB
  exact loop_inv 𝒱 c bd i arg3 harg3 arg4 harg4 arg5 harg5 arg6 harg6 arg7 harg7 arg8 harg8 arg9 harg9 arg10 harg10 arg11 harg11 arg12 harg12 arg13 harg13 arg2 c0_i32_14 v30 X_arg5 X_arg6 X_arg10 G_arg11 G_arg12 G_arg13 S v hS hv h11 h12 h13 n hn

theorem cov128 {sp : Space} (v : View sig .tc sp S512x128 .f32) (w : Vec Ideal S512x128 .f32) (L : List (View.Piece (Elt Ideal) S512x128 .f32)) (o : ℕ)
    (inb : ∀ a, (![o, 0] : Fin 2 → ℕ) a + S256x128.size a ≤ S512x128.size a) (p : Fin 256) (e : Fin 128) (ho : o + p < 512) :
    (v.readCov (⟨Rect.unit ![0, 0] ![512, 128] inb_S512x128_S512x128_0_0, w⟩ :: L) (Rect.unit (s := S512x128) ![o, 0] S256x128.size inb).toLoadRect : Vec Ideal S256x128 .f32)
      (ix2 p e) = w (ix2 ⟨o + p, ho⟩ e) := by
  refine (congrFun (View.read_writes_full v v.junk inb_S512x128_S512x128_0_0 w L) _).trans (congrArg w (funext fun a => Fin.ext ?_))
  match a with
  | ⟨0, _⟩ => show o + 1 * p.val = o + p.val; omega
  | ⟨1, _⟩ => show 0 + 1 * e.val = e.val; omega

theorem cov1 {sp : Space} (v : View sig .tc sp S512x1 .f32) (w : Vec Ideal S512x1 .f32) (L : List (View.Piece (Elt Ideal) S512x1 .f32)) (o : ℕ)
    (inb : ∀ a, (![o, 0] : Fin 2 → ℕ) a + S256x1.size a ≤ S512x1.size a) (p : Fin 256) (ho : o + p < 512) :
    (v.readCov (⟨Rect.unit ![0, 0] ![512, 1] inb_S512x1_S512x1_0_0, w⟩ :: L) (Rect.unit (s := S512x1) ![o, 0] S256x1.size inb).toLoadRect : Vec Ideal S256x1 .f32)
      (ix2 p 0) = w (ix2 ⟨o + p, ho⟩ 0) := by
  refine (congrFun (View.read_writes_full v v.junk inb_S512x1_S512x1_0_0 w L) _).trans (congrArg w (funext fun a => Fin.ext ?_))
  match a with
  | ⟨0, _⟩ => show o + 1 * p.val = o + p.val; omega
  | ⟨1, _⟩ => rfl

theorem trips1 : ∀ t : Fin cfg0.N, (k0_t1_loop (grid0.coords t)).trips = t.val % 16 := (by decide +kernel : ∀ t : Fin grid0.N, _)

theorem trips2 : ∀ t : Fin cfg0.N, (k0_t2_loop (grid0.coords t)).trips = 0 := (by decide +kernel : ∀ t : Fin grid0.N, _)

theorem off1 : ∀ (t : Fin cfg0.N) (k : Fin (k0_t1_loop (grid0.coords t)).trips), k0_off1 (grid0.coords t) k = ![256 * k.val, 0] :=
  (by decide +kernel : ∀ (t : Fin grid0.N) (k : Fin (k0_t1_loop (grid0.coords t)).trips), _)

theorem off3 : ∀ t : Fin cfg0.N, k0_off3 (grid0.coords t) = ![256 * (t.val % 16), 0] := (by decide +kernel : ∀ t : Fin grid0.N, _)

end Cert.AttnIdeal.Mine
end
-- ==== Proof.AttnLam.lean ====
/- The four lambda vectors as the attention's kernel reads them. -/
module

public import proofs.«01_k».proof.Proof.AttnPay

@[expose] public section

set_option maxRecDepth 16384

noncomputable section

open Idealize.ShloMosaic Idealize.ShloMosaic.TcCoe Idealize.SL.Sem
open Idealize.ShloMosaic.Pipeline (Dat)
open scoped BigOperators

namespace Cert.AttnIdeal.Mine
open Cert.AttnIdeal Cert.AttnIdeal.Gen Cert.Sums

variable (m : (ℓ : Loc nD τ sig) → Buf (Elt Ideal) ℓ)

theorem idx0 : ∀ t : Fin cfg0.N, win0_0.index t = ![0, 0] := (by decide +kernel : ∀ t : Fin grid0.N, _)

/-- The four vectors, one below the other. -/
theorem h8 (c : Dev nD) : V m c main_v8 = concatenate S4x64 0 [⟨S1x64, broadcastInDim S1x64 ![1] bcast_S64_S1x64_1 (shapeCast S64 (m ((c : Thread nD τ).loc main_arg0)) shapeCasts_S1x64_S64)⟩, ⟨S1x64, broadcastInDim S1x64 ![1] bcast_S64_S1x64_1 (shapeCast S64 (m ((c : Thread nD τ).loc main_arg1)) shapeCasts_S1x64_S64)⟩, ⟨S1x64, broadcastInDim S1x64 ![1] bcast_S64_S1x64_1 (shapeCast S64 (m ((c : Thread nD τ).loc main_arg2)) shapeCasts_S1x64_S64)⟩, ⟨S1x64, broadcastInDim S1x64 ![1] bcast_S64_S1x64_1 (shapeCast S64 (m ((c : Thread nD τ).loc main_arg3)) shapeCasts_S1x64_S64)⟩] concatenates_S1x64_S1x64_S1x64_S1x64_S4x64_d0 := rfl

theorem b0_0 (c : Dev nD) (t : Fin cfg0.N) (y : Fin 64) : (iblk m c 0 t : FVec Ideal S4x64 .f32) (ix2 0 y)
    = m ((c : Thread nD τ).loc main_arg0) (ix2 0 y) := by
  have e : (win0_0.blk t).view.emb (ix2 0 y) = ix2 0 y := by blk_ext [idx0 t]
  blk_simp [iblk]
  rw [h8, e]
  pointwise
  first | done | rfl

theorem b0_1 (c : Dev nD) (t : Fin cfg0.N) (y : Fin 64) : (iblk m c 0 t : FVec Ideal S4x64 .f32) (ix2 1 y)
    = m ((c : Thread nD τ).loc main_arg1) (ix2 0 y) := by
  have e : (win0_0.blk t).view.emb (ix2 1 y) = ix2 1 y := by blk_ext [idx0 t]
  blk_simp [iblk]
  rw [h8, e]
  pointwise
  first | done | rfl

theorem b0_2 (c : Dev nD) (t : Fin cfg0.N) (y : Fin 64) : (iblk m c 0 t : FVec Ideal S4x64 .f32) (ix2 2 y)
    = m ((c : Thread nD τ).loc main_arg2) (ix2 0 y) := by
  have e : (win0_0.blk t).view.emb (ix2 2 y) = ix2 2 y := by blk_ext [idx0 t]
  blk_simp [iblk]
  rw [h8, e]
  pointwise
  first | done | rfl

theorem b0_3 (c : Dev nD) (t : Fin cfg0.N) (y : Fin 64) : (iblk m c 0 t : FVec Ideal S4x64 .f32) (ix2 3 y)
    = m ((c : Thread nD τ).loc main_arg3) (ix2 0 y) := by
  have e : (win0_0.blk t).view.emb (ix2 3 y) = ix2 3 y := by blk_ext [idx0 t]
  blk_simp [iblk]
  rw [h8, e]
  pointwise
  first | done | rfl

end Cert.AttnIdeal.Mine
end
-- ==== Proof.AttnEnd.lean ====
/- The last step of the attention: a softmax divided after the weighted sum, and one divided before it, give the same normalized row. -/
module

public import proofs.«01_k».proof.Proof.Online
public import proofs.«01_k».proof.Proof.Sums

@[expose] public section

set_option maxRecDepth 16384

noncomputable section

open Idealize.ShloMosaic Idealize.ShloMosaic.TcCoe Idealize.SL.Sem
open Idealize.ShloMosaic.Pipeline (Dat)
open scoped BigOperators

namespace Cert.AttnEnd
open Cert.Sums Cert.Online

/-- The root-mean-square norm of the row `x`, at `j`, with the weight `w`. -/
def rms (x : Fin 128 → EReal) (w : EReal) (j : Fin 128) : EReal :=
  x j * Ideal.rsqrt (Ideal.div (∑ k, x k * x k) (Ideal.ofBits .f32 0x43000000#32) + Ideal.ofBits .f32 0x358637BD#32) * w

theorem w128 : Ideal.ofBits .f32 0x43000000#32 = ((128 : ℝ) : EReal) := by
  simp [Ideal.ofBits, Ideal.ieee, -EReal.coe_mul]; norm_num

theorem eps_ne_bot : Ideal.ofBits .f32 0x358637BD#32 ≠ ⊥ := by
  simp [Ideal.ofBits, Ideal.ieee, -EReal.coe_mul]

theorem div_coe (a b : ℝ) (h : b ≠ 0) : Ideal.div (a : EReal) (b : EReal) = ((a / b : ℝ) : EReal) := by
  have hb : (b : EReal) ≠ 0 := by exact_mod_cast h
  unfold Ideal.div
  rw [if_neg hb, ← EReal.coe_inv, ← EReal.coe_mul, div_eq_mul_inv]

theorem div_zero_zero : Ideal.div 0 0 = ⊥ := by
  unfold Ideal.div
  simp

theorem coe_sum {ι : Type*} (s : Finset ι) (f : ι → ℝ) : ∑ x ∈ s, ((f x : ℝ) : EReal) = ((∑ x ∈ s, f x : ℝ) : EReal) := by
  classical
  induction s using Finset.induction_on with
  | empty => simp
  | insert a s ha ih => rw [Finset.sum_insert ha, Finset.sum_insert ha, ih, EReal.coe_add]

/-- Zero or infinite. -/
def Big (x : EReal) : Prop := x = ⊥ ∨ x = 0 ∨ x = ⊤

theorem big_add {x y : EReal} (hx : Big x) (hy : Big y) : Big (x + y) := by
  rcases hx with rfl | rfl | rfl <;> rcases hy with rfl | rfl | rfl <;> simp [Big]

theorem big_sum {ι : Type*} (s : Finset ι) (f : ι → EReal) (h : ∀ x ∈ s, Big (f x)) : Big (∑ x ∈ s, f x) := by
  classical
  induction s using Finset.induction_on with
  | empty => exact Or.inr (Or.inl (by simp))
  | insert a s ha ih =>
    rw [Finset.sum_insert ha]
    exact big_add (h a (Finset.mem_insert_self a s)) (ih fun x hx => h x (Finset.mem_insert_of_mem hx))

theorem big_bot_mul (r : ℝ) : Big (⊥ * (r : EReal)) := by
  rcases lt_trichotomy r 0 with h | h | h
  · exact Or.inr (Or.inr (EReal.bot_mul_coe_of_neg h))
  · exact Or.inr (Or.inl (by rw [h]; simp))
  · exact Or.inl (EReal.bot_mul_coe_of_pos h)

theorem big_top_mul (r : ℝ) : Big (⊤ * (r : EReal)) := by
  rcases lt_trichotomy r 0 with h | h | h
  · exact Or.inl (EReal.top_mul_coe_of_neg h)
  · exact Or.inr (Or.inl (by rw [h]; simp))
  · exact Or.inr (Or.inr (EReal.top_mul_coe_of_pos h))

/-- A row of zeros and infinities is normalized to zero. -/
theorem rms_big (x : Fin 128 → EReal) (w : EReal) (j : Fin 128) (h : ∀ e, Big (x e)) : rms x w j = 0 := by
  unfold rms
  by_cases h0 : x j = 0
  · rw [h0, zero_mul, zero_mul]
  · have hsq : ∀ e, (0 : EReal) ≤ x e * x e := fun e => by
      rcases h e with he | he | he <;> rw [he] <;> simp
    have hj : x j * x j = ⊤ := by
      rcases h j with he | he | he
      · rw [he]; simp
      · exact absurd he h0
      · rw [he]; simp
    have hs : ∑ k, x k * x k = ⊤ := by
      apply top_le_iff.mp
      rw [← hj]
      exact Finset.single_le_sum (f := fun k => x k * x k) (fun e _ => hsq e) (Finset.mem_univ j)
    have hd : Ideal.div ⊤ (Ideal.ofBits .f32 0x43000000#32) = ⊤ := by
      rw [w128]
      unfold Ideal.div
      rw [if_neg (by exact_mod_cast (by norm_num : (128 : ℝ) ≠ 0)), ← EReal.coe_inv]
      exact EReal.top_mul_coe_of_pos (by norm_num)
    rw [hs, hd, EReal.top_add_of_ne_bot eps_ne_bot]
    have hr : Ideal.rsqrt ⊤ = 0 := rfl
    rw [hr, mul_zero, zero_mul]

variable (S₀ S₁ : ℕ → EReal) (N : ℕ)

theorem weight_zero {S : ℕ → EReal} {N : ℕ} (h : wt S N = 0) : ∀ k ∈ Finset.range N, Ideal.exp (S k - top S N) = 0 := by
  unfold wt at h
  exact (Finset.sum_eq_zero_iff_of_nonneg fun k _ => exp_nonneg _).mp h

theorem mix_of_zero {S v : ℕ → EReal} {N : ℕ} (h : wt S N = 0) : mix S v N = 0 := by
  unfold mix
  exact Finset.sum_eq_zero fun k hk => by rw [weight_zero h k hk, zero_mul]

/-- The weights are real numbers. -/
theorem weights_real (S : ℕ → EReal) (N : ℕ) : ∃ e : ℕ → ℝ, ∀ k ∈ Finset.range N, Ideal.exp (S k - top S N) = ((e k : ℝ) : EReal) := by
  refine ⟨fun k => (Ideal.exp (S k - top S N)).toReal, fun k hk => ?_⟩
  obtain ⟨r, -, hr⟩ := exp_sub_real (le_top_of S (Finset.mem_range.mp hk))
  simp only [hr, EReal.toReal_coe]

theorem wt_real {S : ℕ → EReal} {N : ℕ} {e : ℕ → ℝ} (h : ∀ k ∈ Finset.range N, Ideal.exp (S k - top S N) = ((e k : ℝ) : EReal)) :
    wt S N = ((∑ k ∈ Finset.range N, e k : ℝ) : EReal) := by
  unfold wt
  rw [← coe_sum]
  exact Finset.sum_congr rfl h

theorem mix_real {S : ℕ → EReal} {N : ℕ} {e u : ℕ → ℝ} (h : ∀ k ∈ Finset.range N, Ideal.exp (S k - top S N) = ((e k : ℝ) : EReal)) :
    mix S (fun k => (u k : EReal)) N = ((∑ k ∈ Finset.range N, e k * u k : ℝ) : EReal) := by
  unfold mix
  rw [← coe_sum]
  exact Finset.sum_congr rfl fun k hk => by rw [h k hk, EReal.coe_mul]

/-- The kernel's row. -/
def rowK (lam : EReal) (v : ℕ → EReal) : EReal :=
  Ideal.div (mix S₀ v N) (wt S₀ N) - lam * Ideal.div (mix S₁ v N) (wt S₁ N)

/-- The reference's row. -/
def rowR (lam : EReal) (v : ℕ → EReal) : EReal :=
  ∑ k ∈ Finset.range N, (Ideal.div (Ideal.exp (S₀ k - top S₀ N)) (wt S₀ N) - lam * Ideal.div (Ideal.exp (S₁ k - top S₁ N)) (wt S₁ N)) * v k

theorem row_real (lam : ℝ) (u : ℕ → ℝ) (h0 : wt S₀ N ≠ 0) (h1 : wt S₁ N ≠ 0) :
    rowK S₀ S₁ N lam (fun k => (u k : EReal)) = rowR S₀ S₁ N lam (fun k => (u k : EReal)) := by
  obtain ⟨e0, he0⟩ := weights_real S₀ N
  obtain ⟨e1, he1⟩ := weights_real S₁ N
  rw [wt_real he0] at h0
  rw [wt_real he1] at h1
  have g0 : (∑ k ∈ Finset.range N, e0 k) ≠ 0 := by exact_mod_cast h0
  have g1 : (∑ k ∈ Finset.range N, e1 k) ≠ 0 := by exact_mod_cast h1
  unfold rowK rowR
  rw [wt_real he0, wt_real he1, mix_real he0, mix_real he1, div_coe _ _ g0, div_coe _ _ g1, ← EReal.coe_mul, ← EReal.coe_sub]
  have e : ∀ k ∈ Finset.range N, (Ideal.div (Ideal.exp (S₀ k - top S₀ N)) ((∑ k ∈ Finset.range N, e0 k : ℝ) : EReal)
        - (lam : EReal) * Ideal.div (Ideal.exp (S₁ k - top S₁ N)) ((∑ k ∈ Finset.range N, e1 k : ℝ) : EReal)) * (u k : EReal)
      = (((e0 k / (∑ k ∈ Finset.range N, e0 k) - lam * (e1 k / (∑ k ∈ Finset.range N, e1 k))) * u k : ℝ) : EReal) := fun k hk => by
    rw [he0 k hk, he1 k hk, div_coe _ _ g0, div_coe _ _ g1, ← EReal.coe_mul, ← EReal.coe_sub, ← EReal.coe_mul]
  rw [Finset.sum_congr rfl e, coe_sum]
  congr 1
  rw [Finset.sum_div, Finset.sum_div, Finset.mul_sum, ← Finset.sum_sub_distrib]
  exact Finset.sum_congr rfl fun k _ => by ring

theorem row_zero (u : ℕ → ℝ) (h0 : wt S₀ N ≠ 0) :
    rowK S₀ S₁ N 0 (fun k => (u k : EReal)) = rowR S₀ S₁ N 0 (fun k => (u k : EReal)) := by
  have e := row_real S₀ S₀ N 0 u h0 h0
  unfold rowK rowR at e ⊢
  simp only [EReal.coe_zero, zero_mul] at e ⊢
  exact e

theorem sub_coe_bot (p : ℝ) : (p : EReal) - ⊥ = ⊤ := by
  rw [sub_eq_add_neg, EReal.neg_bot, EReal.coe_add_top]

theorem sub_coe_top (p : ℝ) : (p : EReal) - ⊤ = ⊥ := by
  rw [sub_eq_add_neg, EReal.neg_top, EReal.add_bot]

/-- The two rows have the same norm. -/
theorem norm_eq (lam : ℝ) (u : Fin 128 → ℕ → ℝ) (w : EReal) (j : Fin 128) :
    rms (fun e => rowK S₀ S₁ N lam (fun k => (u e k : EReal))) w j = rms (fun e => rowR S₀ S₁ N lam (fun k => (u e k : EReal))) w j := by
  by_cases h0 : wt S₀ N = 0
  · rw [rms_big, rms_big]
    · intro e
      unfold rowR
      refine big_sum _ _ fun k hk => ?_
      rw [h0, weight_zero h0 k hk, div_zero_zero, EReal.bot_sub]
      exact big_bot_mul _
    · intro e
      unfold rowK
      rw [h0, mix_of_zero h0, div_zero_zero, EReal.bot_sub]
      exact Or.inl rfl
  · by_cases h1 : wt S₁ N = 0
    · obtain ⟨e0, he0⟩ := weights_real S₀ N
      have h0' := h0
      rw [wt_real he0] at h0'
      have g0 : (∑ k ∈ Finset.range N, e0 k) ≠ 0 := by exact_mod_cast h0'
      rcases lt_trichotomy lam 0 with hl | hl | hl
      · rw [rms_big, rms_big]
        · intro e
          unfold rowR
          refine big_sum _ _ fun k hk => ?_
          rw [h1, weight_zero h1 k hk, div_zero_zero, wt_real he0, he0 k hk, div_coe _ _ g0, EReal.coe_mul_bot_of_neg hl, sub_coe_top]
          exact big_bot_mul _
        · intro e
          unfold rowK
          rw [h1, mix_of_zero h1, div_zero_zero, wt_real he0, mix_real he0, div_coe _ _ g0, EReal.coe_mul_bot_of_neg hl, sub_coe_top]
          exact Or.inl rfl
      · subst hl
        refine congrArg (fun x => rms x w j) (funext fun e => ?_)
        exact row_zero S₀ S₁ N (u e) h0
      · rw [rms_big, rms_big]
        · intro e
          unfold rowR
          refine big_sum _ _ fun k hk => ?_
          rw [h1, weight_zero h1 k hk, div_zero_zero, wt_real he0, he0 k hk, div_coe _ _ g0, EReal.coe_mul_bot_of_pos hl, sub_coe_bot]
          exact big_top_mul _
        · intro e
          unfold rowK
          rw [h1, mix_of_zero h1, div_zero_zero, wt_real he0, mix_real he0, div_coe _ _ g0, EReal.coe_mul_bot_of_pos hl, sub_coe_bot]
          exact Or.inr (Or.inr rfl)
    · exact congrArg (fun x => rms x w j) (funext fun e => row_real S₀ S₁ N lam (u e) h0 h1)

end Cert.AttnEnd
end
-- ==== Proof.AttnVal.lean ====
/- What each grid point of the attention writes. -/
module

public import Idealize.ShloMosaic.Lib.VecWindow
public import Idealize.ShloMosaic.Lib.WholeRead
public import Idealize.ShloMosaic.Lib.WritesUnit
public import proofs.«01_k».proof.Proof.AttnTile
public import proofs.«01_k».proof.Proof.AttnLam
public import proofs.«01_k».proof.Proof.AttnEnd

@[expose] public section

set_option maxRecDepth 16384

noncomputable section

open Idealize.ShloMosaic Idealize.ShloMosaic.TcCoe Idealize.SL.Sem
open Idealize.ShloMosaic.Pipeline (Dat)
open scoped BigOperators

namespace Cert.AttnIdeal.Mine
open Cert.AttnIdeal Cert.AttnIdeal.Gen Cert.Sums Cert.Online

variable (m : (ℓ : Loc nD τ sig) → Buf (Elt Ideal) ℓ)

/-- The rows of the queries, the keys and the values, and the four vectors' scalar. -/
def qs (c : Dev nD) : Fin 32768 → Fin 512 → EReal := fun a b => m ((c : Thread nD τ).loc main_arg4) (ix2 a b)
def ks (c : Dev nD) : Fin 32768 → Fin 512 → EReal := fun a b => m ((c : Thread nD τ).loc main_arg5) (ix2 a b)
def vs (c : Dev nD) : Fin 32768 → Fin 512 → EReal := fun a b => m ((c : Thread nD τ).loc main_arg6) (ix2 a b)
def lamOf (x0 x1 x2 x3 : Fin 64 → EReal) : EReal :=
  Ideal.exp (∑ y, x0 y * x1 y) - Ideal.exp (∑ y, x2 y * x3 y) + Ideal.ofBits .f32 0x3E4CCCCD#32
def lam (c : Dev nD) : EReal := lamOf (fun y => m ((c : Thread nD τ).loc main_arg0) (ix2 0 y)) (fun y => m ((c : Thread nD τ).loc main_arg1) (ix2 0 y))
  (fun y => m ((c : Thread nD τ).loc main_arg2) (ix2 0 y)) (fun y => m ((c : Thread nD τ).loc main_arg3) (ix2 0 y))

/-- The batch entry, the head and the tile of queries of a grid point. -/
def bt (t : Fin cfg0.N) : Fin 8 := ⟨t.val / 64, by have := lt512 t; omega⟩
def hd (t : Fin cfg0.N) : Fin 4 := ⟨t.val / 16 % 4, by omega⟩
def ti (t : Fin cfg0.N) : Fin 16 := ⟨t.val % 16, by omega⟩

/-- The values of one column. -/
def col (V : Fin 32768 → Fin 512 → EReal) (b : Fin 8) (h : Fin 4) (e : Fin 128) (k : ℕ) : EReal :=
  if hk : k < 4096 then V ⟨b * 4096 + k, by omega⟩ ⟨h * 128 + e, by omega⟩ else 0

theorem lam_at (c : Dev nD) (t : Fin cfg0.N) : k0_pay34 (iblk m c 0 t) (ix2 0 0) = lam m c := by
  refine (p34 (iblk m c 0 t)).trans ?_
  unfold lam lamOf
  simp only [b0_0, b0_1, b0_2, b0_3]

theorem qrow (c : Dev nD) (t : Fin cfg0.N) (p : Fin 256) (y : Fin 128) : (iblk m c 1 t : FVec Ideal S256x128 .bf16) (ix2 p y)
    = qs m c ⟨bt t * 4096 + (ti t * 256 + p), by omega⟩ ⟨hd t * 128 + y, by omega⟩ := by
  rw [b1]
  unfold qs
  refine congrArg (fun a => m ((c : Thread nD τ).loc main_arg4) (ix2 a _)) (Fin.ext ?_)
  show (t.val / 64 * 16 + t.val % 16) * 256 + p.val = t.val / 64 * 4096 + (t.val % 16 * 256 + p.val)
  omega

/-- The stacked queries. -/
theorem qq_at {sp : Space} (v : View sig .tc sp S512x128 .bf16) (f : v.ty.Contents (Elt Ideal)) (c : Dev nD) (t : Fin cfg0.N) (r : Fin 512) (y : Fin 128) :
    v.read (Elt Ideal) (v.writes (Elt Ideal) f [⟨Rect.unit ![256, 0] ![256, 128] inb_S512x128_S256x128_256_0, k0_pay16 (iblk m c 1 t)⟩,
      ⟨Rect.unit ![0, 0] ![256, 128] inb_S512x128_S256x128_0_0, k0_pay15 (iblk m c 1 t)⟩]) (ix2 r y)
    = if (y : ℕ) / 64 = r / 256 then qs m c ⟨bt t * 4096 + (ti t * 256 + r % 256), by omega⟩ ⟨hd t * 128 + y, by omega⟩ else (0 : EReal) := by
  have hy := y.isLt
  have hr := r.isLt
  by_cases h : (r : ℕ) < 256
  · refine (View.read_writes_cons_unit_of_not_mem v f inb_S512x128_S256x128_256_0 _ _ (ix2 r y) rfl 0 (Or.inl h)).trans ?_
    refine (View.read_writes_cons_unit_of_mem v f inb_S512x128_S256x128_0_0 _ _ (ix2 r y) (ix2 ⟨r % 256, by omega⟩ y) rfl ?_).trans ?_
    · intro a
      match a with
      | ⟨0, _⟩ => show r.val = 0 + r.val % 256; omega
      | ⟨1, _⟩ => show y.val = 0 + y.val; omega
    · refine (p15 (iblk m c 1 t) ⟨r % 256, by omega⟩ y).trans ?_
      rw [qrow]
      by_cases h' : (y : ℕ) < 64
      · rw [if_pos h', if_pos (by omega)]
      · rw [if_neg h', if_neg (by omega)]
  · refine (View.read_writes_cons_unit_of_mem v f inb_S512x128_S256x128_256_0 _ _ (ix2 r y) (ix2 ⟨r % 256, by omega⟩ y) rfl ?_).trans ?_
    · intro a
      match a with
      | ⟨0, _⟩ => show r.val = 256 + r.val % 256; omega
      | ⟨1, _⟩ => show y.val = 0 + y.val; omega
    · refine (p16 (iblk m c 1 t) ⟨r % 256, by omega⟩ y).trans ?_
      rw [qrow]
      by_cases h' : (y : ℕ) < 64
      · rw [if_pos h', if_neg (by omega)]
      · rw [if_neg h', if_pos (by omega)]

theorem ktile (c : Dev nD) (t : Fin cfg0.N) (o : ℕ) (off : Fin 2 → ℕ) (ho : off = ![256 * o, 0]) (inb : ∀ a, off a + S256x128.size a ≤ S4096x128.size a)
    (x : Fin 256) (y : Fin 128) (hk : 256 * o + x < 4096) :
    (View.ld (iblk m c 2 t : FVec Ideal S4096x128 .bf16) (Rect.unit (s := S4096x128) off S256x128.size inb) : FVec Ideal S256x128 .bf16) (ix2 x y)
    = ks m c ⟨bt t * 4096 + (256 * o + x), by omega⟩ ⟨hd t * 128 + y, by omega⟩ := by
  subst ho
  refine (congrArg (iblk m c 2 t : FVec Ideal S4096x128 .bf16) (?_ : _ = ix2 ⟨256 * o + x, hk⟩ y)).trans (b2 m c t _ y)
  funext a
  refine Fin.ext ?_
  match a with
  | ⟨0, _⟩ => show 256 * o + 1 * x.val = 256 * o + x.val; omega
  | ⟨1, _⟩ => show 0 + 1 * y.val = y.val; omega

theorem vtile (c : Dev nD) (t : Fin cfg0.N) (o : ℕ) (off : Fin 2 → ℕ) (ho : off = ![256 * o, 0]) (inb : ∀ a, off a + S256x128.size a ≤ S4096x128.size a)
    (x : Fin 256) (e : Fin 128) (hk : 256 * o + x < 4096) :
    (View.ld (iblk m c 3 t : FVec Ideal S4096x128 .bf16) (Rect.unit (s := S4096x128) off S256x128.size inb) : FVec Ideal S256x128 .bf16) (ix2 x e)
    = col (vs m c) (bt t) (hd t) e (256 * o + x) := by
  subst ho
  unfold col
  rw [dif_pos hk]
  refine (congrArg (iblk m c 3 t : FVec Ideal S4096x128 .bf16) (?_ : _ = ix2 ⟨256 * o + x, hk⟩ e)).trans (b3 m c t _ e)
  funext a
  refine Fin.ext ?_
  match a with
  | ⟨0, _⟩ => show 256 * o + 1 * x.val = 256 * o + x.val; omega
  | ⟨1, _⟩ => show 0 + 1 * e.val = e.val; omega

/-- The scores of one row of the stacked queries of a grid point. -/
abbrev sco (c : Dev nD) (t : Fin cfg0.N) : Fin 512 → ℕ → EReal := fun r => row (qs m c) (ks m c) (bt t) (hd t) (ti t) r

abbrev vco (c : Dev nD) (t : Fin cfg0.N) : Fin 128 → ℕ → EReal := fun e => col (vs m c) (bt t) (hd t) e

/-- One entry of a grid point's result. -/
def res (c : Dev nD) (t : Fin cfg0.N) (p : Fin 256) (e : Fin 128) : EReal :=
  AttnEnd.rms (fun e => AttnEnd.rowK (sco m c t ⟨p, by omega⟩) (sco m c t ⟨256 + p, by omega⟩) 4096 (lam m c) (vco m c t e))
    (m ((c : Thread nD τ).loc main_arg8) (ix2 0 e)) e * Ideal.ofBits .f32 0x3F4CCCCD#32 * (iblk m c 4 t : FVec Ideal S256x128 .bf16) (ix2 p e)

/-- The accumulators divided are the softmax of all 4096 scores. -/
theorem whole_row (c : Dev nD) (t : Fin cfg0.N) (r : Fin 512) (e : Fin 128) :
    Ideal.div (mix (sco m c t r) (vco m c t e) (256 * (t.val % 16) + 256)) (wt (sco m c t r) (256 * (t.val % 16) + 256))
    = Ideal.div (mix (sco m c t r) (vco m c t e) 4096) (wt (sco m c t r) 4096) := by
  have h : 256 * (t.val % 16) + 256 ≤ 4096 := by omega
  rw [mix_ext (sco m c t r) (vco m c t e) h fun k hk => row_late _ _ _ _ (ti t) r k hk,
    wt_ext (sco m c t r) h fun k hk => row_late _ _ _ _ (ti t) r k hk]

theorem fin_at {sp : Space} (v2 : View sig .tc sp S512x1 .f32) (v3 : View sig .tc sp S512x128 .f32) (c : Dev nD) (t : Fin cfg0.N)
    (s : FVec Ideal S512x256 .f32) (m0 l0 : Vec Ideal S512x1 .f32) (a0 : Vec Ideal S512x128 .f32) (vt : Vec Ideal S256x128 .bf16)
    (L2 : List (View.Piece (Elt Ideal) S512x1 .f32)) (L3 : List (View.Piece (Elt Ideal) S512x128 .f32))
    (hs : ∀ r (x : Fin 256), msk s (ix2 r x) = sco m c t r (256 * (t.val % 16) + x))
    (hm : ∀ r, m0 (ix2 r 0) = top (sco m c t r) (256 * (t.val % 16))) (hl : ∀ r, l0 (ix2 r 0) = wt (sco m c t r) (256 * (t.val % 16)))
    (ha : ∀ r e, a0 (ix2 r e) = mix (sco m c t r) (vco m c t e) (256 * (t.val % 16)))
    (hv : ∀ e (x : Fin 256), vt (ix2 x e) = vco m c t e (256 * (t.val % 16) + x)) (p : Fin 256) (e : Fin 128)
    (i0 i0' i1 i1') :
    k0_pay1 (k0_pay34 (iblk m c 0 t))
      (v3.readCov (⟨Rect.unit ![0, 0] ![512, 128] inb_S512x128_S512x128_0_0, k0_pay32 vt (pr s m0) (df s m0) a0⟩ :: L3) (Rect.unit (s := S512x128) ![0, 0] S256x128.size i0).toLoadRect)
      (v2.readCov (⟨Rect.unit ![0, 0] ![512, 1] inb_S512x1_S512x1_0_0, k0_pay31 (pr s m0) (df s m0) l0⟩ :: L2) (Rect.unit (s := S512x1) ![0, 0] S256x1.size i1).toLoadRect)
      (v3.readCov (⟨Rect.unit ![0, 0] ![512, 128] inb_S512x128_S512x128_0_0, k0_pay32 vt (pr s m0) (df s m0) a0⟩ :: L3) (Rect.unit (s := S512x128) ![256, 0] S256x128.size i0').toLoadRect)
      (v2.readCov (⟨Rect.unit ![0, 0] ![512, 1] inb_S512x1_S512x1_0_0, k0_pay31 (pr s m0) (df s m0) l0⟩ :: L2) (Rect.unit (s := S512x1) ![256, 0] S256x1.size i1').toLoadRect)
      (iblk m c 5 t) (iblk m c 4 t) (ix2 p e) = res m c t p e := by
  obtain ⟨hw, hx⟩ := last s m0 l0 a0 vt (sco m c t) (vco m c t) (256 * (t.val % 16)) hs hm hl ha hv
  refine (p1 _ _ _ _ _ _ _ p e).trans ?_
  unfold res
  rw [lam_at, b5]
  refine congrArg₂ (· * ·) (congrArg₂ (· * ·) ?_ rfl) rfl
  rw [show @rmsRow = @AttnEnd.rms from rfl]
  refine congrArg (fun u => AttnEnd.rms u _ e) (funext fun e => ?_)
  rw [cov128 v3 _ L3 0 i0 p e (by omega), cov128 v3 _ L3 256 i0' p e (by omega), cov1 v2 _ L2 0 i1 p (by omega), cov1 v2 _ L2 256 i1' p (by omega),
    hw, hw, hx, hx, whole_row, whole_row]
  unfold AttnEnd.rowK
  simp only [Nat.zero_add]

theorem out_at (c : Dev nD) (t : Fin cfg0.N) (p : Fin 256) (e : Fin 128) : (outsAt0 m c t : FVec Ideal S256x128 .bf16) (ix2 p e) = res m c t p e := by
  unfold outsAt0
  frame_out
  have e2 : Scf.trips
                    (Scalar.addi (0#32)
                      (Scalar.muli (Scalar.divsi (Scalar.subi (BitVec.ofNat 32 ↑(grid0.coords t 2)) 0#32) 1#32) 1#32))
                    (Scalar.addi (0#32) (Scalar.subi (BitVec.ofNat 32 ↑(grid0.coords t 2)) 0#32)) 1#32 = 0 := trips2 t
  have e1 : Scf.trips (0#32) (Scalar.addi (0#32) (Scalar.muli
                  (Scalar.divsi (Scalar.subi (BitVec.ofNat 32 ↑(grid0.coords t 2)) 0#32) 1#32) 1#32))
                            1#32 = t.val % 16 := trips1 t
  rw [e2]
  dsimp only [pb_k0_t2, List.nil_append]
  rw [e1]
  generalize hPB : pb_k0_t1 (F := Ideal) _ _ _ _ _ _ _ _ _ _ _ _ _ _ _ _ _ _ _ _ _ _ _ _ _ _ _ _ _ _ _ _ _ _ _ _ = PB
  obtain ⟨l1, l2, l3⟩ := loop_of hPB (sco m c t) (vco m c t) (by
      intro k r x
      have hk : k.val < t.val % 16 := lt_of_lt_of_eq k.isLt (trips1 t)
      refine (p2 _ _ r x).trans ?_
      refine dot_row (qs m c) (ks m c) (bt t) (hd t) (ti t) r (256 * k.val + x) (by omega) (by show _ ≤ (t.val % 16 * 256 + _) / 64; omega) _ _
        (fun y => qq_at m _ _ c t r y) fun y => ?_
      refine (Memref.IsWhole.readAt_unread _ (iblk m c 2 t) _ _).trans ?_
      exact ktile m c t k.val _ (off1 t k) (k0_off1_inb _ k) x y (by omega)) (by
      intro k e x
      have hk : k.val < t.val % 16 := lt_of_lt_of_eq k.isLt (trips1 t)
      refine (Memref.IsWhole.readAt_unread _ (iblk m c 3 t) _ _).trans ?_
      exact vtile m c t k.val _ (off1 t k) (k0_off1_inb _ k) x e (by omega)) (by
      intro r
      refine (congrFun (View.read_writes_full _ _ inb_S512x1_S512x1_0_0 _ _) _).trans ((p17 r).trans negInf)) (by
      intro r
      refine (congrFun (View.read_writes_full _ _ inb_S512x1_S512x1_0_0 _ _) _).trans (p18 r)) (by
      intro r e
      refine (congrFun (View.read_writes_full _ _ inb_S512x128_S512x128_0_0 _ _) _).trans (p19 r e)) (le_of_eq (trips1 t).symm)
  refine fin_at m (View.whole cc0_scratch2) (View.whole cc0_scratch3) c t _ _ _ _ _ _ _ ?_ ?_ ?_ ?_ ?_ p e _ _ _ _
  · intro r x
    refine (p26 _ r x).trans ?_
    rw [negInf]
    by_cases hk : (x : ℕ) / 64 ≤ r % 256 / 64
    · rw [if_pos hk]
      refine (p22 _ _ r x).trans ?_
      refine dot_row (qs m c) (ks m c) (bt t) (hd t) (ti t) r (256 * (t.val % 16) + x) (by omega)
        (by show _ ≤ (t.val % 16 * 256 + _) / 64; omega) _ _ (fun y => ?_) fun y => ?_
      · exact (congrFun (View.readAt_full _ _ inb_S512x128_S512x128_0_0) _).trans (qq_at m _ _ c t r y)
      · exact ktile m c t (t.val % 16) _ (off3 t) _ x y (by omega)
    · rw [if_neg hk]
      unfold sco row scr
      rw [dif_pos (by omega), if_neg]
      show ¬ _ ≤ (t.val % 16 * 256 + _) / 64
      omega
  · intro r
    refine (congrFun (View.readAt_full _ _ inb_S512x1_S512x1_0_0) _).trans ?_
    rw [View.writes_append]
    exact l1 r
  · intro r
    refine (congrFun (View.readAt_full _ _ inb_S512x1_S512x1_0_0) _).trans ?_
    rw [View.writes_append]
    exact l2 r
  · intro r e
    refine (congrFun (View.readAt_full _ _ inb_S512x128_S512x128_0_0) _).trans ?_
    rw [View.writes_append]
    exact l3 r e
  · intro e x
    exact vtile m c t (t.val % 16) _ (off3 t) _ x e (by omega)

end Cert.AttnIdeal.Mine
end
-- ==== Proof.AttnRefMask.lean ====
/- The chunk mask of the attention's reference. -/
module

public import proofs.«01_k».proof.Proof.Gen.AttnRefIdeal.Read
public import proofs.«01_k».proof.Proof.Sums

@[expose] public section

set_option maxRecDepth 16384

noncomputable section

open Idealize.ShloMosaic Idealize.ShloMosaic.TcCoe Idealize.SL.Sem
open Idealize.ShloMosaic.Pipeline (Dat)
open scoped BigOperators

namespace Cert.AttnRefIdeal.Mine
open Cert.AttnRefIdeal Cert.AttnRefIdeal.Read Cert.Sums

theorem sgn (n : ℕ) (h : n < 4096) : (if BitVec.ofNat 32 n = 0 then (0 : BitVec 32) else if (BitVec.ofNat 32 n).msb then -1 else 1)
    = if n = 0 then 0#32 else 1#32 := by
  have : ∀ s : Fin 4096, (if BitVec.ofNat 32 s = 0 then (0 : BitVec 32) else if (BitVec.ofNat 32 s).msb then -1 else 1)
    = if (s : ℕ) = 0 then 0#32 else 1#32 := by decide +kernel
  exact this ⟨n, h⟩

theorem floor64 : ∀ s : Fin 4096, Scalar.select (IntOp.andi (IntOp.cmpi .ne (if (s : ℕ) = 0 then 0#32 else 1#32) 1#32)
      (IntOp.cmpi .ne (IntOp.remsi .host (BitVec.ofNat 32 s) 64#32) 0#32))
    (IntOp.subi (IntOp.divsi .host (BitVec.ofNat 32 s) 64#32) 1#32) (IntOp.divsi .host (BitVec.ofNat 32 s) 64#32)
    = BitVec.ofNat 32 ((s : ℕ) / 64) := by decide +kernel

theorem r21 (s : Fin 4096) : val_main_v21 (F := Ideal) (ix1 s) = BitVec.ofNat 32 s := by
  pointwise [val_main_v21]

theorem r22 (s : Fin 4096) : val_main_v22 (F := Ideal) (ix1 s) = BitVec.ofNat 32 ((s : ℕ) / 64) := by
  have e3 : val_main_call0_v3 (F := Ideal) (ix1 s) = if (s : ℕ) = 0 then 0#32 else 1#32 := by
    show (if val_main_v21 (F := Ideal) (ix1 s) = 0 then (0 : BitVec 32) else if (val_main_v21 (F := Ideal) (ix1 s)).msb then -1 else 1) = _
    rw [r21]
    exact sgn s s.isLt
  have e5 : val_main_call0_v5 (F := Ideal) (ix1 s) = 1#32 := by
    rw [val_main_call0_v5_apply]
    show (if (64#32 : BitVec 32) = 0 then (0 : BitVec 32) else if (64#32 : BitVec 32).msb then -1 else 1) = _
    decide
  rw [val_main_v22_apply, val_main_call0_v11_apply, val_main_call0_v6_apply, val_main_call0_v10_apply, val_main_call0_v8_apply,
    val_main_call0_v7_apply, val_main_call0_v0_apply, val_main_c_apply, val_main_call0_v9_apply, val_main_call0_c_apply,
    val_main_call0_v13_apply, val_main_call0_v12_apply, val_main_call0_c_0_apply, val_main_call0_v2_apply, val_main_call0_v1_apply,
    val_main_call0_v0_apply, val_main_c_apply, e3, e5, r21]
  exact floor64 s

theorem sle64 (a b : Fin 64) : IntOp.cmpi .sle (BitVec.ofNat 32 a) (BitVec.ofNat 32 b) = if (a : ℕ) ≤ b then 1#1 else 0#1 := by
  revert a b; decide +kernel

theorem r27 (q k : Fin 4096) : val_main_v27 (F := Ideal) (ix2 q k) = if (k : ℕ) / 64 ≤ (q : ℕ) / 64 then 1#1 else 0#1 := by
  have e : val_main_v27 (F := Ideal) (ix2 q k) = IntOp.cmpi .sle (val_main_v22 (F := Ideal) (ix1 k)) (val_main_v22 (F := Ideal) (ix1 q)) := by
    pointwise [val_main_v27, val_main_v26, val_main_v25, val_main_v24, val_main_v23]
  rw [e, r22, r22]
  exact sle64 ⟨k / 64, by omega⟩ ⟨q / 64, by omega⟩

end Cert.AttnRefIdeal.Mine
end
-- ==== Proof.AttnRef.lean ====
/- The reference of the attention, read at an index, step by step. -/
module

public import proofs.«01_k».proof.Proof.AttnRefMask
public import proofs.«01_k».proof.Proof.Sums

@[expose] public section

set_option maxRecDepth 16384

noncomputable section

open Idealize.ShloMosaic Idealize.ShloMosaic.TcCoe Idealize.SL.Sem
open Idealize.ShloMosaic.Pipeline (Dat)
open scoped BigOperators

namespace Cert.AttnRefIdeal.Mine
open Cert.AttnRefIdeal Cert.AttnRefIdeal.Read Cert.Sums

/-- The root-mean-square norm of the row `x`, at `j`, with the weight `w`. -/
def rmsRow (x : Fin 128 → EReal) (w : EReal) (j : Fin 128) : EReal :=
  x j * Ideal.rsqrt (Ideal.div (∑ k, x k * x k) (Ideal.ofBits .f32 0x43000000#32) + Ideal.ofBits .f32 0x358637BD#32) * w

theorem zeroW : Ideal.ofBits .f32 0x00000000#32 = 0 := by
  simp [Ideal.ofBits, Ideal.ieee]

theorem reds : S8x4x2x4096x4096.Reduces [4] S8x4x2x4096 := ⟨rfl, by decide, by decide⟩

theorem max_at (f : FVec Ideal S8x4x2x4096x4096 .f32) (init : FVec Ideal S_ .f32) (h' : S8x4x2x4096x4096.ReducesTo [4] S8x4x2x4096)
    (hu : 0 < S_.numel) (b : Fin 8) (h : Fin 4) (d : Fin 2) (s : Fin 4096) :
    Host.reduce (FloatOps.maximumf (F := Ideal) (φ := .f32)) f init h' hu (ix4 b h d s)
      = Finset.fold max (init ix0) (fun k : Fin 4096 => f (ix5 b h d s k)) Finset.univ := by
  rw [Host.reduce_eq_fold_single _ _ _ _ reds]
  have e : (f ∘ reds.lift (ix4 b h d s)) = fun k : Fin 4096 => f (ix5 b h d s k) := by
    funext k
    refine congrArg f (funext fun a => Fin.ext ?_)
    match a with
    | ⟨0, _⟩ => rfl
    | ⟨1, _⟩ => rfl
    | ⟨2, _⟩ => rfl
    | ⟨3, _⟩ => rfl
    | ⟨4, _⟩ => rfl
  rw [e, show Shape.Idx.first hu = ix0 from funext fun a => a.elim0]
  rfl

variable (x0 x1 x2 x3 : (⟨S1x64, .f32⟩ : BufTy).Contents (Elt Ideal)) (x4 x5 x6 x7 : (⟨S32768x512, .bf16⟩ : BufTy).Contents (Elt Ideal))
  (x8 : (⟨S1x128, .f32⟩ : BufTy).Contents (Elt Ideal))

/-- A query's score of a key of its own chunk or an earlier one; minus infinity for the others. -/
def score (b : Fin 8) (h : Fin 4) (d : Fin 2) (q k : Fin 4096) : EReal :=
  if (k : ℕ) / 64 ≤ (q : ℕ) / 64 then ∑ y : Fin 64, x4 (ix2 ⟨b * 4096 + q, by omega⟩ ⟨h * 128 + d * 64 + y, by omega⟩)
    * x5 (ix2 ⟨b * 4096 + k, by omega⟩ ⟨h * 128 + d * 64 + y, by omega⟩) else ⊥

theorem r14 (b : Fin 8) (h : Fin 4) (d : Fin 2) (q : Fin 4096) (y : Fin 64) : val_main_v14 (F := Ideal) x4 (ix5 b h d q y)
    = x4 (ix2 ⟨b * 4096 + q, by omega⟩ ⟨h * 128 + d * 64 + y, by omega⟩) := by
  pointwise [val_main_v14, val_main_v13, val_main_v12]

theorem r17 (b : Fin 8) (h : Fin 4) (d : Fin 2) (q : Fin 4096) (y : Fin 64) : val_main_v17 (F := Ideal) x5 (ix5 b h d q y)
    = x5 (ix2 ⟨b * 4096 + q, by omega⟩ ⟨h * 128 + d * 64 + y, by omega⟩) := by
  pointwise [val_main_v17, val_main_v16, val_main_v15]

theorem r20 (b : Fin 8) (h : Fin 4) (k : Fin 4096) (e : Fin 128) : val_main_v20 (F := Ideal) x6 (ix4 b h k e)
    = x6 (ix2 ⟨b * 4096 + k, by omega⟩ ⟨h * 128 + e, by omega⟩) := by
  pointwise [val_main_v20, val_main_v19, val_main_v18]

theorem r28 (b : Fin 8) (h : Fin 4) (d : Fin 2) (q k : Fin 4096) : val_main_v28 (F := Ideal) x4 x5 (ix5 b h d q k)
    = ∑ y : Fin 64, x4 (ix2 ⟨b * 4096 + q, by omega⟩ ⟨h * 128 + d * 64 + y, by omega⟩)
    * x5 (ix2 ⟨b * 4096 + k, by omega⟩ ⟨h * 128 + d * 64 + y, by omega⟩) := by
  have e : val_main_v28 (F := Ideal) x4 x5 (ix5 b h d q k) = ∑ y : Fin 64, val_main_v14 (F := Ideal) x4 (ix5 b h d q y)
      * val_main_v17 (F := Ideal) x5 (ix5 b h d k y) := by
    pointwise [val_main_v28]
  rw [e]
  exact Finset.sum_congr rfl fun y _ => by rw [r14, r17]

theorem r29 (b : Fin 8) (h : Fin 4) (d : Fin 2) (q k : Fin 4096) : val_main_v29 (F := Ideal) x4 x5 (ix5 b h d q k)
    = score x4 x5 b h d q k := by
  have e : val_main_call1_v1 (F := Ideal) (ix5 b h d q k) = val_main_v27 (F := Ideal) (ix2 q k) := by
    rw [val_main_call1_v1_apply]
    rfl
  rw [val_main_v29_apply, e, r27, r28, val_main_call1_v2_apply, val_main_call1_v0_apply, val_main_cst_2_apply, Ideal.ofBits_def, negInf]
  unfold score
  split
  · rfl
  · rfl

theorem r30 (b : Fin 8) (h : Fin 4) (d : Fin 2) (q : Fin 4096) : val_main_v30 (F := Ideal) x4 x5 (ix4 b h d q)
    = Finset.fold max ⊥ (fun k : Fin 4096 => score x4 x5 b h d q k) Finset.univ := by
  unfold val_main_v30
  rw [max_at, val_main_cst_3_apply, Ideal.ofBits_def, negInf]
  simp only [r29]

theorem r32 (b : Fin 8) (h : Fin 4) (d : Fin 2) (q : Fin 4096) : val_main_v32 (F := Ideal) x4 x5 (ix4 b h d q)
    = Finset.fold max ⊥ (fun k : Fin 4096 => score x4 x5 b h d q k) Finset.univ := by
  rw [val_main_v32_apply, val_main_v31_apply, val_main_cst_4_apply, Ideal.ofBits_def, negInf, Ideal.maximumf_def, r30]
  exact max_eq_right bot_le

theorem r36 (b : Fin 8) (h : Fin 4) (d : Fin 2) (q k : Fin 4096) : val_main_v36 (F := Ideal) x4 x5 (ix5 b h d q k)
    = Ideal.exp (val_main_v29 (F := Ideal) x4 x5 (ix5 b h d q k) - val_main_v32 (F := Ideal) x4 x5 (ix4 b h d q)) := by
  pointwise [val_main_v36, val_main_v35, val_main_v34, val_main_v33]

theorem r40 (b : Fin 8) (h : Fin 4) (d : Fin 2) (q k : Fin 4096) : val_main_v40 (F := Ideal) x4 x5 (ix5 b h d q k)
    = Ideal.div (val_main_v36 (F := Ideal) x4 x5 (ix5 b h d q k)) (∑ k : Fin 4096, val_main_v36 (F := Ideal) x4 x5 (ix5 b h d q k)) := by
  pointwise [val_main_v40, val_main_v39, val_main_v38, val_main_v37, val_main_cst_5]

theorem r11 : val_main_v11 (F := Ideal) x0 x1 x2 x3 ix0 = Ideal.exp (∑ y : Fin 64, x0 (ix2 0 y) * x1 (ix2 0 y))
    - Ideal.exp (∑ y : Fin 64, x2 (ix2 0 y) * x3 (ix2 0 y)) + Ideal.ofBits .f32 0x3E4CCCCD#32 := by
  pointwise [val_main_v11, val_main_v10, val_main_v9, val_main_v8, val_main_v7, val_main_v6, val_main_v5, val_main_v4, val_main_v3,
    val_main_v2, val_main_v1, val_main_v0, val_main_cst, val_main_cst_0, val_main_cst_1]

theorem r42 (b : Fin 8) (h : Fin 4) (q k : Fin 4096) : val_main_v42 (F := Ideal) x4 x5 (ix4 b h q k)
    = val_main_v40 (F := Ideal) x4 x5 (ix5 b h 0 q k) := by
  rw [val_main_v42_apply, val_main_v41_apply]
  refine congrArg _ (funext fun a => Fin.ext ?_)
  have h1 := b.isLt
  have h2 := h.isLt
  have h3 := q.isLt
  have h4 := k.isLt
  match a with
  | ⟨0, _⟩ =>
    show (((b.val * 4 + h.val) * 4096 + q.val) * 4096 + k.val) / 67108864 = b.val
    omega
  | ⟨1, _⟩ =>
    show (((b.val * 4 + h.val) * 4096 + q.val) * 4096 + k.val) / 16777216 % 4 = h.val
    omega
  | ⟨2, _⟩ =>
    rfl
  | ⟨3, _⟩ =>
    show (((b.val * 4 + h.val) * 4096 + q.val) * 4096 + k.val) / 4096 % 4096 = q.val
    omega
  | ⟨4, _⟩ =>
    show (((b.val * 4 + h.val) * 4096 + q.val) * 4096 + k.val) % 4096 = k.val
    omega

theorem r44 (b : Fin 8) (h : Fin 4) (q k : Fin 4096) : val_main_v44 (F := Ideal) x4 x5 (ix4 b h q k)
    = val_main_v40 (F := Ideal) x4 x5 (ix5 b h 1 q k) := by
  rw [val_main_v44_apply, val_main_v43_apply]
  refine congrArg _ (funext fun a => Fin.ext ?_)
  have h1 := b.isLt
  have h2 := h.isLt
  have h3 := q.isLt
  have h4 := k.isLt
  match a with
  | ⟨0, _⟩ =>
    show (((b.val * 4 + h.val) * 4096 + q.val) * 4096 + k.val) / 67108864 = b.val
    omega
  | ⟨1, _⟩ =>
    show (((b.val * 4 + h.val) * 4096 + q.val) * 4096 + k.val) / 16777216 % 4 = h.val
    omega
  | ⟨2, _⟩ =>
    rfl
  | ⟨3, _⟩ =>
    show (((b.val * 4 + h.val) * 4096 + q.val) * 4096 + k.val) / 4096 % 4096 = q.val
    omega
  | ⟨4, _⟩ =>
    show (((b.val * 4 + h.val) * 4096 + q.val) * 4096 + k.val) % 4096 = k.val
    omega

theorem r47 (b : Fin 8) (h : Fin 4) (q k : Fin 4096) : val_main_v47 (F := Ideal) x0 x1 x2 x3 x4 x5 (ix4 b h q k)
    = val_main_v40 (F := Ideal) x4 x5 (ix5 b h 0 q k) - val_main_v11 (F := Ideal) x0 x1 x2 x3 ix0 * val_main_v40 (F := Ideal) x4 x5 (ix5 b h 1 q k) := by
  have e : val_main_v45 (F := Ideal) x0 x1 x2 x3 (ix4 b h q k) = val_main_v11 (F := Ideal) x0 x1 x2 x3 ix0 := by
    rw [val_main_v45_apply]
    exact congrArg _ (funext fun a => a.elim0)
  rw [val_main_v47_apply, val_main_v46_apply, e, r42, r44]
  rfl

theorem r49 (b : Fin 8) (h : Fin 4) (q : Fin 4096) (e : Fin 128) : val_main_v49 (F := Ideal) x0 x1 x2 x3 x4 x5 x6 (ix4 b q h e)
    = ∑ k : Fin 4096, val_main_v47 (F := Ideal) x0 x1 x2 x3 x4 x5 (ix4 b h q k) * val_main_v20 (F := Ideal) x6 (ix4 b h k e) := by
  pointwise [val_main_v49, val_main_v48]

theorem r51 (b : Fin 8) (h : Fin 4) (q : Fin 4096) : val_main_v51 (F := Ideal) x0 x1 x2 x3 x4 x5 x6 (ix3 b q h) = ∑ e : Fin 128, val_main_v49 (F := Ideal) x0 x1 x2 x3 x4 x5 x6 (ix4 b q h e) * val_main_v49 (F := Ideal) x0 x1 x2 x3 x4 x5 x6 (ix4 b q h e) := by
  rw [val_main_v51_apply, val_main_cst_6_apply, Ideal.ofBits_def, zeroW, zero_add]
  refine Finset.sum_congr rfl fun e _ => ?_
  rw [val_main_v50_apply]
  have ei : idx_main_v51 (ix3 b q h) e = ix4 b q h e := by
    funext a
    match a with
    | ⟨0, _⟩ => rfl
    | ⟨1, _⟩ => rfl
    | ⟨2, _⟩ => rfl
    | ⟨3, _⟩ => rfl
  rw [ei]
  rfl

theorem r54 (b : Fin 8) (h : Fin 4) (q : Fin 4096) : val_main_v54 (F := Ideal) x0 x1 x2 x3 x4 x5 x6 (ix4 b q h 0) = Ideal.div (val_main_v51 (F := Ideal) x0 x1 x2 x3 x4 x5 x6 (ix3 b q h)) (Ideal.ofBits .f32 0x43000000#32) := by
  have e : val_main_v52 (F := Ideal) x0 x1 x2 x3 x4 x5 x6 (ix4 b q h 0) = val_main_v51 (F := Ideal) x0 x1 x2 x3 x4 x5 x6 (ix3 b q h) := by
    pointwise [val_main_v52]
  rw [val_main_v54_apply, val_main_v53_apply, val_main_cst_7_apply, e]
  rfl

theorem r57 (b : Fin 8) (h : Fin 4) (q : Fin 4096) : val_main_v57 (F := Ideal) x0 x1 x2 x3 x4 x5 x6 (ix4 b q h 0) = Ideal.rsqrt (val_main_v54 (F := Ideal) x0 x1 x2 x3 x4 x5 x6 (ix4 b q h 0) + Ideal.ofBits .f32 0x358637BD#32) := by
  rw [val_main_v57_apply, val_main_v56_apply, val_main_v55_apply, val_main_cst_8_apply]
  rfl

theorem r58 (b : Fin 8) (h : Fin 4) (q : Fin 4096) (e : Fin 128) : val_main_v58 (F := Ideal) x0 x1 x2 x3 x4 x5 x6 (ix4 b q h e) = val_main_v57 (F := Ideal) x0 x1 x2 x3 x4 x5 x6 (ix4 b q h 0) := by
  pointwise [val_main_v58]

theorem r62 (b : Fin 8) (h : Fin 4) (q : Fin 4096) (e : Fin 128) : val_main_v62 (F := Ideal) x8 (ix4 b q h e) = x8 (ix2 0 e) := by
  pointwise [val_main_v62, val_main_v61, val_main_v60]

theorem r63 (b : Fin 8) (h : Fin 4) (q : Fin 4096) (e : Fin 128) : val_main_v63 (F := Ideal) x0 x1 x2 x3 x4 x5 x6 x8 (ix4 b q h e)
    = rmsRow (fun e => val_main_v49 (F := Ideal) x0 x1 x2 x3 x4 x5 x6 (ix4 b q h e)) (x8 (ix2 0 e)) e := by
  rw [val_main_v63_apply, val_main_v59_apply, r58, r57, r54, r51, r62]
  rfl

theorem r67 (b : Fin 8) (h : Fin 4) (q : Fin 4096) (e : Fin 128) : val_main_v67 (F := Ideal) x7 (ix4 b q h e)
    = x7 (ix2 ⟨b * 4096 + q, by omega⟩ ⟨h * 128 + e, by omega⟩) := by
  pointwise [val_main_v67, val_main_v66]

theorem r68 (b : Fin 8) (h : Fin 4) (q : Fin 4096) (e : Fin 128) : val_main_v68 (F := Ideal) x0 x1 x2 x3 x4 x5 x6 x7 x8 (ix4 b q h e)
    = val_main_v63 (F := Ideal) x0 x1 x2 x3 x4 x5 x6 x8 (ix4 b q h e) * Ideal.ofBits .f32 0x3F4CCCCD#32
      * x7 (ix2 ⟨b * 4096 + q, by omega⟩ ⟨h * 128 + e, by omega⟩) := by
  rw [val_main_v68_apply, val_main_v65_apply, val_main_v64_apply, val_main_cst_9_apply, r67]
  rfl

theorem r70 (b : Fin 8) (h : Fin 4) (q : Fin 4096) (e : Fin 128) : val_main_v70 (F := Ideal) x0 x1 x2 x3 x4 x5 x6 x7 x8
      (ix2 ⟨b * 4096 + q, by omega⟩ ⟨h * 128 + e, by omega⟩)
    = val_main_v68 (F := Ideal) x0 x1 x2 x3 x4 x5 x6 x7 x8 (ix4 b q h e) := by
  pointwise [val_main_v70, val_main_v69]

end Cert.AttnRefIdeal.Mine
end
-- ==== Proof.AttnRefRow.lean ====
/- The reference's attention, one entry, over the scores of the kernel's rows. -/
module

public import proofs.«01_k».proof.Proof.AttnTile
public import proofs.«01_k».proof.Proof.AttnEnd
public import proofs.«01_k».proof.Proof.AttnRef
public import proofs.«01_k».proof.Proof.AttnVal

@[expose] public section

set_option maxRecDepth 16384

noncomputable section

open Idealize.ShloMosaic Idealize.ShloMosaic.TcCoe Idealize.SL.Sem
open Idealize.ShloMosaic.Pipeline (Dat)
open scoped BigOperators

namespace Cert.AttnRefIdeal.Mine
open Cert.AttnRefIdeal Cert.AttnRefIdeal.Read Cert.Sums Cert.Online
open Cert.AttnIdeal.Mine (scr row col lamOf)

theorem row_of (Q K : Fin 32768 → Fin 512 → EReal) (b : Fin 8) (h : Fin 4) (i : Fin 16) (r : Fin 512) (d : Fin 2) (q k : ℕ)
    (hd : d = ⟨r / 256, by omega⟩) (hqr : q = i * 256 + r % 256) (hq : q < 4096) (hk : k < 4096) :
    row Q K b h i r k = scr Q K b h d q k hq hk := by
  subst hd
  subst hqr
  unfold row
  rw [dif_pos hk]

variable (x0 x1 x2 x3 : (⟨S1x64, .f32⟩ : BufTy).Contents (Elt Ideal)) (x4 x5 x6 x7 : (⟨S32768x512, .bf16⟩ : BufTy).Contents (Elt Ideal))
  (x8 : (⟨S1x128, .f32⟩ : BufTy).Contents (Elt Ideal))

/-- An array's entries by row and column. -/
def mat (x : (⟨S32768x512, .bf16⟩ : BufTy).Contents (Elt Ideal)) : Fin 32768 → Fin 512 → EReal := fun a b => x (ix2 a b)

theorem score_row (b : Fin 8) (h : Fin 4) (i : Fin 16) (p : Fin 256) (d : Fin 2) (k : Fin 4096) (r : Fin 512) (hr : (r : ℕ) = d * 256 + p) :
    score x4 x5 b h d ⟨i * 256 + p, by omega⟩ k = row (mat x4) (mat x5) b h i r k :=
  (row_of (mat x4) (mat x5) b h i r d (i * 256 + p) k (Fin.ext (by show d.val = r.val / 256; omega)) (by omega) (by omega) k.isLt).symm

theorem fold_top (S : ℕ → EReal) : Finset.fold max ⊥ (fun k : Fin 4096 => S k) Finset.univ = top S 4096 := by
  have e := step_top S 0 4096 (fun k => S k) fun x => by rw [Nat.zero_add]
  rw [top_zero, Nat.zero_add] at e
  exact (max_eq_right bot_le).symm.trans e

theorem soft (b : Fin 8) (h : Fin 4) (i : Fin 16) (p : Fin 256) (d : Fin 2) (k : Fin 4096) (r : Fin 512) (hr : (r : ℕ) = d * 256 + p) :
    val_main_v40 (F := Ideal) x4 x5 (ix5 b h d ⟨i * 256 + p, by omega⟩ k)
      = Ideal.div (Ideal.exp (row (mat x4) (mat x5) b h i r k - top (row (mat x4) (mat x5) b h i r) 4096)) (wt (row (mat x4) (mat x5) b h i r) 4096) := by
  have e : ∀ k : Fin 4096, val_main_v36 (F := Ideal) x4 x5 (ix5 b h d ⟨i * 256 + p, by omega⟩ k)
      = Ideal.exp (row (mat x4) (mat x5) b h i r k - top (row (mat x4) (mat x5) b h i r) 4096) := by
    intro k
    rw [r36, r29, r32, score_row x4 x5 b h i p d k r hr]
    have e' : (fun k : Fin 4096 => score x4 x5 b h d ⟨i * 256 + p, by omega⟩ k) = fun k : Fin 4096 => row (mat x4) (mat x5) b h i r k :=
      funext fun k => score_row x4 x5 b h i p d k r hr
    rw [e', fold_top]
  rw [r40, e, Finset.sum_congr rfl fun k _ => e k]
  unfold wt
  rw [Finset.sum_range]

theorem mixed (b : Fin 8) (h : Fin 4) (i : Fin 16) (p : Fin 256) (e : Fin 128) :
    val_main_v49 (F := Ideal) x0 x1 x2 x3 x4 x5 x6 (ix4 b ⟨i * 256 + p, by omega⟩ h e)
      = AttnEnd.rowR (row (mat x4) (mat x5) b h i ⟨p, by omega⟩) (row (mat x4) (mat x5) b h i ⟨256 + p, by omega⟩) 4096
        (lamOf (fun y => x0 (ix2 0 y)) (fun y => x1 (ix2 0 y)) (fun y => x2 (ix2 0 y)) (fun y => x3 (ix2 0 y))) (col (mat x6) b h e) := by
  rw [r49]
  unfold AttnEnd.rowR
  rw [Finset.sum_range]
  refine Finset.sum_congr rfl fun k _ => ?_
  have hv : col (mat x6) b h e k = x6 (ix2 ⟨b * 4096 + k, by omega⟩ ⟨h * 128 + e, by omega⟩) := by
    unfold col
    rw [dif_pos k.isLt]
    rfl
  rw [r47, r20, r11, soft x4 x5 b h i p 0 k ⟨p, by omega⟩ (by simp), soft x4 x5 b h i p 1 k ⟨256 + p, by omega⟩ (by simp), hv]
  rfl

theorem out_ref (b : Fin 8) (h : Fin 4) (i : Fin 16) (p : Fin 256) (e : Fin 128) :
    val_main_v70 (F := Ideal) x0 x1 x2 x3 x4 x5 x6 x7 x8 (ix2 ⟨b * 4096 + (i * 256 + p), by omega⟩ ⟨h * 128 + e, by omega⟩)
      = AttnEnd.rms (fun e => AttnEnd.rowR (row (mat x4) (mat x5) b h i ⟨p, by omega⟩) (row (mat x4) (mat x5) b h i ⟨256 + p, by omega⟩) 4096
        (lamOf (fun y => x0 (ix2 0 y)) (fun y => x1 (ix2 0 y)) (fun y => x2 (ix2 0 y)) (fun y => x3 (ix2 0 y))) (col (mat x6) b h e))
        (x8 (ix2 0 e)) e * Ideal.ofBits .f32 0x3F4CCCCD#32 * x7 (ix2 ⟨b * 4096 + (i * 256 + p), by omega⟩ ⟨h * 128 + e, by omega⟩) := by
  refine (r70 x0 x1 x2 x3 x4 x5 x6 x7 x8 b h ⟨i * 256 + p, by omega⟩ e).trans ?_
  rw [r68, r63]
  refine congrArg₂ (· * ·) (congrArg₂ (· * ·) ?_ rfl) rfl
  rw [show @rmsRow = @AttnEnd.rms from rfl]
  refine congrArg (fun u => AttnEnd.rms u _ e) (funext fun e => ?_)
  exact mixed x0 x1 x2 x3 x4 x5 x6 b h i p e

end Cert.AttnRefIdeal.Mine
end
-- ==== Proof.AttnPre.lean ====
/- What the precondition of the attention says: the entries of the four vectors and of the values are real numbers. -/
module

public import Idealize.ShloMosaic.Lib.ReduceAll
public import proofs.«01_k».proof.Pre_attn_finite
public import proofs.«01_k».proof.Proof.AttnVal

@[expose] public section

set_option maxRecDepth 16384

noncomputable section

open Idealize.ShloMosaic Idealize.ShloMosaic.TcCoe Idealize.SL.Sem
open Idealize.ShloMosaic.Pipeline (Dat)
open scoped BigOperators

namespace Cert.AttnFin
open Cert.Pre_attn_finite Cert.Sums

variable [Facts]

theorem inf_bits : Ideal.ofBits .f32 0x7F800000#32 = ⊤ := by
  simp [Ideal.ofBits, Ideal.ieee]

/-- What lies below plus infinity in absolute value is a real number. -/
theorem real_of (x : EReal) (h : FloatOps.cmpf (F := Ideal) (φ := .f32) .olt (max x (-x)) (Ideal.ofBits .f32 0x7F800000#32) = 1#1) :
    ∃ r : ℝ, x = (r : EReal) := by
  rw [inf_bits] at h
  have h' : max x (-x) < ⊤ := by
    by_contra hn
    have : Ideal.cmp .olt (max x (-x)) ⊤ = 0#1 := by
      simp [Ideal.cmp, hn]
    exact absurd (this.symm.trans h) (by decide)
  induction x using EReal.rec with
  | bot => exact absurd h' (by simp)
  | top => exact absurd h' (by simp)
  | coe r => exact ⟨r, rfl⟩

instance : Subsingleton S_.Idx := ⟨fun a b => funext fun i => i.elim0⟩

theorem finite (x0 x1 x2 x3 : FVec Ideal S1x64 .f32) (x4 x5 x6 x7 : FVec Ideal S32768x512 .bf16) (x8 : FVec Ideal S1x128 .f32)
    (h : fn (F := Ideal) x0 x1 x2 x3 x4 x5 x6 x7 x8 = fun _ => 1#1) :
    (∀ i, ∃ r : ℝ, (x0 i : EReal) = r) ∧ (∀ i, ∃ r : ℝ, (x1 i : EReal) = r) ∧ (∀ i, ∃ r : ℝ, (x2 i : EReal) = r) ∧ (∀ i, ∃ r : ℝ, (x3 i : EReal) = r)
    ∧ (∀ i, ∃ r : ℝ, (x6 i : EReal) = r) := by
  have h := congrFun h ix0
  dsimp only [fn, fn_part1] at h
  obtain ⟨h, h6⟩ := IntOp.andi_eq_one.mp h
  obtain ⟨h, h3⟩ := IntOp.andi_eq_one.mp h
  obtain ⟨h, h2⟩ := IntOp.andi_eq_one.mp h
  obtain ⟨h, h1⟩ := IntOp.andi_eq_one.mp h
  obtain ⟨h, h0⟩ := IntOp.andi_eq_one.mp h
  refine ⟨fun i => ?_, fun i => ?_, fun i => ?_, fun i => ?_, fun i => ?_⟩
  · exact real_of _ (Host.reduce_andi_all _ _ _ _ _ h0 i)
  · exact real_of _ (Host.reduce_andi_all _ _ _ _ _ h1 i)
  · exact real_of _ (Host.reduce_andi_all _ _ _ _ _ h2 i)
  · exact real_of _ (Host.reduce_andi_all _ _ _ _ _ h3 i)
  · exact real_of _ (Host.reduce_andi_all _ _ _ _ _ h6 i)

theorem sum_real {ι : Type*} (s : Finset ι) (f g : ι → EReal) (hf : ∀ i, ∃ r : ℝ, f i = r) (hg : ∀ i, ∃ r : ℝ, g i = r) :
    ∃ r : ℝ, ∑ i ∈ s, f i * g i = r := by
  choose f' hf' using hf
  choose g' hg' using hg
  exact ⟨∑ i ∈ s, f' i * g' i, by
    classical
    simp only [hf', hg', ← EReal.coe_mul]
    induction s using Finset.induction_on with
    | empty => rfl
    | insert a s ha ih => rw [Finset.sum_insert ha, Finset.sum_insert ha, ih, EReal.coe_add]⟩

theorem fifth : ∃ r : ℝ, Ideal.ofBits .f32 0x3E4CCCCD#32 = r := by
  refine ⟨13421773 / 67108864, ?_⟩
  simp [Ideal.ofBits, Ideal.ieee, -EReal.coe_mul]
  norm_num

/-- The scalar computed from four real vectors is real. -/
theorem lam_real (x0 x1 x2 x3 : Fin 64 → EReal) (h0 : ∀ i, ∃ r : ℝ, x0 i = r) (h1 : ∀ i, ∃ r : ℝ, x1 i = r) (h2 : ∀ i, ∃ r : ℝ, x2 i = r)
    (h3 : ∀ i, ∃ r : ℝ, x3 i = r) : ∃ r : ℝ, Cert.AttnIdeal.Mine.lamOf x0 x1 x2 x3 = r := by
  obtain ⟨a, ha⟩ := sum_real Finset.univ x0 x1 h0 h1
  obtain ⟨b, hb⟩ := sum_real Finset.univ x2 x3 h2 h3
  obtain ⟨k, hk⟩ := fifth
  unfold Cert.AttnIdeal.Mine.lamOf
  rw [ha, hb, hk, Online.exp_coe, Online.exp_coe]
  exact ⟨Real.exp a - Real.exp b + k, by push_cast; rfl⟩

/-- A column of real values is real. -/
theorem col_real (V : Fin 32768 → Fin 512 → EReal) (hV : ∀ a b, ∃ r : ℝ, V a b = r) (b : Fin 8) (h : Fin 4) :
    ∃ u : Fin 128 → ℕ → ℝ, ∀ e, Cert.AttnIdeal.Mine.col V b h e = fun k => (u e k : EReal) := by
  have key : ∀ e k, ∃ r : ℝ, Cert.AttnIdeal.Mine.col V b h e k = r := by
    intro e k
    unfold Cert.AttnIdeal.Mine.col
    split
    · exact hV _ _
    · exact ⟨0, rfl⟩
  choose u hu using key
  exact ⟨u, fun e => funext fun k => hu e k⟩

end Cert.AttnFin
end
-- ==== Proof.AttnClaim.lean ====
/- The call of the attention: the kernel and its reference leave the same array, where the four vectors and the values are finite. -/
module

public import proofs.«01_k».proof.Defs
public import proofs.«01_k».proof.Proof.AttnVal
public import proofs.«01_k».proof.Proof.AttnRefRow
public import proofs.«01_k».proof.Proof.AttnPre

@[expose] public section

set_option maxRecDepth 16384

noncomputable section

open Idealize.ShloMosaic Idealize.ShloMosaic.TcCoe Idealize.SL.Sem
open Idealize.ShloMosaic.Pipeline (Dat)
open scoped BigOperators

namespace Cert.AttnIdeal.Mine
open Cert.AttnIdeal Cert.AttnIdeal.Gen Cert.Sums Cert.AttnRefIdeal.Read

variable (m : (ℓ : Loc nD τ sig) → Buf (Elt Ideal) ℓ)

theorem final [Cert.Pre_attn_finite.Facts] (c : Dev nD)
    (hpre : Cert.Pre_attn_finite.fn (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7))
      (m ((c : Thread nD τ).loc main_arg8)) = fun _ => 1#1) :
    (dats m 0 c).arrAt 6 (cfgs 0).N = val_main_v70 (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7))
      (m ((c : Thread nD τ).loc main_arg8)) := by
  refine (dats m 0 c).arrAt_eq_of_covers 6 _ (by decide +kernel) fun t _ y => ?_
  blk_simp
  rw [after0_6]
  have h := lt512 t
  obtain ⟨p, e, rfl⟩ : ∃ (p : Fin 256) (e : Fin 128), y = ix2 p e := ⟨y 0, y 1, eq_ix2 y⟩
  have er : t.val / 64 * 4096 + (t.val % 16 * 256 + p.val) = (t.val / 64 * 16 + t.val % 16) * 256 + p.val := by omega
  have ej : (win0_6.blk t).view.emb (ix2 p e) = ix2 ⟨bt t * 4096 + (ti t * 256 + p), by omega⟩ ⟨hd t * 128 + e, by omega⟩ := by
    refine Eq.trans (?_ : _ = ix2 ⟨(t.val / 64 * 16 + t.val % 16) * 256 + p, by omega⟩ ⟨t.val / 16 % 4 * 128 + e, by omega⟩) ?_
    · blk_ext [idx t]
    · exact congrArg (fun a => ix2 a _) (Fin.ext er.symm)
  refine (out_at m c t p e).trans ?_
  refine Eq.trans ?_ ((congrArg _ ej).trans (Cert.AttnRefIdeal.Mine.out_ref _ _ _ _ _ _ _ _ _ (bt t) (hd t) (ti t) p e)).symm
  obtain ⟨h0, h1, h2, h3, h6⟩ := AttnFin.finite _ _ _ _ _ _ _ _ _ hpre
  obtain ⟨l, hl⟩ := AttnFin.lam_real _ _ _ _ (fun y => h0 (ix2 0 y)) (fun y => h1 (ix2 0 y)) (fun y => h2 (ix2 0 y)) fun y => h3 (ix2 0 y)
  obtain ⟨u, hu⟩ := AttnFin.col_real (vs m c) (fun a b => h6 (ix2 a b)) (bt t) (hd t)
  have e4 : (iblk m c 4 t : FVec Ideal S256x128 .bf16) (ix2 p e)
      = m ((c : Thread nD τ).loc main_arg7) (ix2 ⟨bt t * 4096 + (ti t * 256 + p), by omega⟩ ⟨hd t * 128 + e, by omega⟩) := by
    rw [b4]
    exact congrArg (fun a => m ((c : Thread nD τ).loc main_arg7) (ix2 a _)) (Fin.ext er.symm)
  unfold res
  rw [e4]
  refine congrArg₂ (· * ·) (congrArg₂ (· * ·) ?_ rfl) rfl
  have k := AttnEnd.norm_eq (sco m c t ⟨p, by omega⟩) (sco m c t ⟨256 + p, by omega⟩) 4096 l u (m ((c : Thread nD τ).loc main_arg8) (ix2 0 e)) e
  simp only [← hu, ← hl] at k
  exact k

end Cert.AttnIdeal.Mine

namespace Cert.Proof

theorem value_Attn [Cert.Pre_attn_finite.Facts] : Cert.algebraic_AttnIdeal_AttnRefIdeal_pre_attn_finite := by
  pair_intro
  · run_from Cert.AttnIdeal.Gen.run_main m g
  · run_from Cert.AttnRefIdeal.Value.run m' g'
    refine (Cert.AttnRefIdeal.Read.val_main_v70_eq _ _).trans (Eq.trans ?_ (Cert.AttnIdeal.Mine.final m c (hpre c)).symm)
    obtain ⟨h0, h1, h2, h3, h4, h5, h6, h7, h8⟩ := hagree c
    rw [h0, h1, h2, h3, h4, h5, h6, h7, h8]

end Cert.Proof

end
-- ==== Proof.InProjPay.lean ====
/- The input projection's formulas, and what its body's vectors hold at an index. -/
module

public import proofs.«01_k».proof.Proof.Gen.InProjIdeal.Frame
public import proofs.«01_k».proof.Proof.Sums
public import Idealize.ShloMosaic.Lib.KernelVsHost
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.InProjRow

/-- The root-mean-square norm of a row of 1024, with the weights `w`. -/
def hrow (x w : Fin 1024 → EReal) (k : Fin 1024) : EReal :=
  x k * Ideal.rsqrt (Ideal.div (∑ k, x k * x k) (Ideal.ofBits .f32 0x44800000#32) + Ideal.ofBits .f32 0x358637BD#32) * w k

/-- The product of the normed row with a column of the weights. -/
def prj (x w W : Fin 1024 → EReal) : EReal := ∑ k, hrow x w k * W k

/-- Row `r` of the joint projection, at column `j`. -/
def pr (x0 : (⟨3, ![8, 4096, 1024]⟩ : Shape).Idx → EReal) (x2 : (⟨2, ![1, 1024]⟩ : Shape).Idx → EReal)
    (x3 : (⟨3, ![1, 1024, 3600]⟩ : Shape).Idx → EReal) (r : Fin 32768) (j : Fin 3600) : EReal :=
  prj (fun k => x0 (ix3 ⟨r / 4096, by omega⟩ ⟨r % 4096, by omega⟩ k)) (fun k => x2 (ix2 0 k)) (fun k => x3 (ix3 0 k j))

/-- `s` times its logistic. -/
def silu (s : EReal) : EReal :=
  s * Ideal.div (Ideal.ofBits .f32 0x3F800000#32) (Ideal.ofBits .f32 0x3F800000#32 + Ideal.exp (-s))

/-- The logarithm of the logistic of `s`, over 16. -/
def lsig (s : EReal) : EReal :=
  (min s 0 - Ideal.log1p (Ideal.exp (-(max s (-s))))) * Ideal.ofBits .f32 0x3D800000#32

/-- The rotation at one lane: the first eight of a map's lanes take the partner eight above, the others the one eight below. -/
def rope (v c s : Fin 128 → EReal) (j : Fin 128) : EReal :=
  v j * c j + (if (j : ℕ) % 64 < 8 then v ⟨(j + 8) % 128, by omega⟩ else v ⟨(j + 120) % 128, by omega⟩) * s j

/-- The cosine a lane takes: its frequency's in the first sixteen of a map's lanes, one in the others. -/
def cosL (a : Fin 8 → EReal) (l : Fin 128) : EReal :=
  if (l : ℕ) % 64 < 16 then Ideal.cos (a ⟨l % 64 % 8, by omega⟩) else 1

/-- The signed sine a lane takes: negated in the first eight of a map's lanes, zero from the sixteenth on. -/
def sinL (a : Fin 8 → EReal) (l : Fin 128) : EReal :=
  if (l : ℕ) % 64 < 8 then -Ideal.sin (a ⟨l % 64 % 8, by omega⟩)
  else if (l : ℕ) % 64 < 16 then Ideal.sin (a ⟨l % 64 % 8, by omega⟩) else 0

/-- The rotation read in one map of 64 lanes, `V` the map of lane `j`. -/
theorem rope_of (V : Fin 64 → EReal) (v : Fin 128 → EReal) (a : Fin 8 → EReal) (j : Fin 128)
    (hv : ∀ (y : Fin 64) (l : Fin 128), (l : ℕ) = j / 64 * 64 + y → V y = v l) :
    (if (j : ℕ) % 64 < 16 then V ⟨j % 64, by omega⟩ * Ideal.cos (a ⟨j % 64 % 8, by omega⟩)
      + (if (j : ℕ) % 64 < 8 then -V ⟨(8 + j % 64) % 64, by omega⟩ else V ⟨j % 64 - 8, by omega⟩) * Ideal.sin (a ⟨j % 64 % 8, by omega⟩)
      else V ⟨j % 64, by omega⟩) = rope v (cosL a) (sinL a) j := by
  unfold rope cosL sinL
  have q := j.isLt
  rw [hv ⟨j % 64, by omega⟩ j (by show j.val = j.val / 64 * 64 + j.val % 64; omega)]
  by_cases h1 : (j : ℕ) % 64 < 8
  · have i1 : (j : ℕ) % 64 < 16 := by omega
    rw [if_pos i1, if_pos h1, if_pos i1, if_pos h1, if_pos h1,
      hv ⟨(8 + j % 64) % 64, by omega⟩ ⟨(j + 8) % 128, by omega⟩ (by show (j.val + 8) % 128 = j.val / 64 * 64 + (8 + j.val % 64) % 64; omega),
      neg_mul, mul_neg]
  · by_cases i1 : (j : ℕ) % 64 < 16
    · rw [if_pos i1, if_neg h1, if_pos i1, if_neg h1, if_neg h1, if_pos i1,
        hv ⟨j % 64 - 8, by omega⟩ ⟨(j + 120) % 128, by omega⟩ (by show (j.val + 120) % 128 = j.val / 64 * 64 + (j.val % 64 - 8); omega)]
    · rw [if_neg i1, if_neg i1, if_neg h1, if_neg h1, if_neg i1, mul_one, mul_zero, add_zero]

theorem c16 : Ideal.ofBits .f32 0x41800000#32 = ((16 : ℝ) : EReal) := by
  simp [Ideal.ofBits, Ideal.ieee]
  rw [← EReal.coe_mul]
  norm_num

theorem oneF : Ideal.ofBits .f32 0x3F800000#32 = 1 := by
  simp [Ideal.ofBits, Ideal.ieee]
  rw [← EReal.coe_mul, ← EReal.coe_one]
  norm_num

theorem l_ne (y : EReal) : Ideal.log1p (Ideal.exp y) ≠ ⊥ := by
  have k (r : ℝ) (h : 0 < r) : Ideal.log (r : EReal) ≠ ⊥ := by
    show (if r ≤ 0 then ⊥ else (Real.log r : EReal)) ≠ ⊥
    rw [if_neg (not_le.mpr h)]
    exact EReal.coe_ne_bot _
  unfold Ideal.log1p
  induction y with
  | bot =>
    have e : (1 : EReal) + Ideal.exp ⊥ = ((1 : ℝ) : EReal) := by
      show (1 : EReal) + 0 = _
      rw [add_zero, EReal.coe_one]
    rw [e]
    exact k 1 one_pos
  | top =>
    have e : (1 : EReal) + Ideal.exp ⊤ = ⊤ := by
      show (1 : EReal) + ⊤ = _
      rw [← EReal.coe_one, EReal.coe_add_top]
    rw [e]
    exact bot_lt_top.ne'
  | coe r =>
    have h : (0 : ℝ) < 1 + Real.exp r := by positivity
    have e : (1 : EReal) + Ideal.exp (r : EReal) = ((1 + Real.exp r : ℝ) : EReal) := by
      rw [EReal.coe_add]; rfl
    rw [e]
    exact k _ h

/-- The logarithm of the logistic, as the reference writes it, is the kernel's. -/
theorem lsig_eq (L : EReal) : Ideal.div (-(max (-L) 0 + Ideal.log1p (Ideal.exp (-(max (-L - 0) (-(-L - 0))))))) (Ideal.ofBits .f32 0x41800000#32) = lsig L := by
  unfold lsig
  have h : -max (-L) 0 = min L 0 := by
    rcases le_total L 0 with h | h
    · rw [min_eq_left h, max_eq_left (by rw [← neg_zero]; exact EReal.neg_le_neg_iff.mpr h), neg_neg]
    · rw [min_eq_right h, max_eq_right (by rw [← neg_zero]; exact EReal.neg_le_neg_iff.mpr h), neg_zero]
  have g : max (-L) 0 ≠ ⊥ := fun q => absurd (le_max_right (-L) 0) (by rw [q]; simp)
  rw [sub_zero, neg_neg, max_comm (-L) L, EReal.neg_add (Or.inl g) (Or.inr (l_ne _)), h, c16, Cert.Sums.sixteenth]
  unfold Ideal.div
  rw [if_neg (by norm_num), ← EReal.coe_inv, one_div]

end Cert.InProjRow

namespace Cert.InProjIdeal.Mine
open Cert.InProjIdeal Cert.InProjIdeal.Gen Cert.Sums Cert.InProjRow

theorem zeroF : Ideal.ofBits .f32 0x00000000#32 = 0 := by
  simp [Ideal.ofBits, Ideal.ieee]

theorem p4 (x : Vec Ideal S512x1024 .f32) (w : Vec Ideal S1x1024 .f32) (p : Fin 512) (k : Fin 1024) :
    k0_pay4 x w (ix2 p k) = hrow (fun k => x (ix2 p k)) (fun k => w (ix2 0 k)) k := by
  unfold hrow
  pointwise [k0_pay4]

theorem p5 (x : Vec Ideal S512x1024 .f32) (w : Vec Ideal S1x1024 .f32) (W : Vec Ideal S1024x256 .bf16) (p : Fin 512) (j : Fin 256) :
    k0_pay5 x w W (ix2 p j) = (∑ k, k0_pay4 x w (ix2 p k) * W (ix2 k j)) * Ideal.ofBits .f32 0x3E000000#32 := by
  pointwise [k0_pay5]

theorem p6 (x : Vec Ideal S512x1024 .f32) (w : Vec Ideal S1x1024 .f32) (W : Vec Ideal S1024x256 .bf16) (p : Fin 512) (j : Fin 256) :
    k0_pay6 x w W (ix2 p j) = ∑ k, k0_pay4 x w (ix2 p k) * W (ix2 k j) := by
  pointwise [k0_pay6]

theorem p7 (x : Vec Ideal S512x1024 .f32) (w : Vec Ideal S1x1024 .f32) (W : Vec Ideal S1024x512 .bf16) (p : Fin 512) (j : Fin 512) :
    k0_pay7 x w W (ix2 p j) = ∑ k, k0_pay4 x w (ix2 p k) * W (ix2 k j) := by
  pointwise [k0_pay7]

theorem p2 (h : FVec Ideal S512x1024 .bf16) (W : Vec Ideal S1024x512 .bf16) (p : Fin 512) (j : Fin 512) :
    k0_pay2 h W (ix2 p j) = ∑ k, h (ix2 p k) * W (ix2 k j) := by
  pointwise [k0_pay2]

theorem p3 (h : FVec Ideal S512x1024 .bf16) (W : Vec Ideal S1024x512 .bf16) (p : Fin 512) (j : Fin 512) :
    k0_pay3 h W (ix2 p j) = silu (∑ k, h (ix2 p k) * W (ix2 k j)) := by
  have e : k0_pay3 h W (ix2 p j) = k0_pay2 h W (ix2 p j) * Ideal.div (Ideal.ofBits .f32 0x3F800000#32) (Ideal.ofBits .f32 0x3F800000#32
    + Ideal.exp (Ideal.ofBits .f32 0x00000000#32 - k0_pay2 h W (ix2 p j))) := rfl
  rw [e, p2, zeroF, zero_sub]
  rfl

theorem p8 (h : FVec Ideal S512x1024 .bf16) (W : Vec Ideal S1024x512 .bf16) (p : Fin 512) (j : Fin 512) :
    k0_pay8 h W (ix2 p j) = silu (∑ k, h (ix2 p k) * W (ix2 k j)) := p3 h W p j

theorem p9 (h : FVec Ideal S512x1024 .bf16) (W : Vec Ideal S1024x128 .bf16) (U : Vec Ideal S128x256 .bf16) (b : Vec Ideal S1x256 .f32)
    (p : Fin 512) (j : Fin 256) :
    k0_pay9 h W U b (ix2 p j) = lsig ((∑ i : Fin 128, (∑ k, h (ix2 p k) * W (ix2 k i)) * U (ix2 i j)) + b (ix2 0 j)) := by
  have e : k0_pay9 h W U b (ix2 p j) = (min ((∑ i : Fin 128, (∑ k, h (ix2 p k) * W (ix2 k i)) * U (ix2 i j)) + b (ix2 0 j)) (Ideal.ofBits .f32 0x00000000#32)
      - Ideal.log1p (Ideal.exp (Ideal.ofBits .f32 0x00000000#32 - max ((∑ i : Fin 128, (∑ k, h (ix2 p k) * W (ix2 k i)) * U (ix2 i j)) + b (ix2 0 j))
        (-((∑ i : Fin 128, (∑ k, h (ix2 p k) * W (ix2 k i)) * U (ix2 i j)) + b (ix2 0 j)))))) * Ideal.ofBits .f32 0x3D800000#32 := by
    pointwise [k0_pay9]
    rfl
  rw [e, zeroF, zero_sub]
  rfl

theorem p10 (x : Vec Ideal S512x128 .f32) (p : Fin 512) (j : Fin 128) : k0_pay10 x (ix2 p j) = x (ix2 p j) := by
  pointwise [k0_pay10]

theorem p11 (x : Vec Ideal S512x128 .f32) (p : Fin 512) (j : Fin 128) : k0_pay11 x (ix2 p j) = x (ix2 p j) := by
  pointwise [k0_pay11]

theorem p14 (h : FVec Ideal S512x1024 .bf16) (W : Vec Ideal S1024x128 .bf16) (p : Fin 512) (j : Fin 128) :
    k0_pay14 h W (ix2 p j) = ∑ k, h (ix2 p k) * W (ix2 k j) := by
  pointwise [k0_pay14]

theorem p12 (p : Fin 512) (j : Fin 128) : k0_pay12 (ix2 p j) = if (j : ℕ) % 64 < 8 then 1#1 else 0#1 := by
  unfold k0_pay12
  pointwise
  clear p
  revert j
  decide +kernel

theorem rot120 (x : FVec Ideal S512x128 .f32) (p : Fin 512) (j : Fin 128) :
    dynamicRotate 1 120#32 none x rotates_S512x128_d1 (ix2 p j) = x (ix2 p ⟨(j + 8) % 128, by omega⟩) := by
  refine dynamicRotate_apply (s := S512x128) 1 120#32 x _ _ _ fun b => ?_
  match b with
  | ⟨0, _⟩ => rfl
  | ⟨1, _⟩ =>
    show ((j : ℕ) + 8) % 128 = ((j : ℕ) + 128 - 120 % 128) % 128
    omega

theorem rot8 (x : FVec Ideal S512x128 .f32) (p : Fin 512) (j : Fin 128) :
    dynamicRotate 1 8#32 none x rotates_S512x128_d1 (ix2 p j) = x (ix2 p ⟨(j + 120) % 128, by omega⟩) := by
  refine dynamicRotate_apply (s := S512x128) 1 8#32 x _ _ _ fun b => ?_
  match b with
  | ⟨0, _⟩ => rfl
  | ⟨1, _⟩ =>
    show ((j : ℕ) + 120) % 128 = ((j : ℕ) + 128 - 8 % 128) % 128
    omega

theorem p15 (c s v : FVec Ideal S512x128 .f32) (p : Fin 512) (j : Fin 128) :
    k0_pay15 c s k0_pay12 v 120#32 (ix2 p j) = rope (fun j => v (ix2 p j)) (fun j => c (ix2 p j)) (fun j => s (ix2 p j)) j := by
  have e : k0_pay15 c s k0_pay12 v 120#32 (ix2 p j) = v (ix2 p j) * c (ix2 p j) + Scalar.select (k0_pay12 (ix2 p j))
    (dynamicRotate 1 120#32 none v rotates_S512x128_d1 (ix2 p j)) (dynamicRotate 1 8#32 none v rotates_S512x128_d1 (ix2 p j)) * s (ix2 p j) := rfl
  rw [e, p12, rot120, rot8]
  unfold rope
  split <;> rfl

theorem p19 (c s v : FVec Ideal S512x128 .f32) (p : Fin 512) (j : Fin 128) :
    k0_pay19 c s k0_pay12 v 120#32 (ix2 p j) = rope (fun j => v (ix2 p j)) (fun j => c (ix2 p j)) (fun j => s (ix2 p j)) j * Ideal.ofBits .f32 0x3E000000#32 := by
  rw [← p15]
  rfl

end Cert.InProjIdeal.Mine
end
-- ==== Proof.InProjBlk.lean ====
/- The blocks the input projection's body loads, read at an index. -/
module

public import proofs.«01_k».proof.Proof.Gen.InProjIdeal.Value
public import proofs.«01_k».proof.Proof.Gen.InProjRefIdeal.Read
public import proofs.«01_k».proof.Proof.InProjPay
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.InProjIdeal.Mine
open Cert.InProjIdeal Cert.InProjIdeal.Gen Cert.Sums Cert.InProjRow

variable (m : (ℓ : Loc nD τ sig) → Buf (Elt Ideal) ℓ)

theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![t.val, 0] ∧ win0_8.index t = ![t.val, 0] ∧ win0_9.index t = ![t.val, 0] ∧ win0_10.index t = ![t.val, 0]
    ∧ win0_11.index t = ![t.val, 0] ∧ win0_12.index t = ![t.val, 0] ∧ win0_13.index t = ![t.val, 0] ∧ win0_14.index t = ![t.val, 0]
    ∧ win0_15.index t = ![t.val, 0] ∧ win0_16.index t = ![t.val, 0] ∧ win0_17.index t = ![t.val, 0] := (by decide +kernel : ∀ t : Fin grid0.N, _)

theorem lt64 (t : Fin cfg0.N) : t.val < 64 := lt_of_lt_of_eq t.isLt N_0

/-- Row `p` of grid point `t`. -/
def row (t : Fin cfg0.N) (p : Fin 512) : Fin 32768 := ⟨t.val * 512 + p, by have := lt64 t; omega⟩

/-- The ones of a map's last 48 lanes. -/
def ones : FVec Ideal S8x4096x48 .f32 := broadcastInDim S8x4096x48 ![] bcast_S_S8x4096x48 (constant S_ .f32 0x3F800000#32)
/-- The zeros of a map's last 48 lanes. -/
def zeros : FVec Ideal S8x4096x48 .f32 := mulf (broadcastInDim S8x4096x48 ![] bcast_S_S8x4096x48 (constant S_ .f32 0x00000000#32)) ones
/-- One map's 64 lanes of cosines. -/
def cosM (x : FVec Ideal S8x4096x8 .f32) : FVec Ideal S8x4096x64 .f32 :=
  concatenate S8x4096x64 2 [⟨S8x4096x8, Host.cos x⟩, ⟨S8x4096x8, Host.cos x⟩, ⟨S8x4096x48, ones⟩] concatenates_S8x4096x8_S8x4096x8_S8x4096x48_S8x4096x64_d2
/-- One map's 64 lanes of signed sines. -/
def sinM (x : FVec Ideal S8x4096x8 .f32) : FVec Ideal S8x4096x64 .f32 :=
  concatenate S8x4096x64 2 [⟨S8x4096x8, Host.negf (Host.sin x)⟩, ⟨S8x4096x8, Host.sin x⟩, ⟨S8x4096x48, zeros⟩] concatenates_S8x4096x8_S8x4096x8_S8x4096x48_S8x4096x64_d2
/-- A map's lanes, twice. -/
def twice (x : FVec Ideal S8x4096x64 .f32) : FVec Ideal S32768x128 .f32 :=
  shapeCast S32768x128 (concatenate S8x4096x128 2 [⟨S8x4096x64, x⟩, ⟨S8x4096x64, x⟩] concatenates_S8x4096x64_S8x4096x64_S8x4096x128_d2) shapeCasts_S8x4096x128_S32768x128

/-- The first 1536 columns of the joint weights. -/
def w31 (x : FVec Ideal S1x1024x3600 .f32) : FVec Ideal S1024x1536 .bf16 :=
  truncf .bf16 (extractStridedSlice S1024x1536 ![0, 0] (shapeCast S1024x3600 x shapeCasts_S1x1024x3600_S1024x3600) slices_S1024x3600_S1024x1536_0_0 : FVec Ideal S1024x1536 .f32) bitsLt_bf16_f32
/-- The sixteen gate columns of the joint weights. -/
def w32 (x : FVec Ideal S1x1024x3600 .f32) : FVec Ideal S1024x16 .f32 :=
  extractStridedSlice S1024x16 ![0, 1536] (shapeCast S1024x3600 x shapeCasts_S1x1024x3600_S1024x3600) slices_S1024x3600_S1024x16_0_1536
/-- The gate columns, padded with zeros to 128. -/
def w34 (x : FVec Ideal S1x1024x3600 .f32) : FVec Ideal S1024x128 .bf16 :=
  truncf .bf16 (pad S1024x128 ![0, 0] ![0, 112] ![0, 0] (w32 x) (sitofp .f32 (constantI S_ 32 0#32)) pads_S1024x16_S1024x128_000_01120 h_S_ : FVec Ideal S1024x128 .f32) bitsLt_bf16_f32
/-- The last 2048 columns of the joint weights. -/
def w36 (x : FVec Ideal S1x1024x3600 .f32) : FVec Ideal S1024x2048 .bf16 :=
  truncf .bf16 (extractStridedSlice S1024x2048 ![0, 1552] (shapeCast S1024x3600 x shapeCasts_S1x1024x3600_S1024x3600) slices_S1024x3600_S1024x2048_0_1552 : FVec Ideal S1024x2048 .f32) bitsLt_bf16_f32
/-- The second gate weights, padded with zeros to 128 rows. -/
def w39 (x : FVec Ideal S1x16x256 .f32) : FVec Ideal S128x256 .bf16 :=
  truncf .bf16 (pad S128x256 ![0, 0] ![112, 0] ![0, 0] (shapeCast S16x256 x shapeCasts_S1x16x256_S16x256 : FVec Ideal S16x256 .f32)
    (sitofp .f32 (constantI S_ 32 0#32)) pads_S16x256_S128x256_01120_000 h_S_ : FVec Ideal S128x256 .f32) bitsLt_bf16_f32
/-- The rows of the tokens, one below the other. -/
def w28 (x : FVec Ideal S8x4096x1024 .f32) : FVec Ideal S32768x1024 .f32 := shapeCast S32768x1024 x shapeCasts_S8x4096x1024_S32768x1024
/-- The weights of the norm. -/
def w43 (x : FVec Ideal S1x1024 .f32) : FVec Ideal S1x1024 .f32 := shapeCast S1x1024 (shapeCast S1024 x shapeCasts_S1x1024_S1024) shapeCasts_S1024_S1x1024
/-- The gate's bias. -/
def w41 (x : FVec Ideal S1x256 .f32) : FVec Ideal S1x256 .f32 := shapeCast S1x256 (shapeCast S256 x shapeCasts_S1x256_S256) shapeCasts_S256_S1x256

theorem h28 (c : Dev nD) : V m c main_v28 = w28 (m ((c : Thread nD τ).loc main_arg0)) := rfl
theorem h43 (c : Dev nD) : V m c main_v43 = w43 (m ((c : Thread nD τ).loc main_arg2)) := rfl
theorem h31 (c : Dev nD) : V m c main_v31 = w31 (m ((c : Thread nD τ).loc main_arg3)) := rfl
theorem h34 (c : Dev nD) : V m c main_v34 = w34 (m ((c : Thread nD τ).loc main_arg3)) := rfl
theorem h39 (c : Dev nD) : V m c main_v39 = w39 (m ((c : Thread nD τ).loc main_arg4)) := rfl
theorem h41 (c : Dev nD) : V m c main_v41 = w41 (m ((c : Thread nD τ).loc main_arg5)) := rfl
theorem h36 (c : Dev nD) : V m c main_v36 = w36 (m ((c : Thread nD τ).loc main_arg3)) := rfl

theorem w28_at (x : FVec Ideal S8x4096x1024 .f32) (r : Fin 32768) (k : Fin 1024) : w28 x (ix2 r k) = x (ix3 ⟨r / 4096, by omega⟩ ⟨r % 4096, by omega⟩ k) := by
  have h := r.isLt
  pointwise [w28]
  blk_ext
theorem w43_at (x : FVec Ideal S1x1024 .f32) (k : Fin 1024) : w43 x (ix2 0 k) = x (ix2 0 k) := by
  pointwise [w43]
  first | done | blk_ext
theorem w41_at (x : FVec Ideal S1x256 .f32) (k : Fin 256) : w41 x (ix2 0 k) = x (ix2 0 k) := by
  pointwise [w41]
  first | done | blk_ext
theorem w31_at (x : FVec Ideal S1x1024x3600 .f32) (k : Fin 1024) (j : Fin 1536) : w31 x (ix2 k j) = x (ix3 0 k ⟨j, by omega⟩) := by
  pointwise [w31]
  first | done | blk_ext
theorem w32_at (x : FVec Ideal S1x1024x3600 .f32) (k : Fin 1024) (j : Fin 16) : w32 x (ix2 k j) = x (ix3 0 k ⟨1536 + j, by omega⟩) := by
  pointwise [w32]
  first | done | blk_ext
theorem w36_at (x : FVec Ideal S1x1024x3600 .f32) (k : Fin 1024) (j : Fin 2048) : w36 x (ix2 k j) = x (ix3 0 k ⟨1552 + j, by omega⟩) := by
  pointwise [w36]
  first | done | blk_ext
theorem s0 : (sitofp .f32 (constantI S_ 32 0#32) : FVec Ideal S_ .f32) (Shape.Idx.first h_S_) = 0 := by
  show (((0#32 : BitVec 32).toInt : ℝ) : EReal) = 0
  simp
theorem w34_at (x : FVec Ideal S1x1024x3600 .f32) (k : Fin 1024) (j : Fin 128) : w34 x (ix2 k j)
    = if h : (j : ℕ) < 16 then x (ix3 0 k ⟨1536 + j, by omega⟩) else 0 := by
  by_cases h : (j : ℕ) < 16
  · rw [dif_pos h, ← w32_at x k ⟨j, h⟩]
    refine (pad_apply_of_inside (s := S1024x16) _ _ _ _ _ pads_S1024x16_S1024x128_000_01120 h_S_ (ix2 k j) (ix2 k ⟨j, h⟩) fun a => ?_)
    match a with
      | ⟨0, _⟩ => show (k : ℕ) = 0 + k * (0 + 1); omega
      | ⟨1, _⟩ => show (j : ℕ) = 0 + j * (0 + 1); omega
  · rw [dif_neg h]
    refine (pad_apply_of_not_inside (s := S1024x16) _ _ _ _ _ pads_S1024x16_S1024x128_000_01120 h_S_ (ix2 k j) 1 ?_).trans s0
    rintro ⟨_, _, w⟩
    have w' : ((j : ℕ) - 0) / (0 + 1) < 16 := w
    omega
theorem w39_at (x : FVec Ideal S1x16x256 .f32) (k : Fin 128) (j : Fin 256) : w39 x (ix2 k j)
    = if h : (k : ℕ) < 16 then x (ix3 0 ⟨k, h⟩ j) else 0 := by
  by_cases h : (k : ℕ) < 16
  · rw [dif_pos h]
    refine (pad_apply_of_inside (s := S16x256) _ _ _ _ _ pads_S16x256_S128x256_01120_000 h_S_ (ix2 k j) (ix2 ⟨k, h⟩ j) fun a => ?_).trans ?_
    · match a with
      | ⟨0, _⟩ => show (k : ℕ) = 0 + k * (0 + 1); omega
      | ⟨1, _⟩ => show (j : ℕ) = 0 + j * (0 + 1); omega
    · pointwise
      first | done | blk_ext
  · rw [dif_neg h]
    refine (pad_apply_of_not_inside (s := S16x256) _ _ _ _ _ pads_S16x256_S128x256_01120_000 h_S_ (ix2 k j) 0 ?_).trans s0
    rintro ⟨_, _, w⟩
    have w' : ((k : ℕ) - 0) / (0 + 1) < 16 := w
    omega

/-- The host's operations before the call. -/
abbrev ops : List (HloOp τ sig (Elt Ideal)) := List.flatten [hostOps0, hostOps0_1, hostOps0_2, hostOps0_3, hostOps0_4]

theorem after_split (n : ℕ) (l : List (HloOp τ sig (Elt Ideal))) (U : Valuation τ sig (Elt Ideal)) :
    StableHlo.after l U = StableHlo.after (l.drop n) (StableHlo.after (l.take n) U) := by
  induction n generalizing l U with
  | zero => rfl
  | succ n ih =>
    cases l with
    | nil => rfl
    | cons a l => exact ih l _

theorem g25 (U : Valuation τ sig (Elt Ideal)) : StableHlo.after (ops.drop 20) U main_v25 = twice (cosM (U main_v15)) := rfl
theorem g27 (U : Valuation τ sig (Elt Ideal)) : StableHlo.after (ops.drop 20) U main_v27 = twice (sinM (U main_v15)) := rfl
theorem h15 (c : Dev nD) : StableHlo.after (ops.take 20) (fun b => m (c, b)) main_v15 = Cert.InProjRefIdeal.Read.val_main_v15 (m ((c : Thread nD τ).loc main_arg1)) := rfl
theorem h25 (c : Dev nD) : V m c main_v25 = twice (cosM (Cert.InProjRefIdeal.Read.val_main_v15 (m ((c : Thread nD τ).loc main_arg1)))) := by
  have e : V m c main_v25 = StableHlo.after (ops.drop 20) (StableHlo.after (ops.take 20) (fun b => m (c, b))) main_v25 :=
    congrFun (after_split 20 ops (fun b => m (c, b))) _
  rw [e, g25, h15]
theorem h27 (c : Dev nD) : V m c main_v27 = twice (sinM (Cert.InProjRefIdeal.Read.val_main_v15 (m ((c : Thread nD τ).loc main_arg1)))) := by
  have e : V m c main_v27 = StableHlo.after (ops.drop 20) (StableHlo.after (ops.take 20) (fun b => m (c, b))) main_v27 :=
    congrFun (after_split 20 ops (fun b => m (c, b))) _
  rw [e, g27, h15]

theorem b0 (c : Dev nD) (t : Fin cfg0.N) (p : Fin 512) (k : Fin 1024) :
    (iblk m c 0 t : FVec Ideal S512x1024 .f32) (ix2 p k) = m ((c : Thread nD τ).loc main_arg0) (ix3 ⟨row t p / 4096, by omega⟩ ⟨row t p % 4096, by omega⟩ k) := by
  have q := lt64 t
  have e : (win0_0.blk t).view.emb (ix2 p k) = ix2 (row t p) k := by
    unfold row
    blk_ext [idx t]
  have e' : (iblk m c 0 t : FVec Ideal S512x1024 .f32) (ix2 p k) = V m c main_v28 ((win0_0.blk t).view.emb (ix2 p k)) := rfl
  rw [e', e, h28]
  exact w28_at _ _ _

theorem b1 (c : Dev nD) (t : Fin cfg0.N) (k : Fin 1024) :
    (iblk m c 1 t : FVec Ideal S1x1024 .f32) (ix2 0 k) = m ((c : Thread nD τ).loc main_arg2) (ix2 0 k) := by
  have q := lt64 t
  have e : (win0_1.blk t).view.emb (ix2 0 k) = ix2 0 k := by
    blk_ext [idx t]
  have e' : (iblk m c 1 t : FVec Ideal S1x1024 .f32) (ix2 0 k) = V m c main_v43 ((win0_1.blk t).view.emb (ix2 0 k)) := rfl
  rw [e', e, h43]
  exact w43_at _ _

theorem b2 (c : Dev nD) (t : Fin cfg0.N) (k : Fin 1024) (j : Fin 1536) :
    (iblk m c 2 t : FVec Ideal S1024x1536 .bf16) (ix2 k j) = m ((c : Thread nD τ).loc main_arg3) (ix3 0 k ⟨j, by omega⟩) := by
  have q := lt64 t
  have e : (win0_2.blk t).view.emb (ix2 k j) = ix2 k j := by
    blk_ext [idx t]
  have e' : (iblk m c 2 t : FVec Ideal S1024x1536 .bf16) (ix2 k j) = V m c main_v31 ((win0_2.blk t).view.emb (ix2 k j)) := rfl
  rw [e', e, h31]
  exact w31_at _ _ _

theorem b3 (c : Dev nD) (t : Fin cfg0.N) (k : Fin 1024) (j : Fin 128) :
    (iblk m c 3 t : FVec Ideal S1024x128 .bf16) (ix2 k j) = if h : (j : ℕ) < 16 then m ((c : Thread nD τ).loc main_arg3) (ix3 0 k ⟨1536 + j, by omega⟩) else (0 : EReal) := by
  have q := lt64 t
  have e : (win0_3.blk t).view.emb (ix2 k j) = ix2 k j := by
    blk_ext [idx t]
  have e' : (iblk m c 3 t : FVec Ideal S1024x128 .bf16) (ix2 k j) = V m c main_v34 ((win0_3.blk t).view.emb (ix2 k j)) := rfl
  rw [e', e, h34]
  exact w34_at _ _ _

theorem b4 (c : Dev nD) (t : Fin cfg0.N) (k : Fin 128) (j : Fin 256) :
    (iblk m c 4 t : FVec Ideal S128x256 .bf16) (ix2 k j) = if h : (k : ℕ) < 16 then m ((c : Thread nD τ).loc main_arg4) (ix3 0 ⟨k, h⟩ j) else (0 : EReal) := by
  have q := lt64 t
  have e : (win0_4.blk t).view.emb (ix2 k j) = ix2 k j := by
    blk_ext [idx t]
  have e' : (iblk m c 4 t : FVec Ideal S128x256 .bf16) (ix2 k j) = V m c main_v39 ((win0_4.blk t).view.emb (ix2 k j)) := rfl
  rw [e', e, h39]
  exact w39_at _ _ _

theorem b5 (c : Dev nD) (t : Fin cfg0.N) (k : Fin 256) :
    (iblk m c 5 t : FVec Ideal S1x256 .f32) (ix2 0 k) = m ((c : Thread nD τ).loc main_arg5) (ix2 0 k) := by
  have q := lt64 t
  have e : (win0_5.blk t).view.emb (ix2 0 k) = ix2 0 k := by
    blk_ext [idx t]
  have e' : (iblk m c 5 t : FVec Ideal S1x256 .f32) (ix2 0 k) = V m c main_v41 ((win0_5.blk t).view.emb (ix2 0 k)) := rfl
  rw [e', e, h41]
  exact w41_at _ _

theorem b6 (c : Dev nD) (t : Fin cfg0.N) (k : Fin 1024) (j : Fin 2048) :
    (iblk m c 6 t : FVec Ideal S1024x2048 .bf16) (ix2 k j) = m ((c : Thread nD τ).loc main_arg3) (ix3 0 k ⟨1552 + j, by omega⟩) := by
  have q := lt64 t
  have e : (win0_6.blk t).view.emb (ix2 k j) = ix2 k j := by
    blk_ext [idx t]
  have e' : (iblk m c 6 t : FVec Ideal S1024x2048 .bf16) (ix2 k j) = V m c main_v36 ((win0_6.blk t).view.emb (ix2 k j)) := rfl
  rw [e', e, h36]
  exact w36_at _ _ _

theorem b7 (c : Dev nD) (t : Fin cfg0.N) (p : Fin 512) (j : Fin 128) :
    (iblk m c 7 t : FVec Ideal S512x128 .f32) (ix2 p j) = twice (cosM (Cert.InProjRefIdeal.Read.val_main_v15 (m ((c : Thread nD τ).loc main_arg1)))) (ix2 (row t p) j) := by
  have q := lt64 t
  have e : (win0_7.blk t).view.emb (ix2 p j) = ix2 (row t p) j := by
    unfold row
    blk_ext [idx t]
  have e' : (iblk m c 7 t : FVec Ideal S512x128 .f32) (ix2 p j) = V m c main_v25 ((win0_7.blk t).view.emb (ix2 p j)) := rfl
  rw [e', e, h25]

theorem b8 (c : Dev nD) (t : Fin cfg0.N) (p : Fin 512) (j : Fin 128) :
    (iblk m c 8 t : FVec Ideal S512x128 .f32) (ix2 p j) = twice (sinM (Cert.InProjRefIdeal.Read.val_main_v15 (m ((c : Thread nD τ).loc main_arg1)))) (ix2 (row t p) j) := by
  have q := lt64 t
  have e : (win0_8.blk t).view.emb (ix2 p j) = ix2 (row t p) j := by
    unfold row
    blk_ext [idx t]
  have e' : (iblk m c 8 t : FVec Ideal S512x128 .f32) (ix2 p j) = V m c main_v27 ((win0_8.blk t).view.emb (ix2 p j)) := rfl
  rw [e', e, h27]

theorem twice_at (x : FVec Ideal S8x4096x64 .f32) (r : Fin 32768) (j : Fin 128) :
    twice x (ix2 r j) = x (ix3 ⟨r / 4096, by omega⟩ ⟨r % 4096, by omega⟩ ⟨j % 64, by omega⟩) := by
  have h := r.isLt
  pointwise [twice]
  split
  · blk_ext
  · blk_ext

theorem lanes (u v : FVec Ideal S8x4096x8 .f32) (w : FVec Ideal S8x4096x48 .f32) (b : Fin 8) (s : Fin 4096) (j : Fin 64) :
    concatenate S8x4096x64 2 [⟨S8x4096x8, u⟩, ⟨S8x4096x8, v⟩, ⟨S8x4096x48, w⟩] concatenates_S8x4096x8_S8x4096x8_S8x4096x48_S8x4096x64_d2 (ix3 b s j)
    = if (j : ℕ) < 8 then u (ix3 b s ⟨j % 8, by omega⟩) else if (j : ℕ) < 16 then v (ix3 b s ⟨j % 8, by omega⟩) else w (ix3 b s ⟨(j - 16) % 48, by omega⟩) := by
  pointwise
  split
  · refine congrArg u ?_
    blk_ext
  · next h =>
    split
    · next h' =>
      refine Eq.trans ?_ (if_pos (by omega)).symm
      refine congrArg v ?_
      blk_ext
    · next h' =>
      refine Eq.trans ?_ (if_neg (by omega)).symm
      refine congrArg w ?_
      blk_ext

theorem ones_at (i : S8x4096x48.Idx) : ones i = 1 := oneF

theorem zeros_at (i : S8x4096x48.Idx) : zeros i = 0 := by
  show Ideal.ofBits .f32 0x00000000#32 * Ideal.ofBits .f32 0x3F800000#32 = 0
  rw [zeroF, zero_mul]

theorem cos_at (x : FVec Ideal S8x4096x8 .f32) (r : Fin 32768) (l : Fin 128) :
    twice (cosM x) (ix2 r l) = cosL (fun i => x (ix3 ⟨r / 4096, by omega⟩ ⟨r % 4096, by omega⟩ i)) l := by
  rw [twice_at, cosM, lanes, ones_at]
  unfold cosL
  by_cases h : (l : ℕ) % 64 < 8
  · rw [if_pos h, if_pos (by omega)]
    rfl
  · rw [if_neg h]
    rfl

theorem sin_at (x : FVec Ideal S8x4096x8 .f32) (r : Fin 32768) (l : Fin 128) :
    twice (sinM x) (ix2 r l) = sinL (fun i => x (ix3 ⟨r / 4096, by omega⟩ ⟨r % 4096, by omega⟩ i)) l := by
  rw [twice_at, sinM, lanes, zeros_at]
  rfl

end Cert.InProjIdeal.Mine
end
-- ==== Proof.InProjRef.lean ====
/- The input projection's reference, read at an index. -/
module

public import proofs.«01_k».proof.Proof.Gen.InProjRefIdeal.Read
public import proofs.«01_k».proof.Proof.InProjPay
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.InProjRefIdeal.Mine
open Cert.InProjRefIdeal Cert.InProjRefIdeal.Gen Cert.InProjRefIdeal.Read Cert.Sums Cert.InProjRow

variable (x0 : (⟨S8x4096x1024, .f32⟩ : BufTy).Contents (Elt Ideal)) (x1 : (⟨S8x4096, .i32⟩ : BufTy).Contents (Elt Ideal))
  (x2 : (⟨S1x1024, .f32⟩ : BufTy).Contents (Elt Ideal)) (x3 : (⟨S1x1024x3600, .f32⟩ : BufTy).Contents (Elt Ideal))
  (x4 : (⟨S1x16x256, .f32⟩ : BufTy).Contents (Elt Ideal)) (x5 : (⟨S1x256, .f32⟩ : BufTy).Contents (Elt Ideal))

theorem zeroF : Ideal.ofBits .f32 0x00000000#32 = 0 := by
  simp [Ideal.ofBits, Ideal.ieee]

theorem r35 (b : Fin 8) (s : Fin 4096) (k : Fin 1024) : val_main_v35 (F := Ideal) x0 x2 (ix3 b s k) = hrow (fun k => x0 (ix3 b s k)) (fun k => x2 (ix2 0 k)) k := by
  unfold hrow
  pointwise [val_main_v35, val_main_v34, val_main_v33, val_main_v32, val_main_v31, val_main_v30, val_main_v29, val_main_v28, val_main_v27, val_main_v26, val_main_v25, val_main_v24, val_main_v23, val_main_v22, val_main_cst_3, val_main_cst_4, val_main_cst_5]

theorem r37 (b : Fin 8) (s : Fin 4096) (j : Fin 3600) : val_main_v37 (F := Ideal) x0 x2 x3 (ix3 b s j)
    = prj (fun k => x0 (ix3 b s k)) (fun k => x2 (ix2 0 k)) (fun k => x3 (ix3 0 k j)) := by
  unfold prj
  pointwise [val_main_v37, val_main_v36]
  simp only [r35]

/-- The joint projection at a row of 32768. -/
theorem r37r (r : Fin 32768) (j : Fin 3600) : val_main_v37 (F := Ideal) x0 x2 x3 (ix3 ⟨r / 4096, by omega⟩ ⟨r % 4096, by omega⟩ j) = pr x0 x2 x3 r j :=
  r37 x0 x2 x3 _ _ j

theorem r38 (b : Fin 8) (s : Fin 4096) (j : Fin 256) : val_main_v38 (F := Ideal) x0 x2 x3 (ix3 b s j) = val_main_v37 (F := Ideal) x0 x2 x3 (ix3 b s ⟨0 + j, by omega⟩) := by
  rw [val_main_v38_apply]
  blk_ext

theorem r39 (b : Fin 8) (s : Fin 4096) (j : Fin 256) : val_main_v39 (F := Ideal) x0 x2 x3 (ix3 b s j) = val_main_v37 (F := Ideal) x0 x2 x3 (ix3 b s ⟨256 + j, by omega⟩) := by
  rw [val_main_v39_apply]
  blk_ext

theorem r40 (b : Fin 8) (s : Fin 4096) (j : Fin 512) : val_main_v40 (F := Ideal) x0 x2 x3 (ix3 b s j) = val_main_v37 (F := Ideal) x0 x2 x3 (ix3 b s ⟨512 + j, by omega⟩) := by
  rw [val_main_v40_apply]
  blk_ext

theorem r41 (b : Fin 8) (s : Fin 4096) (j : Fin 512) : val_main_v41 (F := Ideal) x0 x2 x3 (ix3 b s j) = val_main_v37 (F := Ideal) x0 x2 x3 (ix3 b s ⟨1024 + j, by omega⟩) := by
  rw [val_main_v41_apply]
  blk_ext

theorem r42 (b : Fin 8) (s : Fin 4096) (j : Fin 16) : val_main_v42 (F := Ideal) x0 x2 x3 (ix3 b s j) = val_main_v37 (F := Ideal) x0 x2 x3 (ix3 b s ⟨1536 + j, by omega⟩) := by
  rw [val_main_v42_apply]
  blk_ext

theorem r43 (b : Fin 8) (s : Fin 4096) (j : Fin 512) : val_main_v43 (F := Ideal) x0 x2 x3 (ix3 b s j) = val_main_v37 (F := Ideal) x0 x2 x3 (ix3 b s ⟨1552 + j, by omega⟩) := by
  rw [val_main_v43_apply]
  blk_ext

theorem r44 (b : Fin 8) (s : Fin 4096) (j : Fin 512) : val_main_v44 (F := Ideal) x0 x2 x3 (ix3 b s j) = val_main_v37 (F := Ideal) x0 x2 x3 (ix3 b s ⟨2064 + j, by omega⟩) := by
  rw [val_main_v44_apply]
  blk_ext

theorem r45 (b : Fin 8) (s : Fin 4096) (j : Fin 512) : val_main_v45 (F := Ideal) x0 x2 x3 (ix3 b s j) = val_main_v37 (F := Ideal) x0 x2 x3 (ix3 b s ⟨2576 + j, by omega⟩) := by
  rw [val_main_v45_apply]
  blk_ext

theorem r46 (b : Fin 8) (s : Fin 4096) (j : Fin 512) : val_main_v46 (F := Ideal) x0 x2 x3 (ix3 b s j) = val_main_v37 (F := Ideal) x0 x2 x3 (ix3 b s ⟨3088 + j, by omega⟩) := by
  rw [val_main_v46_apply]
  blk_ext

theorem r90 (r : Fin 32768) (j : Fin 256) : val_main_v90 (F := Ideal) x0 x2 x3 (ix2 r j) = pr x0 x2 x3 r ⟨0 + j, by omega⟩ * Ideal.ofBits .f32 0x3E000000#32 := by
  have h := r.isLt
  have e : val_main_v90 (F := Ideal) x0 x2 x3 (ix2 r j) = val_main_v38 (F := Ideal) x0 x2 x3 (ix3 ⟨r / 4096, by omega⟩ ⟨r % 4096, by omega⟩ j) * Ideal.ofBits .f32 0x3E000000#32 := by
    pointwise [val_main_v90, val_main_v89, val_main_v88, val_main_cst_8]
    blk_ext
  rw [e, r38, r37r]

theorem r91 (r : Fin 32768) (j : Fin 256) : val_main_v91 (F := Ideal) x0 x2 x3 (ix2 r j) = pr x0 x2 x3 r ⟨256 + j, by omega⟩ := by
  have h := r.isLt
  have e : val_main_v91 (F := Ideal) x0 x2 x3 (ix2 r j) = val_main_v39 (F := Ideal) x0 x2 x3 (ix3 ⟨r / 4096, by omega⟩ ⟨r % 4096, by omega⟩ j) := by
    pointwise [val_main_v91]
    blk_ext
  rw [e, r39, r37r]

theorem r93 (r : Fin 32768) (j : Fin 512) : val_main_v93 (F := Ideal) x0 x2 x3 (ix2 r j) = pr x0 x2 x3 r ⟨512 + j, by omega⟩ := by
  have h := r.isLt
  have e : val_main_v93 (F := Ideal) x0 x2 x3 (ix2 r j) = val_main_v40 (F := Ideal) x0 x2 x3 (ix3 ⟨r / 4096, by omega⟩ ⟨r % 4096, by omega⟩ j) := by
    pointwise [val_main_v93, val_main_v92]
    blk_ext
  rw [e, r40, r37r]

theorem r103 (r : Fin 32768) (j : Fin 512) : val_main_v103 (F := Ideal) x0 x2 x3 (ix2 r j) = pr x0 x2 x3 r ⟨2576 + j, by omega⟩ := by
  have h := r.isLt
  have e : val_main_v103 (F := Ideal) x0 x2 x3 (ix2 r j) = val_main_v45 (F := Ideal) x0 x2 x3 (ix3 ⟨r / 4096, by omega⟩ ⟨r % 4096, by omega⟩ j) := by
    pointwise [val_main_v103, val_main_v102]
    blk_ext
  rw [e, r45, r37r]

theorem r96 (r : Fin 32768) (j : Fin 512) : val_main_v96 (F := Ideal) x0 x2 x3 (ix2 r j) = silu (pr x0 x2 x3 r ⟨1024 + j, by omega⟩) := by
  have h := r.isLt
  have e : val_main_v96 (F := Ideal) x0 x2 x3 (ix2 r j) = val_main_v94 (F := Ideal) x0 x2 x3 (ix3 ⟨r / 4096, by omega⟩ ⟨r % 4096, by omega⟩ j) := by
    pointwise [val_main_v96, val_main_v95]
    blk_ext
  have f (i : S8x4096x512.Idx) : val_main_v94 (F := Ideal) x0 x2 x3 i = silu (val_main_v41 (F := Ideal) x0 x2 x3 i) := rfl
  rw [e, f, r41, r37r]

theorem r106 (r : Fin 32768) (j : Fin 512) : val_main_v106 (F := Ideal) x0 x2 x3 (ix2 r j) = silu (pr x0 x2 x3 r ⟨3088 + j, by omega⟩) := by
  have h := r.isLt
  have e : val_main_v106 (F := Ideal) x0 x2 x3 (ix2 r j) = val_main_v104 (F := Ideal) x0 x2 x3 (ix3 ⟨r / 4096, by omega⟩ ⟨r % 4096, by omega⟩ j) := by
    pointwise [val_main_v106, val_main_v105]
    blk_ext
  have f (i : S8x4096x512.Idx) : val_main_v104 (F := Ideal) x0 x2 x3 i = silu (val_main_v46 (F := Ideal) x0 x2 x3 i) := rfl
  rw [e, f, r46, r37r]

theorem v3ne (a : EReal) : Ideal.cmp .une a a = 0#1 := by
  simp [Ideal.cmp]

theorem r52 (b : Fin 8) (s : Fin 4096) (j : Fin 256) : val_main_v52 (F := Ideal) x0 x2 x3 x4 x5 (ix3 b s j)
    = (∑ i : Fin 16, val_main_v37 (F := Ideal) x0 x2 x3 (ix3 b s ⟨1536 + i, by omega⟩) * x4 (ix3 0 i j)) + x5 (ix2 0 j) := by
  pointwise [val_main_v52, val_main_v51, val_main_v50, val_main_v49, val_main_v48, val_main_v47]
  simp only [r42]

theorem r97 (r : Fin 32768) (j : Fin 256) : val_main_v97 (F := Ideal) x0 x2 x3 x4 x5 (ix2 r j)
    = lsig ((∑ i : Fin 16, pr x0 x2 x3 r ⟨1536 + i, by omega⟩ * x4 (ix3 0 i j)) + x5 (ix2 0 j)) := by
  have h := r.isLt
  have e : val_main_v97 (F := Ideal) x0 x2 x3 x4 x5 (ix2 r j) = val_main_v55 (F := Ideal) x0 x2 x3 x4 x5 (ix3 ⟨r / 4096, by omega⟩ ⟨r % 4096, by omega⟩ j) := by
    pointwise [val_main_v97]
    blk_ext
  have f (i : S8x4096x256.Idx) : val_main_v55 (F := Ideal) x0 x2 x3 x4 x5 i = Ideal.div (-(Scalar.select (Ideal.cmp .une (-val_main_v52 (F := Ideal) x0 x2 x3 x4 x5 i - Ideal.ofBits .f32 0x00000000#32) (-val_main_v52 (F := Ideal) x0 x2 x3 x4 x5 i - Ideal.ofBits .f32 0x00000000#32)) (-val_main_v52 (F := Ideal) x0 x2 x3 x4 x5 i + Ideal.ofBits .f32 0x00000000#32)
     (max (-val_main_v52 (F := Ideal) x0 x2 x3 x4 x5 i) (Ideal.ofBits .f32 0x00000000#32) + Ideal.log1p (Ideal.exp (-(max (-val_main_v52 (F := Ideal) x0 x2 x3 x4 x5 i - Ideal.ofBits .f32 0x00000000#32) (-(-val_main_v52 (F := Ideal) x0 x2 x3 x4 x5 i - Ideal.ofBits .f32 0x00000000#32)))))))) (Ideal.ofBits .f32 0x41800000#32) := rfl
  rw [e, f, zeroF, v3ne]
  refine Eq.trans (lsig_eq _) ?_
  rw [r52]
  simp only [r37r]

theorem r18 (b : Fin 8) (s : Fin 4096) (y : Fin 16) : val_main_v18 (F := Ideal) x1 (ix3 b s y) = Ideal.cos (val_main_v15 (F := Ideal) x1 (ix3 b s ⟨y % 8, by omega⟩)) := by
  have e : val_main_v18 (F := Ideal) x1 (ix3 b s y) = if h : (y : ℕ) < 8 then val_main_v16 (F := Ideal) x1 (ix3 b s ⟨y, h⟩) else val_main_v17 (F := Ideal) x1 (ix3 b s ⟨y - 8, by omega⟩) := by
    pointwise [val_main_v18]
  rw [e]
  split
  · refine congrArg Ideal.cos (congrArg (val_main_v15 (F := Ideal) x1) ?_)
    blk_ext
  · refine congrArg Ideal.cos (congrArg (val_main_v15 (F := Ideal) x1) ?_)
    blk_ext

theorem r21 (b : Fin 8) (s : Fin 4096) (y : Fin 16) : val_main_v21 (F := Ideal) x1 (ix3 b s y) = Ideal.sin (val_main_v15 (F := Ideal) x1 (ix3 b s ⟨y % 8, by omega⟩)) := by
  have e : val_main_v21 (F := Ideal) x1 (ix3 b s y) = if h : (y : ℕ) < 8 then val_main_v19 (F := Ideal) x1 (ix3 b s ⟨y, h⟩) else val_main_v20 (F := Ideal) x1 (ix3 b s ⟨y - 8, by omega⟩) := by
    pointwise [val_main_v21]
  rw [e]
  split
  · refine congrArg Ideal.sin (congrArg (val_main_v15 (F := Ideal) x1) ?_)
    blk_ext
  · refine congrArg Ideal.sin (congrArg (val_main_v15 (F := Ideal) x1) ?_)
    blk_ext

theorem r56 (b : Fin 8) (s : Fin 4096) (h : Fin 4) (d : Fin 2) (y : Fin 64) : val_main_v56 (F := Ideal) x0 x2 x3 (ix5 b s h d y)
    = val_main_v43 (F := Ideal) x0 x2 x3 (ix3 b s ⟨h * 128 + d * 64 + y, by omega⟩) := by
  rw [val_main_v56_apply]
  blk_ext

theorem r57 (b : Fin 8) (s : Fin 4096) (h : Fin 4) (d : Fin 2) (y : Fin 16) : val_main_v57 (F := Ideal) x0 x2 x3 (ix5 b s h d y) = val_main_v56 (F := Ideal) x0 x2 x3 (ix5 b s h d ⟨y, by omega⟩) := by
  rw [val_main_v57_apply]
  blk_ext

theorem r58 (b : Fin 8) (s : Fin 4096) (h : Fin 4) (d : Fin 2) (y : Fin 48) : val_main_v58 (F := Ideal) x0 x2 x3 (ix5 b s h d y) = val_main_v56 (F := Ideal) x0 x2 x3 (ix5 b s h d ⟨16 + y, by omega⟩) := by
  rw [val_main_v58_apply]
  blk_ext

theorem r59 (b : Fin 8) (s : Fin 4096) (h : Fin 4) (d : Fin 2) (y : Fin 8) : val_main_v59 (F := Ideal) x0 x2 x3 (ix5 b s h d y) = val_main_v56 (F := Ideal) x0 x2 x3 (ix5 b s h d ⟨y, by omega⟩) := by
  rw [val_main_v59_apply, val_main_v57_apply]
  blk_ext

theorem r65 (b : Fin 8) (s : Fin 4096) (h : Fin 4) (d : Fin 2) (y : Fin 8) : val_main_v65 (F := Ideal) x0 x2 x3 (ix5 b s h d y) = -val_main_v56 (F := Ideal) x0 x2 x3 (ix5 b s h d ⟨8 + y, by omega⟩) := by
  have e : val_main_v65 (F := Ideal) x0 x2 x3 (ix5 b s h d y) = -val_main_v60 (F := Ideal) x0 x2 x3 (ix5 b s h d y) := rfl
  have e' : val_main_v60 (F := Ideal) x0 x2 x3 (ix5 b s h d y) = val_main_v56 (F := Ideal) x0 x2 x3 (ix5 b s h d ⟨8 + y, by omega⟩) := by
    rw [val_main_v60_apply, val_main_v57_apply]
    blk_ext
  rw [e, e']

theorem r63 (b : Fin 8) (s : Fin 4096) (h : Fin 4) (d : Fin 2) (y : Fin 16) : val_main_v63 (F := Ideal) x1 (ix5 b s h d y) = Ideal.cos (val_main_v15 (F := Ideal) x1 (ix3 b s ⟨y % 8, by omega⟩)) := by
  rw [← r18, val_main_v63_apply, val_main_v61_apply]
  blk_ext

theorem r67 (b : Fin 8) (s : Fin 4096) (h : Fin 4) (d : Fin 2) (y : Fin 16) : val_main_v67 (F := Ideal) x1 (ix5 b s h d y) = Ideal.sin (val_main_v15 (F := Ideal) x1 (ix3 b s ⟨y % 8, by omega⟩)) := by
  rw [← r21, val_main_v67_apply, val_main_v62_apply]
  blk_ext

theorem r66 (b : Fin 8) (s : Fin 4096) (h : Fin 4) (d : Fin 2) (y : Fin 16) : val_main_v66 (F := Ideal) x0 x2 x3 (ix5 b s h d y)
    = if (y : ℕ) < 8 then -val_main_v56 (F := Ideal) x0 x2 x3 (ix5 b s h d ⟨(8 + y) % 64, by omega⟩) else val_main_v56 (F := Ideal) x0 x2 x3 (ix5 b s h d ⟨y - 8, by omega⟩) := by
  have e : val_main_v66 (F := Ideal) x0 x2 x3 (ix5 b s h d y) = if q : (y : ℕ) < 8 then val_main_v65 (F := Ideal) x0 x2 x3 (ix5 b s h d ⟨y, q⟩) else val_main_v59 (F := Ideal) x0 x2 x3 (ix5 b s h d ⟨y - 8, by omega⟩) := by
    pointwise [val_main_v66]
  rw [e]
  split
  · next q =>
    rw [r65]
    refine congrArg (fun z => -z) (congrArg (val_main_v56 (F := Ideal) x0 x2 x3) ?_)
    blk_ext
  · next q => rw [r59]

theorem r69 (b : Fin 8) (s : Fin 4096) (h : Fin 4) (d : Fin 2) (y : Fin 16) : val_main_v69 (F := Ideal) x0 x1 x2 x3 (ix5 b s h d y)
    = val_main_v56 (F := Ideal) x0 x2 x3 (ix5 b s h d ⟨y, by omega⟩) * Ideal.cos (val_main_v15 (F := Ideal) x1 (ix3 b s ⟨y % 8, by omega⟩))
      + (if (y : ℕ) < 8 then -val_main_v56 (F := Ideal) x0 x2 x3 (ix5 b s h d ⟨(8 + y) % 64, by omega⟩) else val_main_v56 (F := Ideal) x0 x2 x3 (ix5 b s h d ⟨y - 8, by omega⟩))
        * Ideal.sin (val_main_v15 (F := Ideal) x1 (ix3 b s ⟨y % 8, by omega⟩)) := by
  have e : val_main_v69 (F := Ideal) x0 x1 x2 x3 (ix5 b s h d y) = val_main_v57 (F := Ideal) x0 x2 x3 (ix5 b s h d y) * val_main_v63 (F := Ideal) x1 (ix5 b s h d y)
    + val_main_v66 (F := Ideal) x0 x2 x3 (ix5 b s h d y) * val_main_v67 (F := Ideal) x1 (ix5 b s h d y) := rfl
  rw [e, r57, r63, r66, r67]

theorem r70 (b : Fin 8) (s : Fin 4096) (h : Fin 4) (l : Fin 128) : val_main_v70 (F := Ideal) x0 x1 x2 x3 (ix5 b s h ⟨l / 64, by omega⟩ ⟨l % 64, by omega⟩)
    = rope (fun l => val_main_v43 (F := Ideal) x0 x2 x3 (ix3 b s ⟨h * 128 + l, by omega⟩))
      (cosL fun i => val_main_v15 (F := Ideal) x1 (ix3 b s i)) (sinL fun i => val_main_v15 (F := Ideal) x1 (ix3 b s i)) l := by
  have e : val_main_v70 (F := Ideal) x0 x1 x2 x3 (ix5 b s h ⟨l / 64, by omega⟩ ⟨l % 64, by omega⟩) = if q : (l : ℕ) % 64 < 16 then val_main_v69 (F := Ideal) x0 x1 x2 x3 (ix5 b s h ⟨l / 64, by omega⟩ ⟨l % 64, q⟩)
      else val_main_v58 (F := Ideal) x0 x2 x3 (ix5 b s h ⟨l / 64, by omega⟩ ⟨l % 64 - 16, by omega⟩) := by
    pointwise [val_main_v70]
  rw [e, ← rope_of (fun y => val_main_v56 (F := Ideal) x0 x2 x3 (ix5 b s h ⟨l / 64, by omega⟩ y)) _ _ l]
  · split
    · exact r69 x0 x1 x2 x3 _ _ _ _ _
    · rw [r58]
      blk_ext
  · intro y l' hl
    have e' : (⟨h * 128 + (⟨l / 64, by omega⟩ : Fin 2) * 64 + y, by show h.val * 128 + l.val / 64 * 64 + y.val < 512; omega⟩ : Fin 512) = ⟨h * 128 + l', by omega⟩ := Fin.ext (by
      show h.val * 128 + l.val / 64 * 64 + y.val = h.val * 128 + l'.val
      omega)
    exact (r56 x0 x2 x3 b s h _ y).trans (congrArg (fun z => val_main_v43 (F := Ideal) x0 x2 x3 (ix3 b s z)) e')

theorem r73 (b : Fin 8) (s : Fin 4096) (h : Fin 4) (d : Fin 2) (y : Fin 64) : val_main_v73 (F := Ideal) x0 x2 x3 (ix5 b s h d y)
    = val_main_v44 (F := Ideal) x0 x2 x3 (ix3 b s ⟨h * 128 + d * 64 + y, by omega⟩) := by
  rw [val_main_v73_apply]
  blk_ext

theorem r74 (b : Fin 8) (s : Fin 4096) (h : Fin 4) (d : Fin 2) (y : Fin 16) : val_main_v74 (F := Ideal) x0 x2 x3 (ix5 b s h d y) = val_main_v73 (F := Ideal) x0 x2 x3 (ix5 b s h d ⟨y, by omega⟩) := by
  rw [val_main_v74_apply]
  blk_ext

theorem r75 (b : Fin 8) (s : Fin 4096) (h : Fin 4) (d : Fin 2) (y : Fin 48) : val_main_v75 (F := Ideal) x0 x2 x3 (ix5 b s h d y) = val_main_v73 (F := Ideal) x0 x2 x3 (ix5 b s h d ⟨16 + y, by omega⟩) := by
  rw [val_main_v75_apply]
  blk_ext

theorem r76 (b : Fin 8) (s : Fin 4096) (h : Fin 4) (d : Fin 2) (y : Fin 8) : val_main_v76 (F := Ideal) x0 x2 x3 (ix5 b s h d y) = val_main_v73 (F := Ideal) x0 x2 x3 (ix5 b s h d ⟨y, by omega⟩) := by
  rw [val_main_v76_apply, val_main_v74_apply]
  blk_ext

theorem r82 (b : Fin 8) (s : Fin 4096) (h : Fin 4) (d : Fin 2) (y : Fin 8) : val_main_v82 (F := Ideal) x0 x2 x3 (ix5 b s h d y) = -val_main_v73 (F := Ideal) x0 x2 x3 (ix5 b s h d ⟨8 + y, by omega⟩) := by
  have e : val_main_v82 (F := Ideal) x0 x2 x3 (ix5 b s h d y) = -val_main_v77 (F := Ideal) x0 x2 x3 (ix5 b s h d y) := rfl
  have e' : val_main_v77 (F := Ideal) x0 x2 x3 (ix5 b s h d y) = val_main_v73 (F := Ideal) x0 x2 x3 (ix5 b s h d ⟨8 + y, by omega⟩) := by
    rw [val_main_v77_apply, val_main_v74_apply]
    blk_ext
  rw [e, e']

theorem r80 (b : Fin 8) (s : Fin 4096) (h : Fin 4) (d : Fin 2) (y : Fin 16) : val_main_v80 (F := Ideal) x1 (ix5 b s h d y) = Ideal.cos (val_main_v15 (F := Ideal) x1 (ix3 b s ⟨y % 8, by omega⟩)) := by
  rw [← r18, val_main_v80_apply, val_main_v78_apply]
  blk_ext

theorem r84 (b : Fin 8) (s : Fin 4096) (h : Fin 4) (d : Fin 2) (y : Fin 16) : val_main_v84 (F := Ideal) x1 (ix5 b s h d y) = Ideal.sin (val_main_v15 (F := Ideal) x1 (ix3 b s ⟨y % 8, by omega⟩)) := by
  rw [← r21, val_main_v84_apply, val_main_v79_apply]
  blk_ext

theorem r83 (b : Fin 8) (s : Fin 4096) (h : Fin 4) (d : Fin 2) (y : Fin 16) : val_main_v83 (F := Ideal) x0 x2 x3 (ix5 b s h d y)
    = if (y : ℕ) < 8 then -val_main_v73 (F := Ideal) x0 x2 x3 (ix5 b s h d ⟨(8 + y) % 64, by omega⟩) else val_main_v73 (F := Ideal) x0 x2 x3 (ix5 b s h d ⟨y - 8, by omega⟩) := by
  have e : val_main_v83 (F := Ideal) x0 x2 x3 (ix5 b s h d y) = if q : (y : ℕ) < 8 then val_main_v82 (F := Ideal) x0 x2 x3 (ix5 b s h d ⟨y, q⟩) else val_main_v76 (F := Ideal) x0 x2 x3 (ix5 b s h d ⟨y - 8, by omega⟩) := by
    pointwise [val_main_v83]
  rw [e]
  split
  · next q =>
    rw [r82]
    refine congrArg (fun z => -z) (congrArg (val_main_v73 (F := Ideal) x0 x2 x3) ?_)
    blk_ext
  · next q => rw [r76]

theorem r86 (b : Fin 8) (s : Fin 4096) (h : Fin 4) (d : Fin 2) (y : Fin 16) : val_main_v86 (F := Ideal) x0 x1 x2 x3 (ix5 b s h d y)
    = val_main_v73 (F := Ideal) x0 x2 x3 (ix5 b s h d ⟨y, by omega⟩) * Ideal.cos (val_main_v15 (F := Ideal) x1 (ix3 b s ⟨y % 8, by omega⟩))
      + (if (y : ℕ) < 8 then -val_main_v73 (F := Ideal) x0 x2 x3 (ix5 b s h d ⟨(8 + y) % 64, by omega⟩) else val_main_v73 (F := Ideal) x0 x2 x3 (ix5 b s h d ⟨y - 8, by omega⟩))
        * Ideal.sin (val_main_v15 (F := Ideal) x1 (ix3 b s ⟨y % 8, by omega⟩)) := by
  have e : val_main_v86 (F := Ideal) x0 x1 x2 x3 (ix5 b s h d y) = val_main_v74 (F := Ideal) x0 x2 x3 (ix5 b s h d y) * val_main_v80 (F := Ideal) x1 (ix5 b s h d y)
    + val_main_v83 (F := Ideal) x0 x2 x3 (ix5 b s h d y) * val_main_v84 (F := Ideal) x1 (ix5 b s h d y) := rfl
  rw [e, r74, r80, r83, r84]

theorem r87 (b : Fin 8) (s : Fin 4096) (h : Fin 4) (l : Fin 128) : val_main_v87 (F := Ideal) x0 x1 x2 x3 (ix5 b s h ⟨l / 64, by omega⟩ ⟨l % 64, by omega⟩)
    = rope (fun l => val_main_v44 (F := Ideal) x0 x2 x3 (ix3 b s ⟨h * 128 + l, by omega⟩))
      (cosL fun i => val_main_v15 (F := Ideal) x1 (ix3 b s i)) (sinL fun i => val_main_v15 (F := Ideal) x1 (ix3 b s i)) l := by
  have e : val_main_v87 (F := Ideal) x0 x1 x2 x3 (ix5 b s h ⟨l / 64, by omega⟩ ⟨l % 64, by omega⟩) = if q : (l : ℕ) % 64 < 16 then val_main_v86 (F := Ideal) x0 x1 x2 x3 (ix5 b s h ⟨l / 64, by omega⟩ ⟨l % 64, q⟩)
      else val_main_v75 (F := Ideal) x0 x2 x3 (ix5 b s h ⟨l / 64, by omega⟩ ⟨l % 64 - 16, by omega⟩) := by
    pointwise [val_main_v87]
  rw [e, ← rope_of (fun y => val_main_v73 (F := Ideal) x0 x2 x3 (ix5 b s h ⟨l / 64, by omega⟩ y)) _ _ l]
  · split
    · exact r86 x0 x1 x2 x3 _ _ _ _ _
    · rw [r75]
      blk_ext
  · intro y l' hl
    have e' : (⟨h * 128 + (⟨l / 64, by omega⟩ : Fin 2) * 64 + y, by show h.val * 128 + l.val / 64 * 64 + y.val < 512; omega⟩ : Fin 512) = ⟨h * 128 + l', by omega⟩ := Fin.ext (by
      show h.val * 128 + l.val / 64 * 64 + y.val = h.val * 128 + l'.val
      omega)
    exact (r73 x0 x2 x3 b s h _ y).trans (congrArg (fun z => val_main_v44 (F := Ideal) x0 x2 x3 (ix3 b s z)) e')

theorem r99 (r : Fin 32768) (j : Fin 512) : val_main_v99 (F := Ideal) x0 x1 x2 x3 (ix2 r j)
    = rope (fun l => pr x0 x2 x3 r ⟨1552 + (j / 128 * 128 + l), by omega⟩)
      (cosL fun i => val_main_v15 (F := Ideal) x1 (ix3 ⟨r / 4096, by omega⟩ ⟨r % 4096, by omega⟩ i))
      (sinL fun i => val_main_v15 (F := Ideal) x1 (ix3 ⟨r / 4096, by omega⟩ ⟨r % 4096, by omega⟩ i)) ⟨j % 128, by omega⟩ * Ideal.ofBits .f32 0x3E000000#32 := by
  have h := r.isLt
  have e : val_main_v99 (F := Ideal) x0 x1 x2 x3 (ix2 r j) = val_main_v98 (F := Ideal) x0 x1 x2 x3 (ix2 r j) := rfl
  have e' : idx_main_v98 (ix2 r j) = ix5 ⟨r / 4096, by omega⟩ ⟨r % 4096, by omega⟩ ⟨j / 128, by omega⟩ ⟨j % 128 / 64, by omega⟩ ⟨j % 128 % 64, by omega⟩ := by
    blk_ext
  have f (l : Fin 128) : val_main_v43 (F := Ideal) x0 x2 x3 (ix3 ⟨r / 4096, by omega⟩ ⟨r % 4096, by omega⟩ ⟨j / 128 * 128 + l, by omega⟩) = pr x0 x2 x3 r ⟨1552 + (j / 128 * 128 + l), by omega⟩ :=
    (r43 x0 x2 x3 _ _ _).trans (r37r x0 x2 x3 r _)
  rw [e, val_main_v98_apply, e', ← funext f]
  exact congrArg (· * Ideal.ofBits .f32 0x3E000000#32) (r70 x0 x1 x2 x3 ⟨r / 4096, by omega⟩ ⟨r % 4096, by omega⟩ ⟨j / 128, by omega⟩ ⟨j % 128, by omega⟩)

theorem r101 (r : Fin 32768) (j : Fin 512) : val_main_v101 (F := Ideal) x0 x1 x2 x3 (ix2 r j)
    = rope (fun l => pr x0 x2 x3 r ⟨2064 + (j / 128 * 128 + l), by omega⟩)
      (cosL fun i => val_main_v15 (F := Ideal) x1 (ix3 ⟨r / 4096, by omega⟩ ⟨r % 4096, by omega⟩ i))
      (sinL fun i => val_main_v15 (F := Ideal) x1 (ix3 ⟨r / 4096, by omega⟩ ⟨r % 4096, by omega⟩ i)) ⟨j % 128, by omega⟩ := by
  have h := r.isLt
  have e : val_main_v101 (F := Ideal) x0 x1 x2 x3 (ix2 r j) = val_main_v100 (F := Ideal) x0 x1 x2 x3 (ix2 r j) := rfl
  have e' : idx_main_v100 (ix2 r j) = ix5 ⟨r / 4096, by omega⟩ ⟨r % 4096, by omega⟩ ⟨j / 128, by omega⟩ ⟨j % 128 / 64, by omega⟩ ⟨j % 128 % 64, by omega⟩ := by
    blk_ext
  have f (l : Fin 128) : val_main_v44 (F := Ideal) x0 x2 x3 (ix3 ⟨r / 4096, by omega⟩ ⟨r % 4096, by omega⟩ ⟨j / 128 * 128 + l, by omega⟩) = pr x0 x2 x3 r ⟨2064 + (j / 128 * 128 + l), by omega⟩ :=
    (r44 x0 x2 x3 _ _ _).trans (r37r x0 x2 x3 r _)
  rw [e, val_main_v100_apply, e', ← funext f]
  exact r87 x0 x1 x2 x3 ⟨r / 4096, by omega⟩ ⟨r % 4096, by omega⟩ ⟨j / 128, by omega⟩ ⟨j % 128, by omega⟩

end Cert.InProjRefIdeal.Mine
end
-- ==== Proof.InProjVal.lean ====
/- The results of the input projection, block by block. -/
module

public import proofs.«01_k».proof.Proof.InProjBlk
public import proofs.«01_k».proof.Proof.InProjRef
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.InProjIdeal.Mine
open Cert.InProjIdeal Cert.InProjIdeal.Gen Cert.Sums Cert.InProjRow
open Cert.InProjRefIdeal.Read

variable (m : (ℓ : Loc nD τ sig) → Buf (Elt Ideal) ℓ)

abbrev A0 (c : Dev nD) := m ((c : Thread nD τ).loc main_arg0)
abbrev A1 (c : Dev nD) := m ((c : Thread nD τ).loc main_arg1)
abbrev A2 (c : Dev nD) := m ((c : Thread nD τ).loc main_arg2)
abbrev A3 (c : Dev nD) := m ((c : Thread nD τ).loc main_arg3)
abbrev A4 (c : Dev nD) := m ((c : Thread nD τ).loc main_arg4)
abbrev A5 (c : Dev nD) := m ((c : Thread nD τ).loc main_arg5)

/-- The normed rows at grid point `t`. -/
def nrm (c : Dev nD) (t : Fin cfg0.N) : FVec Ideal S512x1024 .bf16 := k0_pay4 (iblk m c 0 t) (iblk m c 1 t)

theorem col (c : Dev nD) (t : Fin cfg0.N) (p : Fin 512) (j : Fin 3600) (W : Fin 1024 → EReal) (h : ∀ k, W k = A3 m c (ix3 0 k j)) :
    (∑ k, nrm m c t (ix2 p k) * W k) = pr (A0 m c) (A2 m c) (A3 m c) (row t p) j := by
  unfold pr prj
  refine Finset.sum_congr rfl fun k _ => congrArg₂ (· * ·) ?_ (h k)
  have e0 : (fun k => (iblk m c 0 t : FVec Ideal S512x1024 .f32) (ix2 p k)) = fun k => A0 m c (ix3 ⟨row t p / 4096, by omega⟩ ⟨row t p % 4096, by omega⟩ k) :=
    funext fun k => b0 m c t p k
  have e1 : (fun k => (iblk m c 1 t : FVec Ideal S1x1024 .f32) (ix2 0 k)) = fun k => A2 m c (ix2 0 k) := funext fun k => b1 m c t k
  refine (p4 (iblk m c 0 t) (iblk m c 1 t) p k).trans ?_
  rw [e0, e1]

/-- A projection through a slice of the first weight block. -/
theorem col2 (c : Dev nD) (t : Fin cfg0.N) (p : Fin 512) (j : Fin 3600) (j' : Fin 1536) (hj : (j : ℕ) = j') (W : Fin 1024 → EReal)
    (h : ∀ k, W k = (iblk m c 2 t : FVec Ideal S1024x1536 .bf16) (ix2 k j')) :
    (∑ k, nrm m c t (ix2 p k) * W k) = pr (A0 m c) (A2 m c) (A3 m c) (row t p) j := by
  have ej : j = ⟨j', by omega⟩ := Fin.ext hj
  rw [ej]
  exact col m c t p _ W fun k => (h k).trans (b2 m c t k j')

/-- A projection through a slice of the second weight block. -/
theorem col6 (c : Dev nD) (t : Fin cfg0.N) (p : Fin 512) (j : Fin 3600) (j' : Fin 2048) (hj : (j : ℕ) = 1552 + j') (W : Fin 1024 → EReal)
    (h : ∀ k, W k = (iblk m c 6 t : FVec Ideal S1024x2048 .bf16) (ix2 k j')) :
    (∑ k, nrm m c t (ix2 p k) * W k) = pr (A0 m c) (A2 m c) (A3 m c) (row t p) j := by
  have ej : j = ⟨1552 + j', by omega⟩ := Fin.ext hj
  rw [ej]
  exact col m c t p _ W fun k => (h k).trans (b6 m c t k j')

theorem nrm_eq (c : Dev nD) (t : Fin cfg0.N) : k0_pay23 (F := Ideal) (iblk m c 0 t) (iblk m c 1 t) (iblk m c 2 t) (iblk m c 3 t) (iblk m c 4 t)
    (iblk m c 5 t) (iblk m c 6 t) (iblk m c 7 t) (iblk m c 8 t) = nrm m c t := by
  have hz : (![0, 0] : Fin 2 → Nat) = fun _ => 0 := by decide
  unfold k0_pay23 nrm
  rw [View.ld_unit_zero (S := S512x1024) hz, View.ld_unit_zero (S := S1x1024) hz]

theorem o9 (c : Dev nD) (t : Fin cfg0.N) (p : Fin 512) (j : Fin 256) :
    k0_pay5 (iblk m c 0 t) (iblk m c 1 t) (View.ld (iblk m c 2 t) r0_2) (ix2 p j) = val_main_v90 (F := Ideal) (A0 m c) (A2 m c) (A3 m c) (ix2 (row t p) j) := by
  refine (p5 _ _ _ p j).trans ((congrArg (· * _) (col2 m c t p ⟨0 + j, by omega⟩ ⟨0 + j, by omega⟩ rfl _ fun k => ?_)).trans (Cert.InProjRefIdeal.Mine.r90 _ _ _ _ _).symm)
  pointwise
  blk_ext

theorem o10 (c : Dev nD) (t : Fin cfg0.N) (p : Fin 512) (j : Fin 256) :
    k0_pay6 (iblk m c 0 t) (iblk m c 1 t) (View.ld (iblk m c 2 t) r0_4) (ix2 p j) = val_main_v91 (F := Ideal) (A0 m c) (A2 m c) (A3 m c) (ix2 (row t p) j) := by
  refine (p6 _ _ _ p j).trans ((col2 m c t p ⟨256 + j, by omega⟩ ⟨256 + j, by omega⟩ rfl _ fun k => ?_).trans (Cert.InProjRefIdeal.Mine.r91 _ _ _ _ _).symm)
  pointwise
  blk_ext

theorem o11 (c : Dev nD) (t : Fin cfg0.N) (p : Fin 512) (j : Fin 512) :
    k0_pay7 (iblk m c 0 t) (iblk m c 1 t) (View.ld (iblk m c 2 t) r0_5) (ix2 p j) = val_main_v93 (F := Ideal) (A0 m c) (A2 m c) (A3 m c) (ix2 (row t p) j) := by
  refine (p7 _ _ _ p j).trans ((col2 m c t p ⟨512 + j, by omega⟩ ⟨512 + j, by omega⟩ rfl _ fun k => ?_).trans (Cert.InProjRefIdeal.Mine.r93 _ _ _ _ _).symm)
  pointwise
  blk_ext

theorem o12 (c : Dev nD) (t : Fin cfg0.N) (p : Fin 512) (j : Fin 512) :
    k0_pay8 (nrm m c t) (View.ld (iblk m c 2 t) r0_7) (ix2 p j) = val_main_v96 (F := Ideal) (A0 m c) (A2 m c) (A3 m c) (ix2 (row t p) j) := by
  refine (p8 _ _ p j).trans ((congrArg silu (col2 m c t p ⟨1024 + j, by omega⟩ ⟨1024 + j, by omega⟩ rfl _ fun k => ?_)).trans (Cert.InProjRefIdeal.Mine.r96 _ _ _ _ _).symm)
  pointwise
  blk_ext

theorem o16 (c : Dev nD) (t : Fin cfg0.N) (p : Fin 512) (j : Fin 512) :
    k0_pay2 (nrm m c t) (View.ld (iblk m c 6 t) r0_24) (ix2 p j) = val_main_v103 (F := Ideal) (A0 m c) (A2 m c) (A3 m c) (ix2 (row t p) j) := by
  refine (p2 _ _ p j).trans ((col6 m c t p ⟨2576 + j, by omega⟩ ⟨1024 + j, by omega⟩ (by simp only; omega) _ fun k => ?_).trans (Cert.InProjRefIdeal.Mine.r103 _ _ _ _ _).symm)
  pointwise
  blk_ext

theorem o17 (c : Dev nD) (t : Fin cfg0.N) (p : Fin 512) (j : Fin 512) :
    k0_pay3 (nrm m c t) (View.ld (iblk m c 6 t) r0_25) (ix2 p j) = val_main_v106 (F := Ideal) (A0 m c) (A2 m c) (A3 m c) (ix2 (row t p) j) := by
  refine (p3 _ _ p j).trans ((congrArg silu (col6 m c t p ⟨3088 + j, by omega⟩ ⟨1536 + j, by omega⟩ (by simp only; omega) _ fun k => ?_)).trans (Cert.InProjRefIdeal.Mine.r106 _ _ _ _ _).symm)
  pointwise
  blk_ext

/-- A sum over padded columns is the sum over the columns there are. -/
theorem cut16 (f : Fin 128 → EReal) (g : Fin 16 → EReal) (h : ∀ i : Fin 16, f ⟨i, by omega⟩ = g i) (h0 : ∀ i : Fin 128, ¬ (i : ℕ) < 16 → f i = 0) :
    ∑ i, f i = ∑ i, g i := by
  have e := Fin.sum_univ_add (a := 16) (b := 112) f
  refine e.trans ?_
  rw [Finset.sum_congr rfl fun (i : Fin 112) _ => h0 (Fin.natAdd 16 i) (by simp), Finset.sum_const_zero, add_zero]
  exact Finset.sum_congr rfl fun i _ => h i

theorem o13 (c : Dev nD) (t : Fin cfg0.N) (p : Fin 512) (j : Fin 256) :
    k0_pay9 (nrm m c t) (iblk m c 3 t) (iblk m c 4 t) (iblk m c 5 t) (ix2 p j)
      = val_main_v97 (F := Ideal) (A0 m c) (A2 m c) (A3 m c) (A4 m c) (A5 m c) (ix2 (row t p) j) := by
  refine (p9 _ _ _ _ p j).trans (Eq.trans (congrArg lsig (congrArg₂ (· + ·) (cut16 _ _ (fun i => ?_) fun i hi => ?_) (b5 m c t j)))
    (Cert.InProjRefIdeal.Mine.r97 _ _ _ _ _ _ _).symm)
  · refine congrArg₂ (· * ·) (col m c t p ⟨1536 + i, by omega⟩ _ fun k => ?_) ?_
    · rw [b3, dif_pos i.isLt]
    · rw [b4, dif_pos i.isLt]
  · rw [b4, dif_neg hi, mul_zero]

/-- The cosines the kernel reads at a row. -/
theorem cs (c : Dev nD) (t : Fin cfg0.N) (p : Fin 512) : (fun j => k0_pay24 (F := Ideal) (iblk m c 0 t) (iblk m c 1 t) (iblk m c 2 t) (iblk m c 3 t) (iblk m c 4 t)
    (iblk m c 5 t) (iblk m c 6 t) (iblk m c 7 t) (iblk m c 8 t) (ix2 p j))
    = cosL fun i => val_main_v15 (F := Ideal) (A1 m c) (ix3 ⟨row t p / 4096, by omega⟩ ⟨row t p % 4096, by omega⟩ i) := by
  have hz : (![0, 0] : Fin 2 → Nat) = fun _ => 0 := by decide
  funext j
  unfold k0_pay24
  rw [View.ld_unit_zero (S := S512x128) hz]
  exact (p10 _ p j).trans ((b7 m c t p j).trans (cos_at _ _ j))

/-- The sines the kernel reads at a row. -/
theorem sn (c : Dev nD) (t : Fin cfg0.N) (p : Fin 512) : (fun j => k0_pay25 (F := Ideal) (iblk m c 0 t) (iblk m c 1 t) (iblk m c 2 t) (iblk m c 3 t) (iblk m c 4 t)
    (iblk m c 5 t) (iblk m c 6 t) (iblk m c 7 t) (iblk m c 8 t) (ix2 p j))
    = sinL fun i => val_main_v15 (F := Ideal) (A1 m c) (ix3 ⟨row t p / 4096, by omega⟩ ⟨row t p % 4096, by omega⟩ i) := by
  have hz : (![0, 0] : Fin 2 → Nat) = fun _ => 0 := by decide
  funext j
  unfold k0_pay25
  rw [View.ld_unit_zero (S := S512x128) hz]
  exact (p11 _ p j).trans ((b8 m c t p j).trans (sin_at _ _ j))

/-- The cosines and sines as blocks. -/
def csB (c : Dev nD) (t : Fin cfg0.N) : FVec Ideal S512x128 .f32 := k0_pay24 (F := Ideal) (iblk m c 0 t) (iblk m c 1 t) (iblk m c 2 t) (iblk m c 3 t) (iblk m c 4 t)
    (iblk m c 5 t) (iblk m c 6 t) (iblk m c 7 t) (iblk m c 8 t)
def snB (c : Dev nD) (t : Fin cfg0.N) : FVec Ideal S512x128 .f32 := k0_pay25 (F := Ideal) (iblk m c 0 t) (iblk m c 1 t) (iblk m c 2 t) (iblk m c 3 t) (iblk m c 4 t)
    (iblk m c 5 t) (iblk m c 6 t) (iblk m c 7 t) (iblk m c 8 t)

theorem cut (n b : ℕ) (e : Fin 128) (h : n = b * 128 + e) : n / 128 = b ∧ n % 128 = e := by
  have := e.isLt
  constructor <;> omega

theorem o14 (c : Dev nD) (t : Fin cfg0.N) (i : S512x512.Idx) (p : Fin 512) (b : ℕ) (e : Fin 128) (hb : b < 4) (h0 : (i 0 : ℕ) = p) (h1 : (i 1 : ℕ) = b * 128 + e)
    (W : Vec Ideal S1024x128 .bf16) (hW : ∀ (k : Fin 1024) (l : Fin 128), W (ix2 k l) = (iblk m c 6 t : FVec Ideal S1024x2048 .bf16) (ix2 k ⟨b * 128 + l, by omega⟩)) :
    k0_pay19 (csB m c t) (snB m c t) k0_pay12 (k0_pay14 (nrm m c t) W) 120#32 (ix2 p e)
      = val_main_v99 (F := Ideal) (A0 m c) (A1 m c) (A2 m c) (A3 m c) (ix2 (row t (i 0)) (i 1)) := by
  have e0 : i 0 = p := Fin.ext h0
  rw [e0]
  refine (p19 _ _ _ p e).trans (Eq.trans ?_ (Cert.InProjRefIdeal.Mine.r99 _ _ _ _ _ _).symm)
  have a := cut _ _ _ h1
  have ee : ∀ h', (⟨(i 1 : ℕ) % 128, h'⟩ : Fin 128) = e := fun _ => Fin.ext a.2
  refine congrArg (· * _) ?_
  rw [ee, ← cs m c t p, ← sn m c t p]
  refine congrArg (fun v => rope v _ _ e) (funext fun l => (p14 _ W p l).trans ?_)
  refine col6 m c t p _ ⟨b * 128 + l, by omega⟩ ?_ _ fun k => hW k l
  simp only [a.1]

theorem o15 (c : Dev nD) (t : Fin cfg0.N) (i : S512x512.Idx) (p : Fin 512) (b : ℕ) (e : Fin 128) (hb : b < 4) (h0 : (i 0 : ℕ) = p) (h1 : (i 1 : ℕ) = b * 128 + e)
    (W : Vec Ideal S1024x128 .bf16) (hW : ∀ (k : Fin 1024) (l : Fin 128), W (ix2 k l) = (iblk m c 6 t : FVec Ideal S1024x2048 .bf16) (ix2 k ⟨512 + (b * 128 + l), by omega⟩)) :
    k0_pay15 (csB m c t) (snB m c t) k0_pay12 (k0_pay14 (nrm m c t) W) 120#32 (ix2 p e)
      = val_main_v101 (F := Ideal) (A0 m c) (A1 m c) (A2 m c) (A3 m c) (ix2 (row t (i 0)) (i 1)) := by
  have e0 : i 0 = p := Fin.ext h0
  rw [e0]
  refine (p15 _ _ _ p e).trans (Eq.trans ?_ (Cert.InProjRefIdeal.Mine.r101 _ _ _ _ _ _).symm)
  have a := cut _ _ _ h1
  have ee : ∀ h', (⟨(i 1 : ℕ) % 128, h'⟩ : Fin 128) = e := fun _ => Fin.ext a.2
  rw [ee, ← cs m c t p, ← sn m c t p]
  refine congrArg (fun v => rope v _ _ e) (funext fun l => (p14 _ W p l).trans ?_)
  refine col6 m c t p _ ⟨512 + (b * 128 + l), by omega⟩ ?_ _ fun k => hW k l
  simp only [a.1]
  omega

theorem final9 (c : Dev nD) : (dats m 0 c).arrAt 9 (cfgs 0).N = val_main_v90 (F := Ideal) (A0 m c) (A2 m c) (A3 m c) := by
  refine (dats m 0 c).arrAt_eq_of_covers 9 _ (by decide +kernel) fun t _ y => ?_
  blk_simp
  rw [after0_9]
  frame_out
  have q := lt64 t
  obtain ⟨p, j, rfl⟩ : ∃ (p : Fin 512) (j : Fin 256), y = ix2 p j := ⟨y 0, y 1, eq_ix2 y⟩
  have ej : (win0_9.blk t).view.emb (ix2 p j) = ix2 (row t p) j := by
    blk_ext [idx t]
    rfl
  exact (o9 m c t p j).trans (congrArg _ ej).symm

theorem final10 (c : Dev nD) : (dats m 0 c).arrAt 10 (cfgs 0).N = val_main_v91 (F := Ideal) (A0 m c) (A2 m c) (A3 m c) := by
  refine (dats m 0 c).arrAt_eq_of_covers 10 _ (by decide +kernel) fun t _ y => ?_
  blk_simp
  rw [after0_10]
  frame_out
  have q := lt64 t
  obtain ⟨p, j, rfl⟩ : ∃ (p : Fin 512) (j : Fin 256), y = ix2 p j := ⟨y 0, y 1, eq_ix2 y⟩
  have ej : (win0_10.blk t).view.emb (ix2 p j) = ix2 (row t p) j := by
    blk_ext [idx t]
    rfl
  exact (o10 m c t p j).trans (congrArg _ ej).symm

theorem final11 (c : Dev nD) : (dats m 0 c).arrAt 11 (cfgs 0).N = val_main_v93 (F := Ideal) (A0 m c) (A2 m c) (A3 m c) := by
  refine (dats m 0 c).arrAt_eq_of_covers 11 _ (by decide +kernel) fun t _ y => ?_
  blk_simp
  rw [after0_11]
  frame_out
  have q := lt64 t
  obtain ⟨p, j, rfl⟩ : ∃ (p : Fin 512) (j : Fin 512), y = ix2 p j := ⟨y 0, y 1, eq_ix2 y⟩
  have ej : (win0_11.blk t).view.emb (ix2 p j) = ix2 (row t p) j := by
    blk_ext [idx t]
    rfl
  exact (o11 m c t p j).trans (congrArg _ ej).symm

theorem final12 (c : Dev nD) : (dats m 0 c).arrAt 12 (cfgs 0).N = val_main_v96 (F := Ideal) (A0 m c) (A2 m c) (A3 m c) := by
  refine (dats m 0 c).arrAt_eq_of_covers 12 _ (by decide +kernel) fun t _ y => ?_
  blk_simp
  rw [after0_12]
  frame_out
  rw [nrm_eq]
  have q := lt64 t
  obtain ⟨p, j, rfl⟩ : ∃ (p : Fin 512) (j : Fin 512), y = ix2 p j := ⟨y 0, y 1, eq_ix2 y⟩
  have ej : (win0_12.blk t).view.emb (ix2 p j) = ix2 (row t p) j := by
    blk_ext [idx t]
    rfl
  exact (o12 m c t p j).trans (congrArg _ ej).symm

theorem final13 (c : Dev nD) : (dats m 0 c).arrAt 13 (cfgs 0).N = val_main_v97 (F := Ideal) (A0 m c) (A2 m c) (A3 m c) (A4 m c) (A5 m c) := by
  refine (dats m 0 c).arrAt_eq_of_covers 13 _ (by decide +kernel) fun t _ y => ?_
  blk_simp
  rw [after0_13]
  frame_out
  rw [nrm_eq]
  have q := lt64 t
  obtain ⟨p, j, rfl⟩ : ∃ (p : Fin 512) (j : Fin 256), y = ix2 p j := ⟨y 0, y 1, eq_ix2 y⟩
  have ej : (win0_13.blk t).view.emb (ix2 p j) = ix2 (row t p) j := by
    blk_ext [idx t]
    rfl
  exact (o13 m c t p j).trans (congrArg _ ej).symm

theorem final16 (c : Dev nD) : (dats m 0 c).arrAt 16 (cfgs 0).N = val_main_v103 (F := Ideal) (A0 m c) (A2 m c) (A3 m c) := by
  refine (dats m 0 c).arrAt_eq_of_covers 16 _ (by decide +kernel) fun t _ y => ?_
  blk_simp
  rw [after0_16]
  frame_out
  rw [nrm_eq]
  have q := lt64 t
  obtain ⟨p, j, rfl⟩ : ∃ (p : Fin 512) (j : Fin 512), y = ix2 p j := ⟨y 0, y 1, eq_ix2 y⟩
  have ej : (win0_16.blk t).view.emb (ix2 p j) = ix2 (row t p) j := by
    blk_ext [idx t]
    rfl
  exact (o16 m c t p j).trans (congrArg _ ej).symm

theorem final17 (c : Dev nD) : (dats m 0 c).arrAt 17 (cfgs 0).N = val_main_v106 (F := Ideal) (A0 m c) (A2 m c) (A3 m c) := by
  refine (dats m 0 c).arrAt_eq_of_covers 17 _ (by decide +kernel) fun t _ y => ?_
  blk_simp
  rw [after0_17]
  frame_out
  rw [nrm_eq]
  have q := lt64 t
  obtain ⟨p, j, rfl⟩ : ∃ (p : Fin 512) (j : Fin 512), y = ix2 p j := ⟨y 0, y 1, eq_ix2 y⟩
  have ej : (win0_17.blk t).view.emb (ix2 p j) = ix2 (row t p) j := by
    blk_ext [idx t]
    rfl
  exact (o17 m c t p j).trans (congrArg _ ej).symm

theorem final14 (c : Dev nD) : (dats m 0 c).arrAt 14 (cfgs 0).N = val_main_v99 (F := Ideal) (A0 m c) (A1 m c) (A2 m c) (A3 m c) := by
  refine (dats m 0 c).arrAt_eq_of_covers 14 _ (by decide +kernel) fun t _ i => ?_
  blk_simp
  rw [after0_14]
  have q := lt64 t
  have ej : (win0_14.blk t).view.emb i = ix2 (row t (i 0)) (i 1) := by
    blk_ext [idx t]
    rfl
  rw [ej]
  unfold out0_14
  canon_tiles x h
  · obtain ⟨p, e, rfl⟩ : ∃ (p : Fin 512) (e : Fin 128), x = ix2 p e := ⟨x 0, x 1, eq_ix2 x⟩
    refine Eq.trans ?_ (o14 m c t i p 3 e (by omega) h0 h1 (View.ld (iblk m c 6 t) (Rect.unit (s := S1024x2048) ![0, 384] S1024x128.size inb_S1024x2048_S1024x128_0_384)) fun k l => ?_)
    · rw [← nrm_eq]
      rfl
    · pointwise
      blk_ext
  · obtain ⟨p, e, rfl⟩ : ∃ (p : Fin 512) (e : Fin 128), x = ix2 p e := ⟨x 0, x 1, eq_ix2 x⟩
    refine Eq.trans ?_ (o14 m c t i p 2 e (by omega) h0 h1 (View.ld (iblk m c 6 t) (Rect.unit (s := S1024x2048) ![0, 256] S1024x128.size inb_S1024x2048_S1024x128_0_256)) fun k l => ?_)
    · rw [← nrm_eq]
      rfl
    · pointwise
      blk_ext
  · obtain ⟨p, e, rfl⟩ : ∃ (p : Fin 512) (e : Fin 128), x = ix2 p e := ⟨x 0, x 1, eq_ix2 x⟩
    refine Eq.trans ?_ (o14 m c t i p 1 e (by omega) h0 h1 (View.ld (iblk m c 6 t) (Rect.unit (s := S1024x2048) ![0, 128] S1024x128.size inb_S1024x2048_S1024x128_0_128)) fun k l => ?_)
    · rw [← nrm_eq]
      rfl
    · pointwise
      blk_ext
  · obtain ⟨p, e, rfl⟩ : ∃ (p : Fin 512) (e : Fin 128), x = ix2 p e := ⟨x 0, x 1, eq_ix2 x⟩
    refine Eq.trans ?_ (o14 m c t i p 0 e (by omega) h0 (h1.trans (Nat.zero_add _).symm) (View.ld (iblk m c 6 t) (Rect.unit (s := S1024x2048) ![0, 0] S1024x128.size inb_S1024x2048_S1024x128_0_0)) fun k l => ?_)
    · rw [← nrm_eq]
      rfl
    · pointwise
      blk_ext

theorem final15 (c : Dev nD) : (dats m 0 c).arrAt 15 (cfgs 0).N = val_main_v101 (F := Ideal) (A0 m c) (A1 m c) (A2 m c) (A3 m c) := by
  refine (dats m 0 c).arrAt_eq_of_covers 15 _ (by decide +kernel) fun t _ i => ?_
  blk_simp
  rw [after0_15]
  have q := lt64 t
  have ej : (win0_15.blk t).view.emb i = ix2 (row t (i 0)) (i 1) := by
    blk_ext [idx t]
    rfl
  rw [ej]
  unfold out0_15
  canon_tiles x h
  · obtain ⟨p, e, rfl⟩ : ∃ (p : Fin 512) (e : Fin 128), x = ix2 p e := ⟨x 0, x 1, eq_ix2 x⟩
    refine Eq.trans ?_ (o15 m c t i p 3 e (by omega) h0 h1 (View.ld (iblk m c 6 t) (Rect.unit (s := S1024x2048) ![0, 896] S1024x128.size inb_S1024x2048_S1024x128_0_896)) fun k l => ?_)
    · rw [← nrm_eq]
      rfl
    · pointwise
      blk_ext
  · obtain ⟨p, e, rfl⟩ : ∃ (p : Fin 512) (e : Fin 128), x = ix2 p e := ⟨x 0, x 1, eq_ix2 x⟩
    refine Eq.trans ?_ (o15 m c t i p 2 e (by omega) h0 h1 (View.ld (iblk m c 6 t) (Rect.unit (s := S1024x2048) ![0, 768] S1024x128.size inb_S1024x2048_S1024x128_0_768)) fun k l => ?_)
    · rw [← nrm_eq]
      rfl
    · pointwise
      blk_ext
  · obtain ⟨p, e, rfl⟩ : ∃ (p : Fin 512) (e : Fin 128), x = ix2 p e := ⟨x 0, x 1, eq_ix2 x⟩
    refine Eq.trans ?_ (o15 m c t i p 1 e (by omega) h0 h1 (View.ld (iblk m c 6 t) (Rect.unit (s := S1024x2048) ![0, 640] S1024x128.size inb_S1024x2048_S1024x128_0_640)) fun k l => ?_)
    · rw [← nrm_eq]
      rfl
    · pointwise
      blk_ext
  · obtain ⟨p, e, rfl⟩ : ∃ (p : Fin 512) (e : Fin 128), x = ix2 p e := ⟨x 0, x 1, eq_ix2 x⟩
    refine Eq.trans ?_ (o15 m c t i p 0 e (by omega) h0 (h1.trans (Nat.zero_add _).symm) (View.ld (iblk m c 6 t) (Rect.unit (s := S1024x2048) ![0, 512] S1024x128.size inb_S1024x2048_S1024x128_0_512)) fun k l => ?_)
    · rw [← nrm_eq]
      rfl
    · pointwise
      blk_ext

end Cert.InProjIdeal.Mine
end
-- ==== Proof.InProjClaim.lean ====
/- The call of the input projection: the kernel and its reference leave the same nine arrays. -/
module

public import proofs.«01_k».proof.Defs
public import proofs.«01_k».proof.Proof.InProjVal

@[expose] public section

set_option maxRecDepth 16384

noncomputable section

open Idealize.ShloMosaic Idealize.ShloMosaic.TcCoe Idealize.SL.Sem
open Idealize.ShloMosaic.Pipeline (Dat)
open scoped BigOperators

namespace Cert.Proof

set_option maxHeartbeats 4000000 in
theorem value_InProj : Cert.algebraic_InProjIdeal_InProjRefIdeal := by
  intro m g m' g' hpre hagree
  refine ⟨fun c => (Cert.InProjIdeal.Gen.dats m 0 c).arrAt 9 _, fun c => (Cert.InProjIdeal.Gen.dats m 0 c).arrAt 10 _, fun c => (Cert.InProjIdeal.Gen.dats m 0 c).arrAt 11 _, fun c => (Cert.InProjIdeal.Gen.dats m 0 c).arrAt 12 _, fun c => (Cert.InProjIdeal.Gen.dats m 0 c).arrAt 13 _, fun c => (Cert.InProjIdeal.Gen.dats m 0 c).arrAt 14 _, fun c => (Cert.InProjIdeal.Gen.dats m 0 c).arrAt 15 _, fun c => (Cert.InProjIdeal.Gen.dats m 0 c).arrAt 16 _, fun c => (Cert.InProjIdeal.Gen.dats m 0 c).arrAt 17 _, Cert.InProjIdeal.Value.run_blocks m g, ?_⟩
  refine (θ_run Cert.InProjRefIdeal.defs _ _).mono (fun r h c => ?_) (Cert.InProjRefIdeal.Value.run (F := Ideal) m' g')
  obtain ⟨h0, h1, h2, h3, h4, h5⟩ := hagree c
  have q := h c
  obtain ⟨q0, q1, q2, q3, q4, q5, q6, q7, q8, qr⟩ := q
  refine ⟨q0.trans ?_, q1.trans ?_, q2.trans ?_, q3.trans ?_, q4.trans ?_, q5.trans ?_, q6.trans ?_, q7.trans ?_, q8.trans ?_, qr⟩
  · refine (Cert.InProjRefIdeal.Read.val_main_v90_eq _ _ _).trans (Eq.trans ?_ (Cert.InProjIdeal.Mine.final9 m c).symm)
    rw [h0, h2, h3]
  · refine (Cert.InProjRefIdeal.Read.val_main_v91_eq _ _ _).trans (Eq.trans ?_ (Cert.InProjIdeal.Mine.final10 m c).symm)
    rw [h0, h2, h3]
  · refine (Cert.InProjRefIdeal.Read.val_main_v93_eq _ _ _).trans (Eq.trans ?_ (Cert.InProjIdeal.Mine.final11 m c).symm)
    rw [h0, h2, h3]
  · refine (Cert.InProjRefIdeal.Read.val_main_v96_eq _ _ _).trans (Eq.trans ?_ (Cert.InProjIdeal.Mine.final12 m c).symm)
    rw [h0, h2, h3]
  · refine (Cert.InProjRefIdeal.Read.val_main_v97_eq _ _).trans (Eq.trans ?_ (Cert.InProjIdeal.Mine.final13 m c).symm)
    rw [h0, h2, h3, h4, h5]
  · refine (Cert.InProjRefIdeal.Read.val_main_v99_eq _ _).trans (Eq.trans ?_ (Cert.InProjIdeal.Mine.final14 m c).symm)
    rw [h0, h1, h2, h3]
  · refine (Cert.InProjRefIdeal.Read.val_main_v101_eq _ _).trans (Eq.trans ?_ (Cert.InProjIdeal.Mine.final15 m c).symm)
    rw [h0, h1, h2, h3]
  · refine (Cert.InProjRefIdeal.Read.val_main_v103_eq _ _ _).trans (Eq.trans ?_ (Cert.InProjIdeal.Mine.final16 m c).symm)
    rw [h0, h2, h3]
  · refine (Cert.InProjRefIdeal.Read.val_main_v106_eq _ _ _).trans (Eq.trans ?_ (Cert.InProjIdeal.Mine.final17 m c).symm)
    rw [h0, h2, h3]

end Cert.Proof

end
-- ==== Proof.lean ====
/- The claim: every frame, and the value claims of the calls proved. -/
module

public import proofs.«01_k».proof.Defs
public import proofs.«01_k».proof.Proof.Frames
public import proofs.«01_k».proof.Proof.MemKvClaim
public import proofs.«01_k».proof.Proof.OutCrossClaim
public import proofs.«01_k».proof.Proof.AttnClaim
public import proofs.«01_k».proof.Proof.InProjClaim

@[expose] public section

set_option maxRecDepth 16384

noncomputable section

open Idealize.ShloMosaic Idealize.ShloMosaic.TcCoe Idealize.SL.Sem
open Idealize.ShloMosaic.Pipeline (Dat)
open scoped BigOperators

namespace Cert.Proof

theorem claim : Cert.Claim := ⟨Cert.Attn.Gen.facts, Cert.AttnIdeal.Gen.facts, Cert.AttnRefIdeal.Gen.facts, Cert.MemKv.Gen.facts, Cert.MemKvIdeal.Gen.facts, Cert.MemKvRefIdeal.Gen.facts, Cert.OutCross.Gen.facts, Cert.OutCrossIdeal.Gen.facts, Cert.OutCrossRefIdeal.Gen.facts, Cert.InProj.Gen.facts, Cert.InProjIdeal.Gen.facts, Cert.InProjRefIdeal.Gen.facts, Cert.Gla.Gen.facts, Cert.GlaIdeal.Gen.facts, facts_attn_finite,
  frame_Attn, frame_AttnIdeal, frame_AttnIdeal_finite, frame_AttnRefIdeal, frame_AttnRefIdeal_finite, frame_MemKv, frame_MemKvIdeal, frame_MemKvRefIdeal, frame_OutCross, frame_OutCrossIdeal, frame_OutCrossRefIdeal, frame_InProj, frame_InProjIdeal, frame_InProjRefIdeal, frame_Gla, frame_GlaIdeal,
  kept_Attn, value_Attn, kept_MemKv, value_MemKv, kept_OutCross, value_OutCross, kept_InProj, value_InProj, kept_Gla⟩

end Cert.Proof

end
